-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x64x64 : S_.BroadcastsInDim S2x512x64x64 (![] : Fin 0 → Fin S2x512x64x64.rank)

variable [Facts]

def fn {F : FTy → Type} [FloatOps F] (main_arg0 : FVec F S2x512x768 .f32) (main_arg1 : FVec F S768x512 .f32) (main_arg2 : FVec F S2x512x64x64 .f32) (main_arg3 : FVec F S2x512x64x64 .f32) (main_arg4 : FVec F S512x768 .f32) : IVec S2x512x768 1 × IVec S768x512 1 × IVec S2x512x64x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x512x64x64 .f32 := Host.absf main_arg2
  let main_cst_1 : FVec F S_ .f32 := constant S_ .f32 0x7F800000#32
  let main_v7 : FVec F S2x512x64x64 .f32 := broadcastInDim S2x512x64x64 ![] bcast_S_S2x512x64x64 main_cst_1
  let main_v8 : IVec S2x512x64x64 1 := cmpf .olt main_v6 main_v7
  (main_v2, main_v5, main_v8)
-- ==== Pre_finite_ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S_ : Shape := ⟨0, ![]⟩

class Facts : Prop where
  bcast_S_S2x512x768 : S_.BroadcastsInDim S2x512x768 (![] : Fin 0 → Fin S2x512x768.rank)
  bcast_S_S768x4096 : S_.BroadcastsInDim S768x4096 (![] : Fin 0 → Fin S768x4096.rank)
  bcast_S_S2x512x64x64 : S_.BroadcastsInDim S2x512x64x64 (![] : Fin 0 → Fin S2x512x64x64.rank)

variable [Facts]

def fn {F : FTy → Type} [FloatOps F] (main_arg0 : FVec F S2x512x768 .f32) (main_arg1 : FVec F S768x4096 .f32) (main_arg2 : FVec F S2x512x64x64 .f32) (main_arg3 : FVec F S2x512x64x64 .f32) (main_arg4 : FVec F S4096x768 .f32) : IVec S2x512x768 1 × IVec S768x4096 1 × IVec S2x512x64x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x4096 .f32 := Host.absf main_arg1
  let main_cst_0 : FVec F S_ .f32 := constant S_ .f32 0x7F800000#32
  let main_v4 : FVec F S768x4096 .f32 := broadcastInDim S768x4096 ![] bcast_S_S768x4096 main_cst_0
  let main_v5 : IVec S768x4096 1 := cmpf .olt main_v3 main_v4
  let main_v6 : FVec F S2x512x64x64 .f32 := Host.absf main_arg2
  let main_cst_1 : FVec F S_ .f32 := constant S_ .f32 0x7F800000#32
  let main_v7 : FVec F S2x512x64x64 .f32 := broadcastInDim S2x512x64x64 ![] bcast_S_S2x512x64x64 main_cst_1
  let main_v8 : IVec S2x512x64x64 1 := cmpf .olt main_v6 main_v7
  (main_v2, main_v5, main_v8)
-- ==== Kernel.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S_ : Shape := ⟨0, ![]⟩
abbrev S2x512x4096 : Shape := ⟨3, ![2, 512, 4096]⟩
abbrev S2x512x512 : Shape := ⟨3, ![2, 512, 512]⟩
abbrev S3x1024x256 : Shape := ⟨3, ![3, 1024, 256]⟩
abbrev S3x1536x256 : Shape := ⟨3, ![3, 1536, 256]⟩
abbrev S512x512 : Shape := ⟨2, ![512, 512]⟩
abbrev S12 : Shape := ⟨1, ![12]⟩
abbrev S1024x768 : Shape := ⟨2, ![1024, 768]⟩
abbrev S1024x512 : Shape := ⟨2, ![1024, 512]⟩
abbrev S512x64 : Shape := ⟨2, ![512, 64]⟩
abbrev S1x64x512 : Shape := ⟨3, ![1, 64, 512]⟩
abbrev S64x512 : Shape := ⟨2, ![64, 512]⟩
abbrev S1x512x64 : Shape := ⟨3, ![1, 512, 64]⟩
abbrev S512 : Shape := ⟨1, ![512]⟩
abbrev S512x1 : Shape := ⟨2, ![512, 1]⟩
abbrev S512x256 : Shape := ⟨2, ![512, 256]⟩
abbrev S1x512x256 : Shape := ⟨3, ![1, 512, 256]⟩
abbrev S1 : Shape := ⟨1, ![1]⟩
abbrev S1x1024x256 : Shape := ⟨3, ![1, 1024, 256]⟩
abbrev S1024x256 : Shape := ⟨2, ![1024, 256]⟩
abbrev S2x512x256 : Shape := ⟨3, ![2, 512, 256]⟩

abbrev nBuf : Space → Nat
  | .hbm => 35
  | .vmem => 9
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x64x64, .f32⟩
  | .hbm, ⟨3, _⟩ => ⟨S2x512x64x64, .f32⟩
  | .hbm, ⟨4, _⟩ => ⟨S512x768, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2x512x4096, .f32⟩
  | .hbm, ⟨12, _⟩ => ⟨S2x512x4096, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2x512x512, .f32⟩
  | .hbm, ⟨23, _⟩ => ⟨S2x512x512, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2x512x512, .f32⟩
  | .hbm, ⟨34, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S2x512x512, .f32⟩
  | .local _ .vmem, ⟨3, _⟩ => ⟨S2x512x512, .f32⟩
  | .local _ .vmem, ⟨4, _⟩ => ⟨S512x768, .f32⟩
  | .local _ .vmem, ⟨5, _⟩ => ⟨S2x512x768, .f32⟩
  | .local _ .vmem, ⟨6, _⟩ => ⟨S3x1024x256, .bf16⟩
  | .local _ .vmem, ⟨7, _⟩ => ⟨S3x1536x256, .bf16⟩
  | .local _ .vmem, ⟨8, _⟩ => ⟨S512x512, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_v11 : Ref sig .tc := ⟨.hbm, 22, rfl⟩
abbrev main_v12 : Ref sig .tc := ⟨.hbm, 23, rfl⟩
abbrev main_c_6 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_c_9 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) : Fin 3 → Nat :=
  let c0_i32_238 : BitVec 32 := 0#32
  let c1_i32_229 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_225 : BitVec 32 := 1#32
  let v359 : BitVec 32 := Scalar.andi v2 c1_i32_225
  let c1_i32_226 : BitVec 32 := 1#32
  let v360 : BitVec 32 := Scalar.shrui v2 c1_i32_226
  let c1_i32_227 : BitVec 32 := 1#32
  let v361 : BitVec 32 := Scalar.andi v360 c1_i32_227
  let v364 : BitVec 32 := Scalar.xori v359 v361
  let v366 : BitVec 32 := Scalar.subi c1_i32_229 v364
  let c512_i32_230 : BitVec 32 := 512#32
  let v367 : BitVec 32 := Scalar.muli v366 c512_i32_230
  let c0_i32_246 : BitVec 32 := 0#32
  ![0, v367.toNat, 0]
def k0_dev4 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_237 : BitVec 32 := 1#32
  let v374 : BitVec 32 := Scalar.xori v2 c1_i32_237
  let c1_i32_242 : BitVec 32 := 1#32
  let v375 : BitVec 32 := Scalar.muli v374 c1_i32_242
  let v376 : BitVec 32 := Scalar.addi c0_i32_243 v375
  v376.toNat
def k0_off2 (d0 : Dev nD) : Fin 3 → Nat :=
  let c1_i32_248 : BitVec 32 := 1#32
  let c1_i32_232 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_226 : BitVec 32 := 1#32
  let v360 : BitVec 32 := Scalar.shrui v2 c1_i32_226
  let c1_i32_227 : BitVec 32 := 1#32
  let v361 : BitVec 32 := Scalar.andi v360 c1_i32_227
  let v369 : BitVec 32 := Scalar.subi c1_i32_232 v361
  let c512_i32_233 : BitVec 32 := 512#32
  let v370 : BitVec 32 := Scalar.muli v369 c512_i32_233
  let c0_i32_256 : BitVec 32 := 0#32
  ![1, v370.toNat, 0]
def k0_dev5 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_247 : BitVec 32 := 3#32
  let v385 : BitVec 32 := Scalar.xori v2 c3_i32_247
  let c1_i32_252 : BitVec 32 := 1#32
  let v386 : BitVec 32 := Scalar.muli v385 c1_i32_252
  let v387 : BitVec 32 := Scalar.addi c0_i32_253 v386
  v387.toNat
def k0_off3 (d0 : Dev nD) : Fin 3 → Nat :=
  let c2_i32_258 : BitVec 32 := 2#32
  let c1_i32_235 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v362 : BitVec 32 := Scalar.shrui v2 c2_i32
  let c1_i32_228 : BitVec 32 := 1#32
  let v363 : BitVec 32 := Scalar.andi v362 c1_i32_228
  let v372 : BitVec 32 := Scalar.subi c1_i32_235 v363
  let c512_i32_236 : BitVec 32 := 512#32
  let v373 : BitVec 32 := Scalar.muli v372 c512_i32_236
  let c0_i32_266 : BitVec 32 := 0#32
  ![2, v373.toNat, 0]
def k0_dev6 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_257 : BitVec 32 := 4#32
  let v396 : BitVec 32 := Scalar.xori v2 c4_i32_257
  let c1_i32_262 : BitVec 32 := 1#32
  let v397 : BitVec 32 := Scalar.muli v396 c1_i32_262
  let v398 : BitVec 32 := Scalar.addi c0_i32_263 v397
  v398.toNat
def k0_off4 (d0 : Dev nD) : Fin 3 → Nat :=
  let c0_284 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_225 : BitVec 32 := 1#32
  let v359 : BitVec 32 := Scalar.andi v2 c1_i32_225
  let c1_i32_226 : BitVec 32 := 1#32
  let v360 : BitVec 32 := Scalar.shrui v2 c1_i32_226
  let c1_i32_227 : BitVec 32 := 1#32
  let v361 : BitVec 32 := Scalar.andi v360 c1_i32_227
  let v364 : BitVec 32 := Scalar.xori v359 v361
  let c512_i32 : BitVec 32 := 512#32
  let v365 : BitVec 32 := Scalar.muli v364 c512_i32
  let v421 : Index := Scalar.indexCast v365
  let c0_285 : Index := 0#32
  ![0, v421.toNat, 0]
def k0_off5 (d0 : Dev nD) : Fin 3 → Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_225 : BitVec 32 := 1#32
  let v359 : BitVec 32 := Scalar.andi v2 c1_i32_225
  let c1_i32_226 : BitVec 32 := 1#32
  let v360 : BitVec 32 := Scalar.shrui v2 c1_i32_226
  let c1_i32_227 : BitVec 32 := 1#32
  let v361 : BitVec 32 := Scalar.andi v360 c1_i32_227
  let v364 : BitVec 32 := Scalar.xori v359 v361
  let c512_i32 : BitVec 32 := 512#32
  let v365 : BitVec 32 := Scalar.muli v364 c512_i32
  let c0_i32_300 : BitVec 32 := 0#32
  ![0, v365.toNat, 0]
def k0_dev7 (d0 : Dev nD) : Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_291 : BitVec 32 := 3#32
  let v431 : BitVec 32 := Scalar.xori v2 c3_i32_291
  let c1_i32_296 : BitVec 32 := 1#32
  let v432 : BitVec 32 := Scalar.muli v431 c1_i32_296
  let v433 : BitVec 32 := Scalar.addi c0_i32_297 v432
  v433.toNat
def k0_off6 (d0 : Dev nD) : Fin 3 → Nat :=
  let c1_318 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_226 : BitVec 32 := 1#32
  let v360 : BitVec 32 := Scalar.shrui v2 c1_i32_226
  let c1_i32_227 : BitVec 32 := 1#32
  let v361 : BitVec 32 := Scalar.andi v360 c1_i32_227
  let c512_i32_231 : BitVec 32 := 512#32
  let v368 : BitVec 32 := Scalar.muli v361 c512_i32_231
  let v456 : Index := Scalar.indexCast v368
  let c0_319 : Index := 0#32
  ![1, v456.toNat, 0]
def k0_off7 (d0 : Dev nD) : Fin 3 → Nat :=
  let c1_i32_326 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_226 : BitVec 32 := 1#32
  let v360 : BitVec 32 := Scalar.shrui v2 c1_i32_226
  let c1_i32_227 : BitVec 32 := 1#32
  let v361 : BitVec 32 := Scalar.andi v360 c1_i32_227
  let c512_i32_231 : BitVec 32 := 512#32
  let v368 : BitVec 32 := Scalar.muli v361 c512_i32_231
  let c0_i32_333 : BitVec 32 := 0#32
  ![1, v368.toNat, 0]
def k0_dev8 (d0 : Dev nD) : Nat :=
  let c0_i32_330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_325 : BitVec 32 := 4#32
  let v466 : BitVec 32 := Scalar.xori v2 c4_i32_325
  let c1_i32_329 : BitVec 32 := 1#32
  let v467 : BitVec 32 := Scalar.muli v466 c1_i32_329
  let v468 : BitVec 32 := Scalar.addi c0_i32_330 v467
  v468.toNat
def k0_off8 (d0 : Dev nD) : Fin 3 → Nat :=
  let c2_351 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v362 : BitVec 32 := Scalar.shrui v2 c2_i32
  let c1_i32_228 : BitVec 32 := 1#32
  let v363 : BitVec 32 := Scalar.andi v362 c1_i32_228
  let c512_i32_234 : BitVec 32 := 512#32
  let v371 : BitVec 32 := Scalar.muli v363 c512_i32_234
  let v491 : Index := Scalar.indexCast v371
  let c0_352 : Index := 0#32
  ![2, v491.toNat, 0]
def k0_off9 (d0 : Dev nD) : Fin 3 → Nat :=
  let c2_i32_359 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v362 : BitVec 32 := Scalar.shrui v2 c2_i32
  let c1_i32_228 : BitVec 32 := 1#32
  let v363 : BitVec 32 := Scalar.andi v362 c1_i32_228
  let c512_i32_234 : BitVec 32 := 512#32
  let v371 : BitVec 32 := Scalar.muli v363 c512_i32_234
  let c0_i32_366 : BitVec 32 := 0#32
  ![2, v371.toNat, 0]
def k0_dev9 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_358 : BitVec 32 := 1#32
  let v501 : BitVec 32 := Scalar.xori v2 c1_i32_358
  let c1_i32_362 : BitVec 32 := 1#32
  let v502 : BitVec 32 := Scalar.muli v501 c1_i32_362
  let v503 : BitVec 32 := Scalar.addi c0_i32_363 v502
  v503.toNat
def k0_dev10 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_391 : BitVec 32 := 4#32
  let v536 : BitVec 32 := Scalar.xori v2 c4_i32_391
  let c1_i32_396 : BitVec 32 := 1#32
  let v537 : BitVec 32 := Scalar.muli v536 c1_i32_396
  let v538 : BitVec 32 := Scalar.addi c0_i32_397 v537
  v538.toNat
def k0_dev11 (d0 : Dev nD) : Nat :=
  let c0_i32_429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_424 : BitVec 32 := 1#32
  let v571 : BitVec 32 := Scalar.xori v2 c1_i32_424
  let c1_i32_428 : BitVec 32 := 1#32
  let v572 : BitVec 32 := Scalar.muli v571 c1_i32_428
  let v573 : BitVec 32 := Scalar.addi c0_i32_429 v572
  v573.toNat
def k0_dev12 (d0 : Dev nD) : Nat :=
  let c0_i32_462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_457 : BitVec 32 := 3#32
  let v606 : BitVec 32 := Scalar.xori v2 c3_i32_457
  let c1_i32_461 : BitVec 32 := 1#32
  let v607 : BitVec 32 := Scalar.muli v606 c1_i32_461
  let v608 : BitVec 32 := Scalar.addi c0_i32_462 v607
  v608.toNat
def k0_dev13 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_489 : BitVec 32 := 1#32
  let v641 : BitVec 32 := Scalar.xori v2 c1_i32_489
  let c1_i32_494 : BitVec 32 := 1#32
  let v642 : BitVec 32 := Scalar.muli v641 c1_i32_494
  let v643 : BitVec 32 := Scalar.addi c0_i32_495 v642
  v643.toNat
def k0_dev14 (d0 : Dev nD) : Nat :=
  let c0_i32_527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_522 : BitVec 32 := 3#32
  let v676 : BitVec 32 := Scalar.xori v2 c3_i32_522
  let c1_i32_526 : BitVec 32 := 1#32
  let v677 : BitVec 32 := Scalar.muli v676 c1_i32_526
  let v678 : BitVec 32 := Scalar.addi c0_i32_527 v677
  v678.toNat
def k0_dev15 (d0 : Dev nD) : Nat :=
  let c0_i32_559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_554 : BitVec 32 := 4#32
  let v711 : BitVec 32 := Scalar.xori v2 c4_i32_554
  let c1_i32_558 : BitVec 32 := 1#32
  let v712 : BitVec 32 := Scalar.muli v711 c1_i32_558
  let v713 : BitVec 32 := Scalar.addi c0_i32_559 v712
  v713.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S2x512x4096 : Shape := ⟨3, ![2, 512, 4096]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S2x64x512x512 : Shape := ⟨4, ![2, 64, 512, 512]⟩
abbrev S1x1x512x512 : Shape := ⟨4, ![1, 1, 512, 512]⟩
abbrev S2x64x512 : Shape := ⟨3, ![2, 64, 512]⟩
abbrev S2x64x512x1 : Shape := ⟨4, ![2, 64, 512, 1]⟩
abbrev S1x1x512x1 : Shape := ⟨4, ![1, 1, 512, 1]⟩
abbrev S2x64x64x512 : Shape := ⟨4, ![2, 64, 64, 512]⟩

abbrev nBuf : Space → Nat
  | .hbm => 67
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x4096, .f32⟩
  | .hbm, ⟨2, _⟩ => ⟨S2x512x64x64, .f32⟩
  | .hbm, ⟨3, _⟩ => ⟨S2x512x64x64, .f32⟩
  | .hbm, ⟨4, _⟩ => ⟨S4096x768, .f32⟩
  | .hbm, ⟨5, _⟩ => ⟨S2x512x4096, .f32⟩
  | .hbm, ⟨6, _⟩ => ⟨S2x512x64x64, .f32⟩
  | .hbm, ⟨7, _⟩ => ⟨S512, .i32⟩
  | .hbm, ⟨8, _⟩ => ⟨S512x1, .i32⟩
  | .hbm, ⟨9, _⟩ => ⟨S512, .i32⟩
  | .hbm, ⟨10, _⟩ => ⟨S1x512, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i1⟩
  | .hbm, ⟨18, _⟩ => ⟨S_, .i32⟩
  | .hbm, ⟨19, _⟩ => ⟨S1x512, .i32⟩
  | .hbm, ⟨20, _⟩ => ⟨S1x512, .i1⟩
  | .hbm, ⟨21, _⟩ => ⟨S_, .i32⟩
  | .hbm, ⟨22, _⟩ => ⟨S512x1, .i32⟩
  | .hbm, ⟨23, _⟩ => ⟨S512x1, .i1⟩
  | .hbm, ⟨24, _⟩ => ⟨S512x512, .i1⟩
  | .hbm, ⟨25, _⟩ => ⟨S512x512, .i1⟩
  | .hbm, ⟨26, _⟩ => ⟨S512x512, .i1⟩
  | .hbm, ⟨27, _⟩ => ⟨S512x512, .i1⟩
  | .hbm, ⟨28, _⟩ => ⟨S2x64x512x512, .f32⟩
  | .hbm, ⟨29, _⟩ => ⟨S_, .f32⟩
  | .hbm, ⟨30, _⟩ => ⟨S2x64x512x512, .f32⟩
  | .hbm, ⟨31, _⟩ => ⟨S2x64x512x512, .f32⟩
  | .hbm, ⟨32, _⟩ => ⟨S1x1x512x512, .i1⟩
  | .hbm, ⟨33, _⟩ => ⟨S_, .f32⟩
  | .hbm, ⟨34, _⟩ => ⟨S_, .f32⟩
  | .hbm, ⟨35, _⟩ => ⟨S2x64x512x512, .i1⟩
  | .hbm, ⟨36, _⟩ => ⟨S2x64x512x512, .f32⟩
  | .hbm, ⟨37, _⟩ => ⟨S2x64x512x512, .f32⟩
  | .hbm, ⟨38, _⟩ => ⟨S_, .f32⟩
  | .hbm, ⟨39, _⟩ => ⟨S2x64x512, .f32⟩
  | .hbm, ⟨40, _⟩ => ⟨S2x64x512x1, .f32⟩
  | .hbm, ⟨41, _⟩ => ⟨S2x64x512x512, .f32⟩
  | .hbm, ⟨42, _⟩ => ⟨S2x64x512x512, .f32⟩
  | .hbm, ⟨43, _⟩ => ⟨S2x64x512x512, .f32⟩
  | .hbm, ⟨44, _⟩ => ⟨S_, .i1⟩
  | .hbm, ⟨45, _⟩ => ⟨S512, .i1⟩
  | .hbm, ⟨46, _⟩ => ⟨S1x1x512x1, .i1⟩
  | .hbm, ⟨47, _⟩ => ⟨S_, .f32⟩
  | .hbm, ⟨48, _⟩ => ⟨S2x64x512, .f32⟩
  | .hbm, ⟨49, _⟩ => ⟨S2x64x512x1, .f32⟩
  | .hbm, ⟨50, _⟩ => ⟨S_, .f32⟩
  | .hbm, ⟨51, _⟩ => ⟨S_, .f32⟩
  | .hbm, ⟨52, _⟩ => ⟨S2x64x512x1, .i1⟩
  | .hbm, ⟨53, _⟩ => ⟨S2x64x512x1, .f32⟩
  | .hbm, ⟨54, _⟩ => ⟨S2x64x512x1, .f32⟩
  | .hbm, ⟨55, _⟩ => ⟨S2x64x512x512, .f32⟩
  | .hbm, ⟨56, _⟩ => ⟨S2x64x512x512, .f32⟩
  | .hbm, ⟨57, _⟩ => ⟨S1x1x512x1, .i1⟩
  | .hbm, ⟨58, _⟩ => ⟨S_, .f32⟩
  | .hbm, ⟨59, _⟩ => ⟨S_, .f32⟩
  | .hbm, ⟨60, _⟩ => ⟨S2x64x512x512, .i1⟩
  | .hbm, ⟨61, _⟩ => ⟨S2x64x512x512, .f32⟩
  | .hbm, ⟨62, _⟩ => ⟨S2x64x512x512, .f32⟩
  | .hbm, ⟨63, _⟩ => ⟨S2x64x64x512, .f32⟩
  | .hbm, ⟨64, _⟩ => ⟨S2x512x64x64, .f32⟩
  | .hbm, ⟨65, _⟩ => ⟨S2x512x4096, .f32⟩
  | .hbm, ⟨66, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Geom.lean ====
/- The geometry of the all-reduce: which device talks to which, which half of a column chunk of the accumulator a device
   keeps, and the blocks of the two communication buffers. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Rounds
public import Idealize.ShloMosaic.Lib.Writes
public import Idealize.ShloMosaic.Adequacy
public import Idealize.ShloMosaic.Init

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-! ## Partners and halves -/

/-- The partner of device `c` under the mask number `b`: the masks are 1, 3, 4. -/
def pr (b : Fin 3) (c : Dev nD) : Dev nD :=
  match b with
  | 0 => ![1, 0, 3, 2, 5, 4, 7, 6] c
  | 1 => ![3, 2, 1, 0, 7, 6, 5, 4] c
  | 2 => ![4, 5, 6, 7, 0, 1, 2, 3] c

/-- Partnership is mutual. -/
theorem pr_pr : ∀ (b : Fin 3) (c : Dev nD), pr b (pr b c) = c := by decide

/-- The mask number of chunk `t` at stage `s`. -/
abbrev mk (t : Fin 3) (s : Fin 4) : Fin 3 := t + ![0, 1, 2, 0] s
/-- The partner of device `c` for chunk `t` at stage `s`. -/
abbrev pa (t : Fin 3) (s : Fin 4) (c : Dev nD) : Dev nD := pr (mk t s) c

theorem pa_pa (t : Fin 3) (s : Fin 4) (c : Dev nD) : pa t s (pa t s c) = c := pr_pr _ c

/-- The half of chunk `t` that device `c` keeps. -/
def kb (t : Fin 3) (c : Dev nD) : Fin 2 :=
  match t with
  | 0 => ![0, 1, 1, 0, 0, 1, 1, 0] c
  | 1 => ![0, 0, 1, 1, 0, 0, 1, 1] c
  | 2 => ![0, 0, 0, 0, 1, 1, 1, 1] c

/-- The half of chunk `t` that device `c` gives away. -/
abbrev ot (t : Fin 3) (c : Dev nD) : Fin 2 := 1 - kb t c

/-- The first partner keeps what a device gives away. -/
theorem kb_first : ∀ (t : Fin 3) (c : Dev nD), kb t (pa t 0 c) = ot t c := by decide
/-- The first partner gives away what a device keeps. -/
theorem ot_first : ∀ (t : Fin 3) (c : Dev nD), ot t (pa t 0 c) = kb t c := by decide

/-! ## Offsets and device numbers as the program computes them -/

/-- Where half `h` of chunk `t` starts in the accumulator. -/
def accOff (t : Fin 3) (h : Fin 2) : Fin 3 → Nat := ![t.val, 512 * h.val, 0]
/-- Where the landing block of chunk `t` for stage `s` starts. -/
def rxOff (t : Fin 3) (s : Fin 3) : Fin 3 → Nat := ![t.val, 512 * s.val, 0]

theorem accOff_inb : ∀ (t : Fin 3) (h : Fin 2) (a : Fin 3), accOff t h a + S1x512x256.size a ≤ S3x1024x256.size a := by decide
theorem rxOff_inb : ∀ (t : Fin 3) (s : Fin 3) (a : Fin 3), rxOff t s a + S1x512x256.size a ≤ S3x1536x256.size a := by decide

theorem off1_eq (c : Dev nD) : k0_off1 c = accOff 0 (ot 0 c) := by revert c; decide +kernel
theorem off2_eq (c : Dev nD) : k0_off2 c = accOff 1 (ot 1 c) := by revert c; decide +kernel
theorem off3_eq (c : Dev nD) : k0_off3 c = accOff 2 (ot 2 c) := by revert c; decide +kernel
theorem off4_eq (c : Dev nD) : k0_off4 c = accOff 0 (kb 0 c) := by revert c; decide +kernel
theorem off5_eq (c : Dev nD) : k0_off5 c = accOff 0 (kb 0 c) := by revert c; decide +kernel
theorem off6_eq (c : Dev nD) : k0_off6 c = accOff 1 (kb 1 c) := by revert c; decide +kernel
theorem off7_eq (c : Dev nD) : k0_off7 c = accOff 1 (kb 1 c) := by revert c; decide +kernel
theorem off8_eq (c : Dev nD) : k0_off8 c = accOff 2 (kb 2 c) := by revert c; decide +kernel
theorem off9_eq (c : Dev nD) : k0_off9 c = accOff 2 (kb 2 c) := by revert c; decide +kernel

theorem dev1_eq (c : Dev nD) : (⟨k0_dev1 c, k0_dev1_lt c⟩ : Dev nD) = pr 0 c := by revert c; decide +kernel
theorem dev2_eq (c : Dev nD) : (⟨k0_dev2 c, k0_dev2_lt c⟩ : Dev nD) = pr 1 c := by revert c; decide +kernel
theorem dev3_eq (c : Dev nD) : (⟨k0_dev3 c, k0_dev3_lt c⟩ : Dev nD) = pr 2 c := by revert c; decide +kernel
theorem dev4_eq (c : Dev nD) : (⟨k0_dev4 c, k0_dev4_lt c⟩ : Dev nD) = pa 0 0 c := by revert c; decide +kernel
theorem dev5_eq (c : Dev nD) : (⟨k0_dev5 c, k0_dev5_lt c⟩ : Dev nD) = pa 1 0 c := by revert c; decide +kernel
theorem dev6_eq (c : Dev nD) : (⟨k0_dev6 c, k0_dev6_lt c⟩ : Dev nD) = pa 2 0 c := by revert c; decide +kernel
theorem dev7_eq (c : Dev nD) : (⟨k0_dev7 c, k0_dev7_lt c⟩ : Dev nD) = pa 0 1 c := by revert c; decide +kernel
theorem dev8_eq (c : Dev nD) : (⟨k0_dev8 c, k0_dev8_lt c⟩ : Dev nD) = pa 1 1 c := by revert c; decide +kernel
theorem dev9_eq (c : Dev nD) : (⟨k0_dev9 c, k0_dev9_lt c⟩ : Dev nD) = pa 2 1 c := by revert c; decide +kernel
theorem dev10_eq (c : Dev nD) : (⟨k0_dev10 c, k0_dev10_lt c⟩ : Dev nD) = pa 0 2 c := by revert c; decide +kernel
theorem dev11_eq (c : Dev nD) : (⟨k0_dev11 c, k0_dev11_lt c⟩ : Dev nD) = pa 1 2 c := by revert c; decide +kernel
theorem dev12_eq (c : Dev nD) : (⟨k0_dev12 c, k0_dev12_lt c⟩ : Dev nD) = pa 2 2 c := by revert c; decide +kernel
theorem dev13_eq (c : Dev nD) : (⟨k0_dev13 c, k0_dev13_lt c⟩ : Dev nD) = pa 0 3 c := by revert c; decide +kernel
theorem dev14_eq (c : Dev nD) : (⟨k0_dev14 c, k0_dev14_lt c⟩ : Dev nD) = pa 1 3 c := by revert c; decide +kernel
theorem dev15_eq (c : Dev nD) : (⟨k0_dev15 c, k0_dev15_lt c⟩ : Dev nD) = pa 2 3 c := by revert c; decide +kernel

/-! ## The blocks of the two communication buffers -/

/-- The accumulator, whole. -/
abbrev accM : Memref sig .tc .vmem S3x1024x256 .bf16 := Memref.whole cc0_scratch0
/-- The landing buffer, whole. -/
abbrev rxM : Memref sig .tc .vmem S3x1536x256 .bf16 := Memref.whole cc0_scratch1

/-- A block of the accumulator at an offset. -/
abbrev accAtOff (off : Fin 3 → Nat) (inb : ∀ a, off a + S1x512x256.size a ≤ S3x1024x256.size a) : Memref sig .tc .vmem S1x512x256 .bf16 :=
  accM.slice (Rect.unit (s := S3x1024x256) off S1x512x256.size inb) (fun _ => rfl)
/-- A block of the landing buffer at an offset. -/
abbrev rxAtOff (off : Fin 3 → Nat) (inb : ∀ a, off a + S1x512x256.size a ≤ S3x1536x256.size a) : Memref sig .tc .vmem S1x512x256 .bf16 :=
  rxM.slice (Rect.unit (s := S3x1536x256) off S1x512x256.size inb) (fun _ => rfl)

/-- Half `h` of chunk `t` of the accumulator. -/
def accB (t : Fin 3) (h : Fin 2) : Memref sig .tc .vmem S1x512x256 .bf16 := accAtOff (accOff t h) (accOff_inb t h)
/-- The landing block of chunk `t` for stage `s`. -/
def rxB (t : Fin 3) (s : Fin 3) : Memref sig .tc .vmem S1x512x256 .bf16 := rxAtOff (rxOff t s) (rxOff_inb t s)

theorem accB_of {off : Fin 3 → Nat} {inb : ∀ a, off a + S1x512x256.size a ≤ S3x1024x256.size a} {t : Fin 3} {h : Fin 2}
    (e : off = accOff t h) : accAtOff off inb = accB t h := by subst e; rfl
theorem rxB_of {off : Fin 3 → Nat} {inb : ∀ a, off a + S1x512x256.size a ≤ S3x1536x256.size a} {t : Fin 3} {s : Fin 3}
    (e : off = rxOff t s) : rxAtOff off inb = rxB t s := by subst e; rfl

/-- The block as a copy addresses it: its leading axis of size one dropped. -/
abbrev sq (M : Memref sig .tc .vmem S1x512x256 .bf16) : Memref sig .tc .vmem S512x256 .bf16 :=
  M.squeeze S512x256 squeezes_S1x512x256_S512x256

/-- What one copy credits. -/
abbrev N : ℕ := (sq (accB 0 0)).view.dmaCredit
theorem N_pos : 0 < N := View.dmaCredit_pos _ (by decide)
theorem credit_acc (t : Fin 3) (h : Fin 2) : (sq (accB t h)).view.dmaCredit = N := rfl
theorem credit_rx (t : Fin 3) (s : Fin 3) : (sq (rxB t s)).view.dmaCredit = N := rfl

theorem sq_set (M : Memref sig .tc .vmem S1x512x256 .bf16) : (sq M).view.set = M.view.set := View.set_reshape _ _

/-- A block written by a copy reads, at its own shape, as the copied block read at its own shape. -/
theorem read_copied {Val : EltTy → Type} (M M' : Memref sig .tc .vmem S1x512x256 .bf16) (fd : M'.view.ty.Contents Val) (fs : M.view.ty.Contents Val) :
    M'.view.read Val ((sq M').view.write Val fd ((sq M).view.read Val fs) Finset.univ) = M.view.read Val fs := by
  have h := View.write_reshape_univ (v := M'.view) (Val := Val) (s' := S512x256) squeezes_S1x512x256_S512x256.numel_eq fd ((sq M).view.read Val fs)
  refine (congrArg (M'.view.read Val) h).trans ?_
  rw [View.read_write_univ]
  funext x
  show M.view.read Val fs (Shape.reshapeEquiv _ ((Shape.reshapeEquiv _).symm x)) = _
  rw [Equiv.apply_symm_apply]

end Cert.KernelIdeal.Run

end
-- ==== Proof.Proto.lean ====
/- The protocol of the all-reduce: for each semaphore who pays it, with what, and what its payment hands over, contents
   included. Written over an assignment `a c t h` of the contents of half `h` of chunk `t` of device `c`'s accumulator
   before any communication. -/
module

public import proofs.«01_k».proof.Proof.Geom

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The pipeline's ghost state and the protocol's. -/
abbrev UU : Type := UR sig nD τ × Rounds.URounds (GSem nD τ sig) (Fin 3)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Fin 3)) (MT nD τ sig Unit (Elt F) ℕ UU ℕ) := embR

abbrev 𝒱₀ : Variants := Variants.none

/-! ## Semaphores and their roles -/

/-- The barrier semaphore. -/
abbrev barS : Sem sig := (SemArray.scalar (sig.barrier 0 rfl) : Sems sig S_).sem
/-- The sending side's semaphore of chunk `t`, stage `s`. -/
def sendS (t : Fin 3) (s : Fin 4) : DmaSem sig := ⟨6 + (4 * t.val + s.val), by show _ < 30; omega⟩
/-- The receiving side's semaphore of chunk `t`, stage `s`. -/
def recvS (t : Fin 3) (s : Fin 4) : DmaSem sig := ⟨18 + (4 * t.val + s.val), by show _ < 30; omega⟩

abbrev barCell (c : Dev nD) : GSem nD τ sig := ((c : Thread nD τ), .reg barS)
abbrev sendCell (c : Dev nD) (t : Fin 3) (s : Fin 4) : GSem nD τ sig := ((c : Thread nD τ), .dma (sendS t s))
abbrev recvCell (c : Dev nD) (t : Fin 3) (s : Fin 4) : GSem nD τ sig := ((c : Thread nD τ), .dma (recvS t s))

/-- What a semaphore is for. -/
inductive Role where
  | bar
  | send (t : Fin 3) (s : Fin 4)
  | recv (t : Fin 3) (s : Fin 4)
  | other
  deriving DecidableEq

def role : SemLoc sig → Role
  | .reg r => if r = barS then .bar else .other
  | .dma d =>
    if 6 ≤ d.val ∧ d.val < 18 then .send ⟨(d.val - 6) / 4 % 3, Nat.mod_lt _ (by decide)⟩ ⟨(d.val - 6) % 4, Nat.mod_lt _ (by decide)⟩
    else if 18 ≤ d.val ∧ d.val < 30 then .recv ⟨(d.val - 18) / 4 % 3, Nat.mod_lt _ (by decide)⟩ ⟨(d.val - 18) % 4, Nat.mod_lt _ (by decide)⟩
    else .other

theorem role_bar : role (.reg barS) = .bar := by decide
theorem role_send : ∀ (t : Fin 3) (s : Fin 4), role (.dma (sendS t s)) = .send t s := by decide
theorem role_recv : ∀ (t : Fin 3) (s : Fin 4), role (.dma (recvS t s)) = .recv t s := by decide

/-! ## Contents -/

/-- The contents of a block. -/
abbrev Tile (F : FTy → Type) [FloatOps F] : Type := Vec F S1x512x256 .bf16

/-- The sum of two blocks, as the kernel adds them. -/
def add (v w : Tile F) : Tile F := k0_pay48 v w

variable (a : Dev nD → Fin 3 → Fin 2 → Tile F)

/-- What device `c`'s kept half of chunk `t` holds after one sum, after two, after three. -/
def H1 (t : Fin 3) (c : Dev nD) : Tile F := add (a c t (kb t c)) (a (pa t 0 c) t (kb t c))
def H2 (t : Fin 3) (c : Dev nD) : Tile F := add (H1 a t c) (H1 a t (pa t 1 c))
def H3 (t : Fin 3) (c : Dev nD) : Tile F := add (H2 a t c) (H2 a t (pa t 2 c))

/-- What device `c`'s kept half of chunk `t` holds when stage `s` begins. -/
def H (t : Fin 3) (s : ℕ) (c : Dev nD) : Tile F :=
  match s with
  | 0 => a c t (kb t c)
  | 1 => H1 a t c
  | 2 => H2 a t c
  | _ => H3 a t c

/-- What device `c` sends of chunk `t` at stage `s`. -/
def sent (t : Fin 3) (s : Fin 4) (c : Dev nD) : Tile F := if s = 0 then a c t (ot t c) else H a t s.val c

/-- Half `h` of chunk `t` on device `c` at the end. -/
def fin (t : Fin 3) (h : Fin 2) (c : Dev nD) : Tile F := if h = kb t c then H a t 3 c else H a t 3 (pa t 3 c)

/-- Device `c` owns the block `M`, at contents `w`. -/
def blkAt (M : Memref sig .tc .vmem S1x512x256 .bf16) (c : Dev nD) (w : Tile F) : sProp 𝕄 :=
  iprop(∃ f : M.view.ty.Contents (Elt F), ⌜M.view.read (Elt F) f = w⌝ ∗ ((M.view.loc (c : Thread nD τ)) ↦[M.view.set]{fullShare} f))

/-- Device `c` owns the block `M`. -/
def blkAny (M : Memref sig .tc .vmem S1x512x256 .bf16) (c : Dev nD) : sProp 𝕄 := iprop(∃ w, blkAt (F := F) M c w)

instance blkAt_storable (M) (c : Dev nD) (w : Tile F) : BI.Storable (upEmb : UEmb _ 𝕄) (blkAt M c w) := by unfold blkAt; infer_instance
instance blkAny_storable (M) (c : Dev nD) : BI.Storable (upEmb : UEmb _ 𝕄) (blkAny (F := F) M c) := by unfold blkAny; infer_instance

/-! ## The schedule -/

/-- Paid to device `c`'s barrier by its partner `p` under mask `b`: the landing blocks on `p` that `c` will write, and that
    the receiving cells on `p` that `c` will pay are open. -/
def barPay (c : Dev nD) (b : Fin 3) : sProp 𝕄 :=
  iprop(blkAny (F := F) (rxB b 0) (pr b c) ∗ blkAny (F := F) (rxB (b + 2) 1) (pr b c) ∗ blkAny (F := F) (rxB (b + 1) 2) (pr b c)
    ∗ reached ER (recvCell (pr b c) b 0) 0 ∗ reached ER (recvCell (pr b c) (b + 2) 1) 0
    ∗ reached ER (recvCell (pr b c) (b + 1) 2) 0 ∗ reached ER (recvCell (pr b c) b 3) 0)

/-- Paid to the receiving cell: the block that landed; at stage 0 with the partner's block it was copied from. -/
def recvPay (c : Dev nD) (t : Fin 3) (s : Fin 4) : sProp 𝕄 :=
  match s with
  | 0 => iprop(blkAt (rxB t 0) c (sent a t 0 (pa t 0 c)) ∗ blkAny (F := F) (accB t (kb t c)) (pa t 0 c))
  | 1 => blkAt (rxB t 1) c (sent a t 1 (pa t 1 c))
  | 2 => blkAt (rxB t 2) c (sent a t 2 (pa t 2 c))
  | 3 => blkAt (accB t (ot t c)) c (sent a t 3 (pa t 3 c))

/-- Paid to the sending cell: the block sent from, back — except at stage 0. -/
def sendPay (c : Dev nD) (t : Fin 3) (s : Fin 4) : sProp 𝕄 :=
  match s with
  | 0 => iprop(emp)
  | 1 => blkAt (accB t (kb t c)) c (sent a t 1 c)
  | 2 => blkAt (accB t (kb t c)) c (sent a t 2 c)
  | 3 => blkAt (accB t (kb t c)) c (sent a t 3 c)

/-- Who pays what: every cell has one round; a barrier cell is paid by the three partners, one unit each, the others by
    the one copy they belong to. -/
def Rd : Rounds.Schedule (GSem nD τ sig) (Fin 3) 𝕄 where
  duties g r := if r = 0 ∧ g.1.2 = .tc then (match role g.2 with | .bar => Finset.univ | .send _ _ => {0} | .recv _ _ => {0} | .other => ∅) else ∅
  unitless _ := False
  amount g _ _ := match role g.2 with | .bar => 1 | _ => N
  payload g _ d := match role g.2 with
    | .bar => barPay g.1.1 d
    | .send t s => sendPay a g.1.1 t s
    | .recv t s => recvPay a g.1.1 t s
    | .other => iprop(emp)
  amount_pos g _ _ _ := by
    cases role g.2
    · exact Nat.one_pos
    all_goals exact N_pos

instance Rd_payload_storable (g : GSem nD τ sig) (r : ℕ) (d : Fin 3) :
    BI.Storable (upEmb : UEmb _ 𝕄) ((Rd a).payload g r d) := by
  show BI.Storable upEmb (match role g.2 with
    | .bar => barPay (F := F) g.1.1 d
    | .send t s => sendPay a g.1.1 t s
    | .recv t s => recvPay a g.1.1 t s
    | .other => iprop(emp))
  unfold barPay recvPay sendPay
  (repeat' split) <;> infer_instance

section Sched

variable (c : Dev nD) (t : Fin 3) (s : Fin 4)

theorem duties_bar : (Rd a).duties (barCell c) 0 = Finset.univ := by
  dsimp only [Rd]; rw [if_pos ⟨rfl, rfl⟩, role_bar]
theorem duties_send : (Rd a).duties (sendCell c t s) 0 = {0} := by
  dsimp only [Rd]; rw [if_pos ⟨rfl, rfl⟩, role_send]
theorem duties_recv : (Rd a).duties (recvCell c t s) 0 = {0} := by
  dsimp only [Rd]; rw [if_pos ⟨rfl, rfl⟩, role_recv]
theorem duties_later (g : GSem nD τ sig) : ∀ r, 1 ≤ r → (Rd a).duties g r = ∅ :=
  fun r hr => by dsimp only [Rd]; exact if_neg (fun h => by omega)

theorem amount_bar (d : Fin 3) : (Rd a).amount (barCell c) 0 d = 1 := by dsimp only [Rd]; rw [role_bar]
theorem amount_send (d : Fin 3) : (Rd a).amount (sendCell c t s) 0 d = N := by dsimp only [Rd]; rw [role_send]
theorem amount_recv (d : Fin 3) : (Rd a).amount (recvCell c t s) 0 d = N := by dsimp only [Rd]; rw [role_recv]

theorem expect_bar : (Rd a).expect (barCell c) 0 = 3 := by
  unfold Schedule.expect Schedule.amountOf
  rw [duties_bar, Finset.sum_congr rfl (fun d _ => amount_bar a c d)]; rfl
theorem expect_send : (Rd a).expect (sendCell c t s) 0 = N := by
  unfold Schedule.expect Schedule.amountOf; rw [duties_send, Finset.sum_singleton, amount_send]
theorem expect_recv : (Rd a).expect (recvCell c t s) 0 = N := by
  unfold Schedule.expect Schedule.amountOf; rw [duties_recv, Finset.sum_singleton, amount_recv]

theorem payload_bar (d : Fin 3) : (Rd a).payload (barCell c) 0 d = barPay c d := by dsimp only [Rd]; rw [role_bar]
theorem payload_send (d : Fin 3) : (Rd a).payload (sendCell c t s) 0 d = sendPay a c t s := by dsimp only [Rd]; rw [role_send]
theorem payload_recv (d : Fin 3) : (Rd a).payload (recvCell c t s) 0 d = recvPay a c t s := by dsimp only [Rd]; rw [role_recv]

theorem rest_bar : bigSep ((Rd a).duties (barCell c) 0 \ ∅) (fun d => (Rd a).payload (barCell c) 0 d)
    = iprop(barPay c 0 ∗ barPay c 1 ∗ barPay (F := F) c 2) := by
  rw [Finset.sdiff_empty, duties_bar]
  exact (BI.bigSep_congr (fun d _ => payload_bar a c d)).trans (BI.bigSep_univ_eq_bigSepL [0, 1, 2] (by decide) (by decide) _)
theorem rest_send : bigSep ((Rd a).duties (sendCell c t s) 0 \ ∅) (fun d => (Rd a).payload (sendCell c t s) 0 d) = sendPay a c t s := by
  rw [Finset.sdiff_empty, duties_send, bigSep_singleton, payload_send]
theorem rest_recv : bigSep ((Rd a).duties (recvCell c t s) 0 \ ∅) (fun d => (Rd a).payload (recvCell c t s) 0 d) = recvPay a c t s := by
  rw [Finset.sdiff_empty, duties_recv, bigSep_singleton, payload_recv]

end Sched

/-! ## What a device owes; the levels -/

/-- The chunk and the stage of the `n`-th copy. -/
def tN (n : ℕ) : Fin 3 := ⟨n % 3, Nat.mod_lt _ (by decide)⟩
def sN (n : ℕ) : Fin 4 := ⟨n / 3 % 4, Nat.mod_lt _ (by decide)⟩

/-- The cell the `n`-th copy of device `c` pays. -/
abbrev cellN (c : Dev nD) (n : ℕ) : GSem nD τ sig := recvCell (pa (tN n) (sN n) c) (tN n) (sN n)

/-- What device `c` owes when it has issued the first `n` copies. -/
def Ow (c : Dev nD) (n : ℕ) : CellTallies nD τ sig Unit := ∑ k ∈ Finset.Ico n 12, tallyAt (cellN c k) () N

theorem Ow_succ (c : Dev nD) (n : ℕ) (h : n < 12) : Ow c n = Ow c (n + 1) + tallyAt (cellN c n) () N := by
  unfold Ow
  rw [show Finset.Ico n 12 = insert n (Finset.Ico (n + 1) 12) from by ext x; simp only [Finset.mem_Ico, Finset.mem_insert]; omega,
    Finset.sum_insert (by simp only [Finset.mem_Ico]; omega), add_comm]
theorem Ow_end (c : Dev nD) : Ow c 12 = 0 := by unfold Ow; rw [Finset.Ico_self, Finset.sum_empty]

theorem Ow_pos (c : Dev nD) (n : ℕ) : ∀ (g : GSem nD τ sig) (u : Unit), 0 < Ow c n g u → ∃ k, n ≤ k ∧ k < 12 ∧ g = cellN c k := by
  unfold Ow
  refine Finset.sum_induction _ (fun O : CellTallies nD τ sig Unit => ∀ (g : GSem nD τ sig) (u : Unit), 0 < O g u → ∃ k, n ≤ k ∧ k < 12 ∧ g = cellN c k) ?_ ?_ ?_
  · intro A B hA hB g u h
    rcases Nat.eq_zero_or_pos (A g u) with h0 | h0
    · refine hB g u ?_
      have : (A + B) g u = A g u + B g u := rfl
      omega
    · exact hA g u h0
  · intro g u h; exact absurd h (Nat.lt_irrefl 0)
  · intro k hk g u h
    rw [tallyAt_apply] at h
    by_cases e : g = cellN c k ∧ u = ()
    · exact ⟨k, (Finset.mem_Ico.mp hk).1, (Finset.mem_Ico.mp hk).2, e.1⟩
    · rw [if_neg e] at h; exact absurd h (Nat.lt_irrefl 0)

/-- What device `c` owes at launch: its twelve copies and a unit to each partner's barrier. -/
def O₀ (c : Dev nD) : CellTallies nD τ sig Unit :=
  Ow c 0 + tallyAt (barCell (pr 2 c)) () 1 + tallyAt (barCell (pr 1 c)) () 1 + tallyAt (barCell (pr 0 c)) () 1

def L (g : GSem nD τ sig) : Finset Unit := if g.1.2 = .tc then {()} else ∅
/-- Barrier cells at 1, receiving cells of stage `s` at `2 + s`, the rest at 0. -/
def lv (g : GSem nD τ sig) (_ : Unit) : ℕ := match role g.2 with | .bar => 1 | .recv _ s => 2 + s.val | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [role_bar]
theorem lv_send (c : Dev nD) (t : Fin 3) (s : Fin 4) (u : Unit) : lv (sendCell c t s) u = 0 := by dsimp only [lv]; rw [role_send]
theorem lv_recv (c : Dev nD) (t : Fin 3) (s : Fin 4) (u : Unit) : lv (recvCell c t s) u = 2 + s.val := by dsimp only [lv]; rw [role_recv]

/-- A wait below the level of every copy not yet issued. -/
theorem mayWait (c : Dev nD) (sm : SemLoc sig) (n : ℕ) (hl : ∀ k, n ≤ k → k < 12 → lv ((c : Thread nD τ), sm) () < 2 + (sN k).val) :
    (levAts L lv : sProp 𝕄) ⊢ MayWait (c : Thread nD τ) sm () (Ow c n) :=
  MayOwe.of_cut (L := L) (lev := lv) (lv ((c : Thread nD τ), sm) ())
    (fun p hp => by rw [Finset.mem_singleton.mp hp, L_tc]; exact Finset.mem_singleton_self _)
    (fun g u hg => by
      obtain ⟨k, _, _, rfl⟩ := Ow_pos c n g u hg
      rw [L_tc]; exact Finset.mem_singleton_self _)
    (fun p hp => by rw [Finset.mem_singleton.mp hp])
    (fun g u hg => by
      obtain ⟨k, h1, h2, rfl⟩ := Ow_pos c n g u hg
      rw [lv_recv]; exact hl k h1 h2)

theorem mayWait_bar (c : Dev nD) : (levAts L lv : sProp 𝕄) ⊢ MayWait (c : Thread nD τ) (.reg barS) () (Ow c 0) :=
  mayWait c _ 0 (fun k _ _ => by rw [lv_bar]; omega)
theorem mayWait_send (c : Dev nD) (t : Fin 3) (s : Fin 4) (n : ℕ) : (levAts L lv : sProp 𝕄) ⊢ MayWait (c : Thread nD τ) (.dma (sendS t s)) () (Ow c n) :=
  mayWait c _ n (fun k _ _ => by rw [lv_send]; omega)
theorem mayWait_recv (c : Dev nD) (t : Fin 3) (s : Fin 4) (n : ℕ) (h : 3 * (s.val + 1) ≤ n) :
    (levAts L lv : sProp 𝕄) ⊢ MayWait (c : Thread nD τ) (.dma (recvS t s)) () (Ow c n) :=
  mayWait c _ n (fun k h1 h2 => by rw [lv_recv]; show _ < 2 + k / 3 % 4; omega)

/-! ## What a device holds -/

/-- All the cells of the protocol. -/
def cells : Finset (GSem nD τ sig) :=
  (Finset.univ.filter fun x : Dev nD × SemLoc sig => role x.2 ≠ .other).image fun x => ((x.1 : Thread nD τ), x.2)

theorem mem_cells (c : Dev nD) (sm : SemLoc sig) (h : role sm ≠ .other) : ((c : Thread nD τ), sm) ∈ cells :=
  Finset.mem_image.mpr ⟨(c, sm), Finset.mem_filter.mpr ⟨Finset.mem_univ _, h⟩, rfl⟩
theorem bar_mem (c : Dev nD) : barCell c ∈ cells := mem_cells c _ (by rw [role_bar]; exact Role.noConfusion)
theorem send_mem (c : Dev nD) (t : Fin 3) (s : Fin 4) : sendCell c t s ∈ cells := mem_cells c _ (by rw [role_send]; exact Role.noConfusion)
theorem recv_mem (c : Dev nD) (t : Fin 3) (s : Fin 4) : recvCell c t s ∈ cells := mem_cells c _ (by rw [role_recv]; exact Role.noConfusion)

/-- The records every device shares: the cells' invariants, and the levels. -/
def Ctx : sProp 𝕄 := iprop((∃ K : GSem nD τ sig → ℕ, bigSep cells fun g => cellInv ER (Rd a) (K g) g) ∗ levAts L lv)

instance Ctx_persistent : BI.Persistent (Ctx a) := by unfold Ctx; infer_instance

theorem Ctx_inv (g : GSem nD τ sig) (h : g ∈ cells) : Ctx a ⊢ iprop(∃ κ, cellInv ER (Rd a) κ g) := by
  unfold Ctx
  iintro ⟨⟨%K, H⟩, -⟩
  have e : (bigSep cells fun g => cellInv ER (Rd a) (K g) g) = iprop(cellInv ER (Rd a) (K g) g ∗ bigSep (cells.erase g) fun g => cellInv ER (Rd a) (K g) g) :=
    BI.bigSep_erase h
  ihave H := (Entails.of_eq e) $$ H
  icases H with ⟨H, -⟩
  iexists _; iexact H
theorem Ctx_lev : Ctx a ⊢ levAts L lv := by
  unfold Ctx
  iintro ⟨-, H⟩; iexact H

/-- Device `c` owes `O`. -/
def owesE (c : Dev nD) (O : CellTallies nD τ sig Unit) : sProp 𝕄 := iprop(∃ W, owes (c : Thread nD τ) O W)

/-- What device `c` holds for the copy of chunk `t` at stage `s`: before the copy is issued. -/
def laneA (c : Dev nD) (t : Fin 3) (s : Fin 4) : sProp 𝕄 :=
  iprop(atPos ER (sendCell c t s) 0 ∅ 0 ∗ reached ER (sendCell c t s) 0 ∗ dutyTok ER (sendCell c t s) 0 0
    ∗ atPos ER (recvCell c t s) 0 ∅ 0 ∗ dutyTok ER (recvCell (pa t s c) t s) 0 0 ∗ cred (tallyAt (recvCell c t s) () N))
/-- When it has been issued. -/
def laneB (c : Dev nD) (t : Fin 3) (s : Fin 4) : sProp 𝕄 :=
  iprop(atPos ER (sendCell c t s) 0 ∅ 0 ∗ cred (tallyAt (sendCell c t s) () N)
    ∗ atPos ER (recvCell c t s) 0 ∅ 0 ∗ cred (tallyAt (recvCell c t s) () N))
/-- When its departure has been waited for. -/
def laneC (c : Dev nD) (t : Fin 3) (s : Fin 4) : sProp 𝕄 :=
  iprop(semVal (sendCell c t s) 0 ∗ atPos ER (recvCell c t s) 0 ∅ 0 ∗ cred (tallyAt (recvCell c t s) () N))
/-- When the partner's has arrived. -/
def laneD (c : Dev nD) (t : Fin 3) (s : Fin 4) : sProp 𝕄 := iprop(semVal (sendCell c t s) 0 ∗ semVal (recvCell c t s) 0)

theorem close (κ : ℕ) (g : GSem nD τ sig) :
    iprop(cellInv ER (Rd a) κ g ∗ atPos ER g (0 + 1) ∅ 0) ⊢ (|={Set.univ}=> semVal g 0 : sProp 𝕄) :=
  Rounds.cell_close ER (Rd a) (Set.mem_univ κ) id (duties_later a g)

end Cert.KernelIdeal.Run

end
-- ==== Proof.Rules.lean ====
/- The steps of the protocol, one lemma for each kind of operation the kernel communicates by. -/
module

public import proofs.«01_k».proof.Proof.Proto

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (a : Dev nD → Fin 3 → Fin 2 → Tile F)

/-- A program's weakest precondition on device `c`, as the kernel's body runs. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- The block the copy of chunk `t`, stage `s` writes on the device `p` it goes to. -/
def landM (t : Fin 3) (s : Fin 4) (p : Dev nD) : Memref sig .tc .vmem S1x512x256 .bf16 :=
  match s with
  | 0 => rxB t 0
  | 1 => rxB t 1
  | 2 => rxB t 2
  | 3 => accB t (ot t p)

theorem credit_land (t : Fin 3) (s : Fin 4) (p : Dev nD) : (sq (landM t s p)).view.dmaCredit = N := by
  unfold landM
  split <;> rfl

/-- A block as a copy addresses it is the same elements. -/
theorem blkAt_sq (M : Memref sig .tc .vmem S1x512x256 .bf16) (c : Dev nD) (f : M.view.ty.Contents (Elt F)) :
    ((((sq M).view.loc (c : Thread nD τ)) ↦[(sq M).view.set]{fullShare} f) : sProp 𝕄)
      = ((M.view.loc (c : Thread nD τ)) ↦[M.view.set]{fullShare} f) := by
  rw [sq_set]

theorem blkAt_intro (M : Memref sig .tc .vmem S1x512x256 .bf16) (c : Dev nD) (f : M.view.ty.Contents (Elt F)) (w : Tile F)
    (h : M.view.read (Elt F) f = w) : (((M.view.loc (c : Thread nD τ)) ↦[M.view.set]{fullShare} f) : sProp 𝕄) ⊢ blkAt M c w := by
  unfold blkAt
  iintro H; iexists f; isplitr
  · ipureintro; exact h
  iexact H

theorem send_pay (c : Dev nD) (t : Fin 3) (s : Fin 4) (hs : s ≠ 0) : blkAt (accB t (kb t c)) c (sent a t s c) ⊢ sendPay a c t s := by
  unfold sendPay
  split
  · exact absurd rfl hs
  all_goals exact BI.Entails.refl _

theorem recv_pay (c : Dev nD) (t : Fin 3) (s : Fin 4) (hs : s ≠ 0) : blkAt (landM t s c) c (sent a t s (pa t s c)) ⊢ recvPay a c t s := by
  unfold recvPay landM
  split
  · exact absurd rfl hs
  all_goals exact BI.Entails.refl _

theorem cell_of (c : Dev nD) (t : Fin 3) (s : Fin 4) (n : ℕ) (hn : n = 3 * s.val + t.val) : cellN c n = recvCell (pa t s c) t s := by
  have h1 : tN n = t := Fin.ext (by show n % 3 = _; omega)
  have h2 : sN n = s := Fin.ext (by show n / 3 % 4 = _; omega)
  unfold cellN; rw [h1, h2]

set_option maxHeartbeats 1000000 in
/-- A copy of a later stage: the block it leaves from comes back when its departure is waited for, the block it lands in
    goes to the partner. -/
theorem send_back {α : Type} (c : Dev nD) (t : Fin 3) (s : Fin 4) (hs : s ≠ 0) (n : ℕ) (hn : n = 3 * s.val + t.val) {d : Dev nD}
    {src dst : Memref sig .tc .vmem S1x512x256 .bf16} {sS sR : DmaSem sig} {hsc : (sq dst).view.ref.isScScratch = false}
    {h1 : (sq src).view.WordExact} {h2 : (sq dst).view.WordExact}
    {h3 : DmaTarget.Typed .vmem (.dma sR) (.remote (d : Thread nD τ) (sq dst) (.dma sS) hsc)}
    {k : PUnit → Prog (TpuEff nD τ sig (Elt F) Λ₀ .tc) α} {Q : α → sProp 𝕄}
    (hsrc : src = accB t (kb t c)) (hdst : dst = landM t s (pa t s c)) (hd : d = pa t s c) (hS : sS = sendS t s) (hR : sR = recvS t s) :
    iprop(Ctx a ∗ laneA c t s ∗ reached ER (recvCell (pa t s c) t s) 0 ∗ blkAt (accB t (kb t c)) c (sent a t s c)
        ∗ blkAny (F := F) (landM t s (pa t s c)) (pa t s c) ∗ owesE c (Ow c n))
      ⊢ iprop(((laneB c t s ∗ owesE c (Ow c (n + 1))) -∗ WP c (k ⟨⟩) Q)
        -∗ WP c (.op (.enqueueDma (sq src) (.remote (d : Thread nD τ) (sq dst) (.dma sS) hsc) (.dma sR) h1 h2 h3) k) Q) := by
  subst hsrc hdst hd hS hR
  unfold laneA laneB blkAny owesE
  conv_lhs => unfold blkAt
  iintro ⟨#HC, ⟨HatS, #HrS, HtS, HatR, HtR, Hcr⟩, #HrR, ⟨%f, %hf, Hsrc⟩, ⟨%w', %g, %hg, Hdst⟩, ⟨%W, HO⟩⟩ Hk
  ihave #HIS := (Ctx_inv a _ (send_mem c t s)) $$ HC
  ihave #HIR := (Ctx_inv a _ (recv_mem (pa t s c) t s)) $$ HC
  icases HIS with ⟨%κ₁, HIS⟩
  icases HIR with ⟨%κ₂, HIR⟩
  iapply (Rounds.wp_send_pointsTo 𝒱₀ ER (Rd a) (c : Thread nD τ) none (c' := (pa t s c : Thread nD τ)) (src := sq (accB t (kb t c)))
      (dst := sq (landM t s (pa t s c))) (sS := .dma (sendS t s)) (sem := .dma (recvS t s)) (q := fullShare) (fs := f) (κ₁ := κ₁) (κ₂ := κ₂)
      (r₁ := 0) (r₂ := 0) (d₁ := 0) (d₂ := 0) (fd := g)
      (by rw [duties_send]; exact Finset.mem_singleton_self _) (by rw [duties_recv]; exact Finset.mem_singleton_self _)
      () () N (credit_land t s _) (amount_send a c t s 0) (amount_recv a (pa t s c) t s 0) (Ow c (n + 1))
      ((Ow_succ c n (by omega)).trans (by rw [cell_of c t s n hn])) (W := W)
      (by rw [payload_send, blkAt_sq]; exact (blkAt_intro _ c f _ hf).trans (send_pay a c t s hs))
      (by
        rw [payload_recv, blkAt_sq]
        refine (blkAt_intro _ _ _ _ ((read_copied _ _ _ _).trans hf)).trans ?_
        have := recv_pay a (pa t s c) t s hs
        rwa [pa_pa] at this)) $$ [Hsrc Hdst HO HtS HtR]
  · isplitr; · iexact HIS
    isplitr; · iexact HIR
    isplitl [Hsrc]; · rw [blkAt_sq]; iexact Hsrc
    isplitl [Hdst]; · rw [blkAt_sq]; iexact Hdst
    isplitl [HO]; · iexact HO
    isplitl [HtS]; · iexact HtS
    isplitr; · iexact HrS
    isplitl [HtR]; · iexact HtR
    iexact HrR
  iintro ⟨HcS, HO⟩
  iapply Hk
  isplitr [HO]
  · isplitl [HatS]; · iexact HatS
    isplitl [HcS]; · iexact HcS
    isplitl [HatR]; · iexact HatR
    iexact Hcr
  iexists W; iexact HO

set_option maxHeartbeats 1000000 in
/-- A copy of the first stage: the block it leaves from goes, with the block it lands in, to the partner. -/
theorem send_land {α : Type} (c : Dev nD) (t : Fin 3) (n : ℕ) (hn : n = t.val) {d : Dev nD}
    {src dst : Memref sig .tc .vmem S1x512x256 .bf16} {sS sR : DmaSem sig} {hsc : (sq dst).view.ref.isScScratch = false}
    {h1 : (sq src).view.WordExact} {h2 : (sq dst).view.WordExact}
    {h3 : DmaTarget.Typed .vmem (.dma sR) (.remote (d : Thread nD τ) (sq dst) (.dma sS) hsc)}
    {k : PUnit → Prog (TpuEff nD τ sig (Elt F) Λ₀ .tc) α} {Q : α → sProp 𝕄}
    (hsrc : src = accB t (ot t c)) (hdst : dst = rxB t 0) (hd : d = pa t 0 c) (hS : sS = sendS t 0) (hR : sR = recvS t 0) :
    iprop(Ctx a ∗ laneA c t 0 ∗ reached ER (recvCell (pa t 0 c) t 0) 0 ∗ blkAt (accB t (ot t c)) c (a c t (ot t c))
        ∗ blkAny (F := F) (rxB t 0) (pa t 0 c) ∗ owesE c (Ow c n))
      ⊢ iprop(((laneB c t 0 ∗ owesE c (Ow c (n + 1))) -∗ WP c (k ⟨⟩) Q)
        -∗ WP c (.op (.enqueueDma (sq src) (.remote (d : Thread nD τ) (sq dst) (.dma sS) hsc) (.dma sR) h1 h2 h3) k) Q) := by
  subst hsrc hdst hd hS hR
  unfold laneA laneB blkAny owesE
  conv_lhs => unfold blkAt
  iintro ⟨#HC, ⟨HatS, #HrS, HtS, HatR, HtR, Hcr⟩, #HrR, ⟨%f, %hf, Hsrc⟩, ⟨%w', %g, %hg, Hdst⟩, ⟨%W, HO⟩⟩ Hk
  ihave #HIS := (Ctx_inv a _ (send_mem c t 0)) $$ HC
  ihave #HIR := (Ctx_inv a _ (recv_mem (pa t 0 c) t 0)) $$ HC
  icases HIS with ⟨%κ₁, HIS⟩
  icases HIR with ⟨%κ₂, HIR⟩
  iapply (Rounds.wp_send_landing_pointsTo 𝒱₀ ER (Rd a) (c : Thread nD τ) none (c' := (pa t 0 c : Thread nD τ)) (src := sq (accB t (ot t c)))
      (dst := sq (rxB t 0)) (sS := .dma (sendS t 0)) (sem := .dma (recvS t 0)) (q := fullShare) (fs := f) (κ₁ := κ₁) (κ₂ := κ₂)
      (r₁ := 0) (r₂ := 0) (d₁ := 0) (d₂ := 0) (fd := g)
      (by rw [duties_send]; exact Finset.mem_singleton_self _) (by rw [duties_recv]; exact Finset.mem_singleton_self _)
      () () N (credit_rx t 0) (amount_send a c t 0 0) (amount_recv a (pa t 0 c) t 0 0) (Ow c (n + 1))
      ((Ow_succ c n (by omega)).trans (by rw [cell_of c t 0 n (by rw [hn]; show _ = 3 * 0 + _; omega)])) (W := W)
      (by rw [payload_send]; unfold sendPay; exact BI.Entails.refl _)
      (by
        rw [payload_recv, blkAt_sq, blkAt_sq]
        show _ ⊢ iprop(blkAt (rxB t 0) (pa t 0 c) (sent a t 0 (pa t 0 (pa t 0 c))) ∗ blkAny (F := F) (accB t (kb t (pa t 0 c))) (pa t 0 (pa t 0 c)))
        rw [pa_pa, kb_first]
        iintro ⟨Hd, Hs⟩
        isplitl [Hd]
        · iapply (blkAt_intro (rxB t 0) (pa t 0 c) _ _ ((read_copied (accB t (ot t c)) (rxB t 0) g f).trans hf)); iexact Hd
        · unfold blkAny; iexists _; iapply (blkAt_intro _ c f _ hf); iexact Hs)) $$ [Hsrc Hdst HO HtS HtR]
  · isplitr; · iexact HIS
    isplitr; · iexact HIR
    isplitl [Hsrc]; · rw [blkAt_sq]; iexact Hsrc
    isplitl [Hdst]; · rw [blkAt_sq]; iexact Hdst
    isplitl [HO]; · iexact HO
    isplitl [HtS]; · iexact HtS
    isplitr; · iexact HrS
    isplitl [HtR]; · iexact HtR
    iexact HrR
  iintro ⟨HcS, HO⟩
  iapply Hk
  isplitr [HO]
  · isplitl [HatS]; · iexact HatS
    isplitl [HcS]; · iexact HcS
    isplitl [HatR]; · iexact HatR
    iexact Hcr
  iexists W; iexact HO

set_option maxHeartbeats 1000000 in
/-- The wait for the departure of the device's own copy. -/
theorem wait_send {α : Type} (c : Dev nD) (t : Fin 3) (s : Fin 4) (n : ℕ)
    {s₁ s₂ : Shape} {e₁ e₂ : EltTy} {M₁ : Memref sig .tc .vmem s₁ e₁} {M₂ : Memref sig .tc .vmem s₂ e₂} {sS : DmaSem sig}
    {h1 : M₁.view.WordExact} {h2 : M₂.view.WordExact}
    {k : PUnit → Prog (TpuEff nD τ sig (Elt F) Λ₀ .tc) α} {Q : α → sProp 𝕄}
    (hS : sS = sendS t s) (hN : M₂.view.dmaCredit = N) :
    iprop(Ctx a ∗ laneB c t s ∗ owesE c (Ow c n))
      ⊢ iprop(((laneC c t s ∗ sendPay a c t s ∗ owesE c (Ow c n)) -∗ WP c (k ⟨⟩) Q)
        -∗ WP c (.op (.waitDma2 sS M₁ M₂ h1 h2) k) Q) := by
  subst hS
  unfold laneB laneC owesE
  iintro ⟨#HC, ⟨HatS, HcS, HatR, Hcr⟩, ⟨%W, HO⟩⟩ Hk
  ihave #HIS := (Ctx_inv a _ (send_mem c t s)) $$ HC
  icases HIS with ⟨%κ, HIS⟩
  iapply (Rounds.wp_wait_rest_token 𝒱₀ ER (Rd a) (c : Thread nD τ) none (κ := κ) (k' := N)
      (fun K => by rw [← hN]; exact wpE_waitDma2_eq 𝒱₀ (c : Thread nD τ) none Set.univ K) (Set.mem_univ _) () (O := Ow c n) (W := W) (R := 0) (m := 0) (T := ∅)
      ((Nat.zero_add _).trans (expect_send a c t s).symm)) $$ [HcS HO HatS]
  · isplitr; · iexact HIS
    isplitl [HcS]; · iexact HcS
    isplitl [HO]; · iexact HO
    isplitr; · iapply (mayWait_send c t s n); iapply (Ctx_lev a); iexact HC
    iexact HatS
  iintro ⟨HO, HatS, -, Hpay⟩
  ihave Hp := (Entails.of_eq (rest_send a c t s)) $$ Hpay
  imod (close a κ (sendCell c t s)) $$ [HatS] with Hv
  · isplitr; · iexact HIS
    iexact HatS
  iapply Hk
  isplitl [Hv HatR Hcr]
  · isplitl [Hv]; · iexact Hv
    isplitl [HatR]; · iexact HatR
    iexact Hcr
  isplitl [Hp]; · iexact Hp
  iexists _; iexact HO

set_option maxHeartbeats 1000000 in
/-- The wait for the arrival of the partner's copy. -/
theorem wait_recv {α : Type} (c : Dev nD) (t : Fin 3) (s : Fin 4) (n : ℕ) (hn : 3 * (s.val + 1) ≤ n)
    {s₁ s₂ : Shape} {e₁ e₂ : EltTy} {M₁ : Memref sig .tc .vmem s₁ e₁} {M₂ : Memref sig .tc .vmem s₂ e₂} {sR : DmaSem sig}
    {h1 : M₁.view.WordExact} {h2 : M₂.view.WordExact}
    {k : PUnit → Prog (TpuEff nD τ sig (Elt F) Λ₀ .tc) α} {Q : α → sProp 𝕄}
    (hR : sR = recvS t s) (hN : M₂.view.dmaCredit = N) :
    iprop(Ctx a ∗ laneC c t s ∗ owesE c (Ow c n))
      ⊢ iprop(((laneD c t s ∗ recvPay a c t s ∗ owesE c (Ow c n)) -∗ WP c (k ⟨⟩) Q)
        -∗ WP c (.op (.waitDma2 sR M₁ M₂ h1 h2) k) Q) := by
  subst hR
  unfold laneD laneC owesE
  iintro ⟨#HC, ⟨Hv, HatR, Hcr⟩, ⟨%W, HO⟩⟩ Hk
  ihave #HIR := (Ctx_inv a _ (recv_mem c t s)) $$ HC
  icases HIR with ⟨%κ, HIR⟩
  iapply (Rounds.wp_wait_rest_token 𝒱₀ ER (Rd a) (c : Thread nD τ) none (κ := κ) (k' := N)
      (fun K => by rw [← hN]; exact wpE_waitDma2_eq 𝒱₀ (c : Thread nD τ) none Set.univ K) (Set.mem_univ _) () (O := Ow c n) (W := W) (R := 0) (m := 0) (T := ∅)
      ((Nat.zero_add _).trans (expect_recv a c t s).symm)) $$ [Hcr HO HatR]
  · isplitr; · iexact HIR
    isplitl [Hcr]; · iexact Hcr
    isplitl [HO]; · iexact HO
    isplitr; · iapply (mayWait_recv c t s n hn); iapply (Ctx_lev a); iexact HC
    iexact HatR
  iintro ⟨HO, HatR, -, Hpay⟩
  ihave Hp := (Entails.of_eq (rest_recv a c t s)) $$ Hpay
  imod (close a κ (recvCell c t s)) $$ [HatR] with Hw
  · isplitr; · iexact HIR
    iexact HatR
  iapply Hk
  isplitl [Hv Hw]
  · isplitl [Hv]; · iexact Hv
    iexact Hw
  isplitl [Hp]; · iexact Hp
  iexists _; iexact HO

/-- The signal to the partner under mask `b`. -/
theorem signal {α : Type} (c : Dev nD) (b : Fin 3) (O : CellTallies nD τ sig Unit) {d : Dev nD} {sm : Sem sig} {j : ℤ} (hj : j = 1)
    {k : PUnit → Prog (TpuEff nD τ sig (Elt F) Λ₀ .tc) α} {Q : α → sProp 𝕄} (hd : d = pr b c) (hs : sm = barS) :
    iprop(Ctx a ∗ dutyTok ER (barCell (pr b c)) 0 b ∗ reached ER (barCell (pr b c)) 0 ∗ barPay (F := F) (pr b c) b
        ∗ owesE c (O + tallyAt (barCell (pr b c)) () 1))
      ⊢ iprop((owesE c O -∗ WP c (k ⟨⟩) Q) -∗ WP c (.op (.semSignal (d : Thread nD τ) sm j) k) Q) := by
  subst hd hs hj
  unfold owesE
  iintro ⟨#HC, Ht, Hr, Hp, ⟨%W, HO⟩⟩ Hk
  ihave #HI := (Ctx_inv a _ (bar_mem (pr b c))) $$ HC
  icases HI with ⟨%κ, HI⟩
  iapply (Rounds.wp_signal 𝒱₀ ER (Rd a) (c : Thread nD τ) none (dst := (pr b c : Thread nD τ)) (sem := barS) (r := 0) (d := b) (κ := κ)
      (by rw [duties_bar]; exact Finset.mem_univ _) (amount_bar a (pr b c) b) () O rfl (W := W)) $$ [Ht Hr Hp HO]
  · isplitr; · iexact HI
    isplitl [HO]; · iexact HO
    isplitl [Ht]; · iexact Ht
    isplitl [Hp]; · rw [payload_bar]; iexact Hp
    iexact Hr
  iintro HO
  iapply Hk
  iexists W; iexact HO

/-- The wait for the three partners' signals. -/
theorem wait_bar {α : Type} (c : Dev nD) {sm : Sem sig} {j : ℤ} (hj : j = 3)
    {k : PUnit → Prog (TpuEff nD τ sig (Elt F) Λ₀ .tc) α} {Q : α → sProp 𝕄} (hs : sm = barS) :
    iprop(Ctx a ∗ atPos ER (barCell c) 0 ∅ 0 ∗ cred (tallyAt (barCell c) () 3) ∗ owesE c (Ow c 0))
      ⊢ iprop(((semVal (barCell c) 0 ∗ barPay (F := F) c 0 ∗ barPay (F := F) c 1 ∗ barPay (F := F) c 2 ∗ owesE c (Ow c 0)) -∗ WP c (k ⟨⟩) Q)
        -∗ WP c (.op (.semWait sm j) k) Q) := by
  subst hs hj
  unfold owesE
  iintro ⟨#HC, Hat, Hcr, ⟨%W, HO⟩⟩ Hk
  ihave #HI := (Ctx_inv a _ (bar_mem c)) $$ HC
  icases HI with ⟨%κ, HI⟩
  iapply (Rounds.wp_wait_rest_token 𝒱₀ ER (Rd a) (c : Thread nD τ) none (κ := κ) (k' := 3)
      (wpE_semWait_eq 𝒱₀ (c : Thread nD τ) none Set.univ) (Set.mem_univ _) () (O := Ow c 0) (W := W) (R := 0) (m := 0) (T := ∅)
      ((Nat.zero_add _).trans (expect_bar a c).symm)) $$ [Hcr HO Hat]
  · isplitr; · iexact HI
    isplitl [Hcr]; · iexact Hcr
    isplitl [HO]; · iexact HO
    isplitr; · iapply (mayWait_bar c); iapply (Ctx_lev a); iexact HC
    iexact Hat
  iintro ⟨HO, Hat, -, Hpay⟩
  ihave Hp := (Entails.of_eq (rest_bar a c)) $$ Hpay
  icases Hp with ⟨H0, H1, H2⟩
  imod (close a κ (barCell c)) $$ [Hat] with Hv
  · isplitr; · iexact HI
    iexact Hat
  iapply Hk
  isplitl [Hv]; · iexact Hv
  isplitl [H0]; · iexact H0
  isplitl [H1]; · iexact H1
  isplitl [H2]; · iexact H2
  iexists _; iexact HO

/-- A program that returns. -/
theorem WP_ret {α : Type} (c : Dev nD) {x : α} {Q : α → sProp 𝕄} : Q x ⊢ WP c (.ret x) Q := by
  unfold WP
  rw [wp_ret]
  iintro H; imodintro; iexact H

/-- A part of a program, then the rest. -/
theorem WP_bind {α β : Type} (c : Dev nD) {p : Prog (TpuEff nD τ sig (Elt F) Λ₀ .tc) α} {k : α → Prog (TpuEff nD τ sig (Elt F) Λ₀ .tc) β}
    {Q : β → sProp 𝕄} : WP c p (fun x => WP c (k x) Q) ⊢ WP c (p >>= k) Q := by
  unfold WP
  rw [wp_bind]

/-! ## Loads and stores of a block -/

/-- A load of a block of the accumulator. -/
theorem load_acc {α : Type} (c : Dev nD) (M : Memref sig .tc .vmem S1x512x256 .bf16) (w : Tile F) {off : Fin 3 → Nat}
    {inb : ∀ i, off i + S1x512x256.size i ≤ S3x1024x256.size i} {hl} (hM : accAtOff off inb = M)
    {k : Tile F → Prog (TpuEff nD τ sig (Elt F) Λ₀ .tc) α} {Q : α → sProp 𝕄} :
    blkAt M c w ⊢ iprop((blkAt M c w -∗ WP c (k w) Q)
      -∗ WP c (.op (.load accM (Rect.unit (s := S3x1024x256) off S1x512x256.size inb).toLoadRect hl) k) Q) := by
  subst hM
  unfold blkAt
  iintro ⟨%f, %hf, H⟩ Hk
  subst hf
  iapply (wp_load_rect 𝒱₀ (c : Thread nD τ) none Set.univ (m := accM) (r := Rect.unit (s := S3x1024x256) off S1x512x256.size inb) (subset_refl _)) $$ H
  iintro H
  iapply Hk
  iexists f; isplitr
  · ipureintro; rfl
  iexact H

/-- A load of a block of the landing buffer. -/
theorem load_rx {α : Type} (c : Dev nD) (M : Memref sig .tc .vmem S1x512x256 .bf16) (w : Tile F) {off : Fin 3 → Nat}
    {inb : ∀ i, off i + S1x512x256.size i ≤ S3x1536x256.size i} {hl} (hM : rxAtOff off inb = M)
    {k : Tile F → Prog (TpuEff nD τ sig (Elt F) Λ₀ .tc) α} {Q : α → sProp 𝕄} :
    blkAt M c w ⊢ iprop((blkAt M c w -∗ WP c (k w) Q)
      -∗ WP c (.op (.load rxM (Rect.unit (s := S3x1536x256) off S1x512x256.size inb).toLoadRect hl) k) Q) := by
  subst hM
  unfold blkAt
  iintro ⟨%f, %hf, H⟩ Hk
  subst hf
  iapply (wp_load_rect 𝒱₀ (c : Thread nD τ) none Set.univ (m := rxM) (r := Rect.unit (s := S3x1536x256) off S1x512x256.size inb) (subset_refl _)) $$ H
  iintro H
  iapply Hk
  iexists f; isplitr
  · ipureintro; rfl
  iexact H

/-- A store of a block of the accumulator. -/
theorem store_acc {α : Type} (c : Dev nD) (M : Memref sig .tc .vmem S1x512x256 .bf16) (w : Tile F) {v : Tile F} {off : Fin 3 → Nat}
    {inb : ∀ i, off i + S1x512x256.size i ≤ S3x1024x256.size i} {hx hm} (hM : accAtOff off inb = M)
    {k : PUnit → Prog (TpuEff nD τ sig (Elt F) Λ₀ .tc) α} {Q : α → sProp 𝕄} :
    blkAt M c w ⊢ iprop((blkAt M c v -∗ WP c (k ⟨⟩) Q)
      -∗ WP c (.op (.store accM (Rect.unit (s := S3x1024x256) off S1x512x256.size inb) v Finset.univ hx hm) k) Q) := by
  subst hM
  unfold blkAt
  iintro ⟨%f, %hf, H⟩ Hk
  iapply (wp_store 𝒱₀ (c : Thread nD τ) none Set.univ (m := accM) (r := Rect.unit (s := S3x1024x256) off S1x512x256.size inb)
    (S := (accAtOff off inb).view.set) (by rw [View.setOn_univ])) $$ H
  iintro H
  iapply Hk
  iexists _; isplitr
  swap
  · iexact H
  · ipureintro; exact View.read_write_univ _ _

end Cert.KernelIdeal.Run

end
-- ==== Proof.Hold.lean ====
/- Buffers held at stated contents, read and written rectangle by rectangle. -/
module

public import proofs.«01_k».proof.Proof.Rules

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {s : Shape} {e : EltTy}

/-- Device `c` owns what `M` addresses, and reads `w` there. -/
def valAt (M : Memref sig .tc .vmem s e) (c : Dev nD) (w : s.Idx → Elt F e) : sProp 𝕄 :=
  iprop(∃ f : M.view.ty.Contents (Elt F), ⌜M.view.read (Elt F) f = w⌝ ∗ ((M.view.loc (c : Thread nD τ)) ↦[M.view.set]{fullShare} f))

/-- A load of a rectangle reads that rectangle of the contents. -/
theorem load_val {α : Type} (c : Dev nD) (M : Memref sig .tc .vmem s e) (w : s.Idx → Elt F e) (r : Rect s) {hl}
    {k : (r.shape.Idx → Elt F e) → Prog (TpuEff nD τ sig (Elt F) Λ₀ .tc) α} {Q : α → sProp 𝕄} :
    valAt M c w ⊢ iprop((valAt M c w -∗ WP c (k (fun x => w (r.emb x))) Q)
      -∗ WP c (.op (.load M r.toLoadRect hl) k) Q) := by
  unfold valAt
  iintro ⟨%f, %hf, H⟩ Hk
  subst hf
  iapply (wp_load_rect 𝒱₀ (c : Thread nD τ) none Set.univ (m := M) (r := r) (M.view.set_slice_subset r)) $$ H
  iintro H
  iapply Hk
  iexists f; isplitr
  · ipureintro; rfl
  iexact H

/-- A load of the whole shape reads the contents. -/
theorem load_all {α : Type} (c : Dev nD) (M : Memref sig .tc .vmem s e) (w : s.Idx → Elt F e) {off : Fin s.rank → Nat}
    (ho : off = fun _ => 0) {inb : ∀ i, off i + s.size i ≤ s.size i} {hl}
    {k : (s.Idx → Elt F e) → Prog (TpuEff nD τ sig (Elt F) Λ₀ .tc) α} {Q : α → sProp 𝕄} :
    valAt M c w ⊢ iprop((valAt M c w -∗ WP c (k w) Q)
      -∗ WP c (.op (.load M (Rect.unit (s := s) off s.size inb).toLoadRect hl) k) Q) := by
  subst ho
  have h := load_val (Q := Q) c M w (Rect.unit (s := s) (fun _ => 0) s.size inb) (hl := hl) (k := k)
  have he : (fun x => w ((Rect.unit (s := s) (fun _ => 0) s.size inb).emb x)) = w :=
    funext fun x => congrArg w (Rect.emb_whole_apply s x)
  rw [he] at h
  exact h

/-- A store of a rectangle puts the payload there and leaves the rest. -/
theorem store_val {α : Type} (c : Dev nD) (M : Memref sig .tc .vmem s e) (w : s.Idx → Elt F e) (r : Rect s)
    {v : r.shape.Idx → Elt F e} {hx hm}
    {k : PUnit → Prog (TpuEff nD τ sig (Elt F) Λ₀ .tc) α} {Q : α → sProp 𝕄} :
    valAt M c w ⊢ iprop((∀ g : s.Idx → Elt F e, ⌜(∀ x, g (r.emb x) = v x) ∧ ∀ i, i ∉ r.set → g i = w i⌝ -∗ valAt M c g -∗ WP c (k ⟨⟩) Q)
      -∗ WP c (.op (.store M r v Finset.univ hx hm) k) Q) := by
  unfold valAt
  iintro ⟨%f, %hf, H⟩ Hk
  subst hf
  iapply (wp_store 𝒱₀ (c : Thread nD τ) none Set.univ (m := M) (r := r) (S := M.view.set)
    (by rw [View.setOn_univ]; exact M.view.set_slice_subset r)) $$ H
  iintro H
  iapply Hk $$ %(M.view.read (Elt F) ((M.access r).write (Elt F) f v Finset.univ)) [] [H]
  · ipureintro
    exact ⟨fun x => View.read_slice_write_emb (v := M.view) r f v (Finset.mem_univ x),
      fun i hi => View.read_slice_write_of_not_mem (v := M.view) r f v Finset.univ (by rw [Rect.map_emb_univ]; exact hi)⟩
  iexists _; isplitr
  swap
  · iexact H
  · ipureintro; rfl

/-! ## A buffer filled by rectangles -/

/-- The first `k` of the rectangles `rs` hold the values `v`. -/
def partAt {n : ℕ} (M : Memref sig .tc .vmem s e) (c : Dev nD) (rs : Fin n → Rect s) (v : (i : Fin n) → (rs i).shape.Idx → Elt F e)
    (k : ℕ) : sProp 𝕄 :=
  iprop(∃ w : s.Idx → Elt F e, ⌜∀ i : Fin n, i.val < k → ∀ x, w ((rs i).emb x) = v i x⌝ ∗ valAt M c w)

theorem partAt_intro {n : ℕ} (M : Memref sig .tc .vmem s e) (c : Dev nD) (rs : Fin n → Rect s) (v : (i : Fin n) → (rs i).shape.Idx → Elt F e)
    (w : s.Idx → Elt F e) : valAt M c w ⊢ partAt M c rs v 0 := by
  unfold partAt
  iintro H
  iexists w; isplitr
  · ipureintro; exact fun i hi => absurd hi (Nat.not_lt_zero _)
  iexact H

/-- A load that is not used. -/
theorem part_load {α : Type} {n : ℕ} (c : Dev nD) (M : Memref sig .tc .vmem s e) (rs : Fin n → Rect s) (v : (i : Fin n) → (rs i).shape.Idx → Elt F e)
    (j : ℕ) (r : Rect s) {hl}
    {p : Prog (TpuEff nD τ sig (Elt F) Λ₀ .tc) α} {Q : α → sProp 𝕄} :
    partAt M c rs v j ⊢ iprop((partAt M c rs v j -∗ WP c p Q)
      -∗ WP c (.op (.load M r.toLoadRect hl) (fun _ => p)) Q) := by
  unfold partAt
  iintro ⟨%w, %hw, H⟩ Hk
  iapply (load_val c M w r) $$ H
  iintro H
  iapply Hk
  iexists w; isplitr
  · ipureintro; exact hw
  iexact H

/-- A store of the next rectangle. -/
theorem part_store {α : Type} {n : ℕ} (c : Dev nD) (M : Memref sig .tc .vmem s e) (rs : Fin n → Rect s) (v : (i : Fin n) → (rs i).shape.Idx → Elt F e)
    (i : Fin n) (j : ℕ) (hi : i.val = j) {hx hm} (hd : ∀ i' : Fin n, i' < i → Disjoint (rs i').set (rs i).set)
    {p : (rs i).shape.Idx → Elt F e} (hp : p = v i)
    {k : PUnit → Prog (TpuEff nD τ sig (Elt F) Λ₀ .tc) α} {Q : α → sProp 𝕄} :
    partAt M c rs v j ⊢ iprop((partAt M c rs v (j + 1) -∗ WP c (k ⟨⟩) Q)
      -∗ WP c (.op (.store M (rs i) p Finset.univ hx hm) k) Q) := by
  subst hi hp
  unfold partAt
  iintro ⟨%w, %hw, H⟩ Hk
  iapply (store_val c M w (rs i)) $$ H
  iintro %g %hg H
  iapply Hk
  iexists g; isplitr
  · ipureintro
    intro i' hi' x
    rcases lt_or_eq_of_le (Nat.lt_succ_iff.mp hi') with h | h
    · rw [hg.2 _ (Finset.disjoint_left.mp (hd i' h) (by rw [← Rect.map_emb_univ]; exact Finset.mem_map_of_mem _ (Finset.mem_univ x)))]
      exact hw i' h x
    · obtain rfl := Fin.ext h
      exact hg.1 x
  iexact H

/-- Once the rectangles that cover the shape are filled, the contents are known. -/
theorem part_full {n : ℕ} (c : Dev nD) (M : Memref sig .tc .vmem s e) (rs : Fin n → Rect s) (v : (i : Fin n) → (rs i).shape.Idx → Elt F e)
    (w : s.Idx → Elt F e) (hw : ∀ y, ∃ i, ∃ x, (rs i).emb x = y ∧ w y = v i x) : partAt M c rs v n ⊢ valAt M c w := by
  unfold partAt
  iintro ⟨%g, %hg, H⟩
  have he : g = w := funext fun y => by
    obtain ⟨i, x, hx, hv⟩ := hw y
    rw [hv, ← hg i i.isLt x, hx]
  subst he
  iexact H

end Cert.KernelIdeal.Run

end
-- ==== Proof.Vals.lean ====
/- What one device computes from its own arguments: the heads of its attention and its partial result. -/
module

public import proofs.«01_k».proof.Proof.Hold
public import Idealize.ShloMosaic.Lib.Pointwise.Index

@[expose] public section

noncomputable section

namespace Cert.KernelIdeal.Run

open Idealize.ShloMosaic Idealize.ShloMosaic.TcCoe
open Cert.KernelIdeal Cert.KernelIdeal.Gen

variable {F : FTy → Type} [FloatOps F]

/-- One device's arguments: the activations, its columns of the query weights, its heads' keys (transposed) and values, and its
    rows of the output weights. -/
structure Ins (F : FTy → Type) where
  x : Vec F S2x512x768 .f32
  wq : Vec F S768x512 .f32
  kk : Vec F S2x512x512 .f32
  vv : Vec F S2x512x512 .f32
  wo : Vec F S512x768 .f32

/-- The keys of head `h` of batch `b`, -/
def kRect (b : Fin 2) (h : Fin 8) : Rect S2x512x512 :=
  Rect.unit (s := S2x512x512) ![b.val, 64 * h.val, 0] S1x64x512.size (by
    intro i; fin_cases i
    · show b.val + 1 ≤ 2; omega
    · show 64 * h.val + 64 ≤ 512; omega
    · show 0 + 512 ≤ 512; omega)
/-- its values, -/
def vRect (b : Fin 2) (h : Fin 8) : Rect S2x512x512 :=
  Rect.unit (s := S2x512x512) ![b.val, 0, 64 * h.val] S1x512x64.size (by
    intro i; fin_cases i
    · show b.val + 1 ≤ 2; omega
    · show 0 + 512 ≤ 512; omega
    · show 64 * h.val + 64 ≤ 512; omega)
/-- and its columns of the attention's result. -/
def cRect (h : Fin 8) : Rect S512x512 :=
  Rect.unit (s := S512x512) ![0, 64 * h.val] S512x64.size (by
    intro i; fin_cases i
    · show 0 + 512 ≤ 512; omega
    · show 64 * h.val + 64 ≤ 512; omega)

theorem cRect_disjoint (h h' : Fin 8) (hh : h < h') : Disjoint (cRect h).set (cRect h').set :=
  Rect.unit_disjoint (s := S512x512) 1 (.inl (show 64 * h.val + 64 ≤ 64 * h'.val by have : h.val < h'.val := hh; omega))

variable (I : Ins F)

/-- The queries of both batches. -/
abbrev qOf : FVec F S1024x512 .f32 := k0_pay2 I.x I.wq
/-- The mask: 1 where a query sees a key, else 0. -/
abbrev maskOf : FVec F S512x512 .f32 := k0_pay5 k0_pay3 k0_pay4
def kS (b : Fin 2) (h : Fin 8) : Vec F S1x64x512 .f32 := fun y => I.kk ((kRect b h).emb y)
def vS (b : Fin 2) (h : Fin 8) : Vec F S1x512x64 .f32 := fun y => I.vv ((vRect b h).emb y)

/-- The masked weights of one head, before their division by the row's sum. -/
def wOf (m : FVec F S512x512 .f32) (q : FVec F S512x64 .f32) (k : Vec F S1x64x512 .f32) : FVec F S512x512 .f32 :=
  mulf (exp (mulf (matmul dot_S512x64_S64x512_S512x512_1_0_0_1_n_n none q (shapeCast S64x512 k shapeCasts_S1x64x512_S64x512 : FVec F S64x512 .f32)
    (constant S512x512 .f32 0x00000000#32)) (broadcast S512x512 (Scalar.ofBits .f32 0x3E000000#32)))) m

/-- One head: the weighted sum of the values over the sum of the weights. -/
def headOf (w : FVec F S512x512 .f32) (v : Vec F S1x512x64 .f32) : FVec F S512x64 .f32 :=
  shapeCast S512x64 (divf (matmul dot_S512x512_S512x64_S512x64_1_0_0_1_n_n none w (shapeCast S512x64 v shapeCasts_S1x512x64_S512x64 : FVec F S512x64 .f32)
      (constant S512x64 .f32 0x00000000#32))
    (broadcastTo S512x64 (shapeCast S512x1 (multiReduction .add [1] S512 w 0x00000000#32 reduces_S512x512_S512 (.inl rfl) rfl : FVec F S512 .f32) shapeCasts_S512_S512x1) broadcasts_S512x1_S512x64))
    shapeCasts_S512x64_S512x64

theorem q_slices (b : Fin 2) (h : Fin 8) : S1024x512.Slices ![512 * b.val, 64 * h.val] S512x64 :=
  ⟨rfl, by
    intro i; fin_cases i
    · show 512 * b.val + 512 ≤ 1024; omega
    · show 64 * h.val + 64 ≤ 512; omega⟩

/-- Head `h` of batch `b`. -/
def hd (b : Fin 2) (h : Fin 8) : (cRect h).shape.Idx → F .f32 :=
  headOf (wOf maskOf (extractStridedSlice S512x64 ![512 * b.val, 64 * h.val] (qOf I) (q_slices b h)) (kS I b h)) (vS I b h)

/-- The attention's result of batch `b`, all heads side by side. -/
def ctxOf (b : Fin 2) : Vec F S512x512 .f32 := fun y =>
  hd I b ⟨(y 1).val / 64, by have h : (y 1).val < 512 := (y 1).isLt; omega⟩
    (ix2 (n0 := 512) (n1 := 64) (y 0) ⟨(y 1).val % 64, Nat.mod_lt _ (by decide)⟩)

theorem o_slices (t : Fin 3) : S512x768.Slices ![0, 256 * t.val] S512x256 :=
  ⟨rfl, by
    intro i; fin_cases i
    · show 0 + 512 ≤ 512; omega
    · show 256 * t.val + 256 ≤ 768; omega⟩

/-- Chunk `t` of the partial result of one batch. -/
def tileOf (t : Fin 3) (ctx : Vec F S512x512 .f32) (wo : Vec F S512x768 .f32) : Vec F S1x512x256 .bf16 :=
  shapeCast S1x512x256 (truncf .bf16 (extractStridedSlice S512x256 ![0, 256 * t.val] (k0_pay23 ctx wo) (o_slices t)) bitsLt_bf16_f32 : FVec F S512x256 .bf16)
    shapeCasts_S512x256_S1x512x256

/-- What a device's accumulator holds before any copy: chunk `t`, batch `h`. -/
def acc0 (t : Fin 3) (h : Fin 2) : Vec F S1x512x256 .bf16 := tileOf t (ctxOf I h) I.wo

theorem ctx_cover (b : Fin 2) (y : S512x512.Idx) : ∃ i, ∃ x, (cRect i).emb x = y ∧ ctxOf I b y = hd I b i x := by
  have h1 : (y 1).val < 512 := (y 1).isLt
  refine ⟨⟨(y 1).val / 64, by omega⟩, (ix2 (n0 := 512) (n1 := 64) (y 0) ⟨(y 1).val % 64, Nat.mod_lt _ (by decide)⟩), ?_, rfl⟩
  funext i
  refine Fin.ext ?_
  refine (Rect.emb_apply _ _ i).trans ?_
  fin_cases i
  · show 0 + 1 * (y 0).val = (y 0).val; omega
  · show 64 * ((y 1).val / 64) + 1 * ((y 1).val % 64) = (y 1).val; omega

end Cert.KernelIdeal.Run

end
-- ==== Proof.Compute.lean ====
/- The computing parts of the kernel's body: the barrier, the heads of both batches, the partial results. -/
module

public import proofs.«01_k».proof.Proof.Vals

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (a : Dev nD → Fin 3 → Fin 2 → Tile F) (I : Ins F)

variable (arg0 : Memref sig .tc .vmem S2x512x768 .f32) (harg0 : arg0.IsWhole) (arg1 : Memref sig .tc .vmem S768x512 .f32) (harg1 : arg1.IsWhole)
  (arg2 : Memref sig .tc .vmem S2x512x512 .f32) (harg2 : arg2.IsWhole) (arg3 : Memref sig .tc .vmem S2x512x512 .f32) (harg3 : arg3.IsWhole)
  (arg4 : Memref sig .tc .vmem S512x768 .f32) (harg4 : arg4.IsWhole) (arg5 : Memref sig .tc .vmem S2x512x768 .f32) (harg5 : arg5.IsWhole)
  (hA : (accM).IsWhole) (hX : (rxM).IsWhole) (arg8 : Memref sig .tc .vmem S512x512 .f32) (harg8 : arg8.IsWhole)

theorem zero2 : (![0, 0] : Fin 2 → Nat) = fun _ => 0 := by funext i; fin_cases i <;> rfl
theorem zero3 : (![0, 0, 0] : Fin 3 → Nat) = fun _ => 0 := by funext i; fin_cases i <;> rfl
theorem acc_off (t : Fin 3) (h : Fin 2) : (![t.val, 512 * h.val, 0] : Fin 3 → Nat) = accOff t h := rfl

/-- A load, not used, of a block held at anything. -/
theorem any_load {α : Type} (c : Dev nD) (M : Memref sig .tc .vmem S1x512x256 .bf16) {off : Fin 3 → Nat}
    {inb : ∀ i, off i + S1x512x256.size i ≤ S3x1024x256.size i} {hl} (hM : accAtOff off inb = M)
    {p : Prog (TpuEff nD τ sig (Elt F) Λ₀ .tc) α} {Q : α → sProp 𝕄} :
    blkAny (F := F) M c ⊢ iprop((blkAny (F := F) M c -∗ WP c p Q)
      -∗ WP c (.op (.load accM (Rect.unit (s := S3x1024x256) off S1x512x256.size inb).toLoadRect hl) (fun _ => p)) Q) := by
  unfold blkAny
  iintro ⟨%w, H⟩ Hk
  iapply (load_acc c M w hM) $$ H
  iintro H
  iapply Hk
  iexists w; iexact H

/-- A store of a block held at anything. -/
theorem any_store {α : Type} (c : Dev nD) (M : Memref sig .tc .vmem S1x512x256 .bf16) {v : Tile F} {off : Fin 3 → Nat}
    {inb : ∀ i, off i + S1x512x256.size i ≤ S3x1024x256.size i} {hx hm} (hM : accAtOff off inb = M)
    {k : PUnit → Prog (TpuEff nD τ sig (Elt F) Λ₀ .tc) α} {Q : α → sProp 𝕄} :
    blkAny (F := F) M c ⊢ iprop((blkAt M c v -∗ WP c (k ⟨⟩) Q)
      -∗ WP c (.op (.store accM (Rect.unit (s := S3x1024x256) off S1x512x256.size inb) v Finset.univ hx hm) k) Q) := by
  unfold blkAny
  iintro ⟨%w, H⟩ Hk
  iapply (store_acc c M w hM) $$ H
  iintro H
  iapply Hk
  iexact H

/-- A load of a head's keys, -/
theorem load_k {α : Type} (c : Dev nD) (I : Ins F) (b : Fin 2) (h : Fin 8) (M : Memref sig .tc .vmem S2x512x512 .f32) {hl}
    {k : Vec F S1x64x512 .f32 → Prog (TpuEff nD τ sig (Elt F) Λ₀ .tc) α} {Q : α → sProp 𝕄} :
    valAt M c I.kk ⊢ iprop((valAt M c I.kk -∗ WP c (k (kS I b h)) Q)
      -∗ WP c (.op (.load M (kRect b h).toLoadRect hl) k) Q) := load_val c M I.kk (kRect b h)
/-- and of its values. -/
theorem load_v {α : Type} (c : Dev nD) (I : Ins F) (b : Fin 2) (h : Fin 8) (M : Memref sig .tc .vmem S2x512x512 .f32) {hl}
    {k : Vec F S1x512x64 .f32 → Prog (TpuEff nD τ sig (Elt F) Λ₀ .tc) α} {Q : α → sProp 𝕄} :
    valAt M c I.vv ⊢ iprop((valAt M c I.vv -∗ WP c (k (vS I b h)) Q)
      -∗ WP c (.op (.load M (vRect b h).toLoadRect hl) k) Q) := load_val c M I.vv (vRect b h)

/-- A program that reads its own device's number. -/
theorem WP_device {α : Type} (c : Dev nD) {k : Dev nD → Prog (TpuEff nD τ sig (Elt F) Λ₀ .tc) α} {Q : α → sProp 𝕄} :
    WP c (k c) Q ⊢ WP c (.op .deviceId k) Q := by
  unfold WP
  rw [wp_deviceId]

set_option maxHeartbeats 2000000 in
/-- Part 1 of the body: the barrier with the three partners, then the queries and the mask. -/
theorem run1 (c : Dev nD) (Q : (Σ' (d0 : Dev nD) (v2 : BitVec 32) (v18 : FVec F S1024x512 .f32) (v27 : IVec S512x512 1), IVec S512x512 1) → sProp 𝕄) :
    iprop(Ctx a ∗ (dutyTok ER (barCell (pr 0 c)) 0 0 ∗ reached ER (barCell (pr 0 c)) 0 ∗ barPay (F := F) (pr 0 c) 0)
        ∗ (dutyTok ER (barCell (pr 1 c)) 0 1 ∗ reached ER (barCell (pr 1 c)) 0 ∗ barPay (F := F) (pr 1 c) 1)
        ∗ (dutyTok ER (barCell (pr 2 c)) 0 2 ∗ reached ER (barCell (pr 2 c)) 0 ∗ barPay (F := F) (pr 2 c) 2)
        ∗ atPos ER (barCell c) 0 ∅ 0 ∗ cred (tallyAt (barCell c) () 3) ∗ owesE c (O₀ c) ∗ valAt arg0 c I.x ∗ valAt arg1 c I.wq)
      ⊢ iprop((∀ w, (semVal (barCell c) 0 ∗ barPay (F := F) c 0 ∗ barPay (F := F) c 1 ∗ barPay (F := F) c 2 ∗ owesE c (Ow c 0)
            ∗ valAt arg0 c I.x ∗ valAt arg1 c I.wq) -∗ Q ⟨c, w, qOf I, k0_pay3, k0_pay4⟩)
        -∗ WP c (k0_part1 arg0 harg0 arg1 harg1 arg2 harg2 arg3 harg3 arg4 harg4 arg5 harg5 accM hA rxM hX arg8 harg8 cc0_scratch3 cc0_scratch4) Q) := by
  rw [k0_part1_eq_skeleton]; unfold k0_part1_skel
  simp only [semSignalWord, semWaitWord, Prog.lift, Prog.bind_op, Prog.bind_ret, Prog.pure_eq_ret, Prog.bind_assoc]
  iintro ⟨#HC, ⟨t0, r0, p0⟩, ⟨t1, r1, p1⟩, ⟨t2, r2, p2⟩, Hat, Hcr, HO, hx, hq⟩ Hk
  iapply (WP_device c)
  iapply (signal a c 0 (Ow c 0 + tallyAt (barCell (pr 2 c)) () 1 + tallyAt (barCell (pr 1 c)) () 1) (by decide) (dev1_eq c) (by rfl)) $$ [t0 r0 p0 HO]
  · isplitr; · iexact HC
    isplitl [t0]; · iexact t0
    isplitl [r0]; · iexact r0
    isplitl [p0]; · iexact p0
    iexact HO
  iintro HO
  iapply (signal a c 1 (Ow c 0 + tallyAt (barCell (pr 2 c)) () 1) (by decide) (dev2_eq c) (by rfl)) $$ [t1 r1 p1 HO]
  · isplitr; · iexact HC
    isplitl [t1]; · iexact t1
    isplitl [r1]; · iexact r1
    isplitl [p1]; · iexact p1
    iexact HO
  iintro HO
  iapply (signal a c 2 (Ow c 0) (by decide) (dev3_eq c) (by rfl)) $$ [t2 r2 p2 HO]
  · isplitr; · iexact HC
    isplitl [t2]; · iexact t2
    isplitl [r2]; · iexact r2
    isplitl [p2]; · iexact p2
    iexact HO
  iintro HO
  iapply (wait_bar a c (by decide) (by rfl)) $$ [Hat Hcr HO]
  · isplitr; · iexact HC
    isplitl [Hat]; · iexact Hat
    isplitl [Hcr]; · iexact Hcr
    iexact HO
  iintro ⟨Hv, p0, p1, p2, HO⟩
  iapply (load_all c arg0 I.x zero3) $$ hx
  iintro hx
  iapply (load_all c arg1 I.wq zero2) $$ hq
  iintro hq
  iapply (WP_ret c)
  iapply Hk
  isplitl [Hv]; · iexact Hv
  isplitl [p0]; · iexact p0
  isplitl [p1]; · iexact p1
  isplitl [p2]; · iexact p2
  isplitl [HO]; · iexact HO
  isplitl [hx]; · iexact hx
  iexact hq

set_option maxHeartbeats 2000000 in
/-- Part 2 of the body. -/
theorem run2 (c : Dev nD) (Q : (Σ' (v32 : FVec F S512x512 .f32), FVec F S512x64 .f32) → sProp 𝕄) :
    iprop(valAt arg2 c I.kk ∗ valAt arg3 c I.vv ∗ partAt arg8 c cRect (hd I 0) 0)
      ⊢ iprop(((valAt arg2 c I.kk ∗ valAt arg3 c I.vv ∗ partAt arg8 c cRect (hd I 0) 1) -∗ Q ⟨maskOf, k0_pay7 (qOf I) k0_pay3 k0_pay4 (kS I 0 1) (vS I 0 1)⟩)
        -∗ WP c (k0_part2 arg0 harg0 arg1 harg1 arg2 harg2 arg3 harg3 arg4 harg4 arg5 harg5 accM hA rxM hX arg8 harg8 cc0_scratch3 cc0_scratch4 (qOf I) k0_pay3 k0_pay4) Q) := by
  rw [k0_part2_eq_skeleton]; unfold k0_part2_skel
  simp only [Prog.lift, Prog.bind_op, Prog.bind_ret, Prog.pure_eq_ret]
  iintro ⟨hk, hv, hc⟩ Hk
  iapply (load_k c I 0 0 arg2) $$ hk
  iintro hk
  iapply (load_v c I 0 0 arg3) $$ hv
  iintro hv
  iapply (part_load c arg8 cRect (hd I 0) 0 (cRect 0)) $$ hc
  iintro hc
  iapply (part_store c arg8 cRect (hd I 0) 0 0 rfl (fun i hi => cRect_disjoint i _ hi) (by rfl)) $$ hc
  iintro hc
  iapply (load_k c I 0 1 arg2) $$ hk
  iintro hk
  iapply (load_v c I 0 1 arg3) $$ hv
  iintro hv
  iapply (WP_ret c)
  iapply Hk
  isplitl [hk]; · iexact hk
  isplitl [hv]; · iexact hv
  iexact hc

set_option maxHeartbeats 2000000 in
/-- Part 3 of the body. -/
theorem run3 (c : Dev nD) (Q : (Σ' (v97 : FVec F S512x64 .f32), FVec F S512x64 .f32) → sProp 𝕄) :
    iprop(valAt arg2 c I.kk ∗ valAt arg3 c I.vv ∗ partAt arg8 c cRect (hd I 0) 1)
      ⊢ iprop(((valAt arg2 c I.kk ∗ valAt arg3 c I.vv ∗ partAt arg8 c cRect (hd I 0) 3) -∗ Q ⟨k0_pay11 (qOf I) maskOf (kS I 0 3) (vS I 0 3), k0_pay12 (qOf I) maskOf (kS I 0 3)⟩)
        -∗ WP c (k0_part3 arg0 harg0 arg1 harg1 arg2 harg2 arg3 harg3 arg4 harg4 arg5 harg5 accM hA rxM hX arg8 harg8 cc0_scratch3 cc0_scratch4 (qOf I) maskOf (k0_pay7 (qOf I) k0_pay3 k0_pay4 (kS I 0 1) (vS I 0 1))) Q) := by
  rw [k0_part3_eq_skeleton]; unfold k0_part3_skel
  simp only [Prog.lift, Prog.bind_op, Prog.bind_ret, Prog.pure_eq_ret]
  iintro ⟨hk, hv, hc⟩ Hk
  iapply (part_load c arg8 cRect (hd I 0) 1 (cRect 1)) $$ hc
  iintro hc
  iapply (part_store c arg8 cRect (hd I 0) 1 1 rfl (fun i hi => cRect_disjoint i _ hi) (by rfl)) $$ hc
  iintro hc
  iapply (load_k c I 0 2 arg2) $$ hk
  iintro hk
  iapply (load_v c I 0 2 arg3) $$ hv
  iintro hv
  iapply (part_load c arg8 cRect (hd I 0) 2 (cRect 2)) $$ hc
  iintro hc
  iapply (part_store c arg8 cRect (hd I 0) 2 2 rfl (fun i hi => cRect_disjoint i _ hi) (by rfl)) $$ hc
  iintro hc
  iapply (load_k c I 0 3 arg2) $$ hk
  iintro hk
  iapply (load_v c I 0 3 arg3) $$ hv
  iintro hv
  iapply (WP_ret c)
  iapply Hk
  isplitl [hk]; · iexact hk
  isplitl [hv]; · iexact hv
  iexact hc

set_option maxHeartbeats 2000000 in
/-- Part 4 of the body. -/
theorem run4 (c : Dev nD) (Q : (Σ' (v133 : FVec F S512x64 .f32), FVec F S512 .f32) → sProp 𝕄) :
    iprop(valAt arg2 c I.kk ∗ valAt arg3 c I.vv ∗ partAt arg8 c cRect (hd I 0) 3)
      ⊢ iprop(((valAt arg2 c I.kk ∗ valAt arg3 c I.vv ∗ partAt arg8 c cRect (hd I 0) 5) -∗ Q ⟨k0_pay16 (qOf I) maskOf (kS I 0 5) (vS I 0 5), k0_pay17 (qOf I) maskOf (kS I 0 5)⟩)
        -∗ WP c (k0_part4 arg0 harg0 arg1 harg1 arg2 harg2 arg3 harg3 arg4 harg4 arg5 harg5 accM hA rxM hX arg8 harg8 cc0_scratch3 cc0_scratch4 (qOf I) maskOf (k0_pay11 (qOf I) maskOf (kS I 0 3) (vS I 0 3)) (k0_pay12 (qOf I) maskOf (kS I 0 3))) Q) := by
  rw [k0_part4_eq_skeleton]; unfold k0_part4_skel
  simp only [Prog.lift, Prog.bind_op, Prog.bind_ret, Prog.pure_eq_ret]
  iintro ⟨hk, hv, hc⟩ Hk
  iapply (part_load c arg8 cRect (hd I 0) 3 (cRect 3)) $$ hc
  iintro hc
  iapply (part_store c arg8 cRect (hd I 0) 3 3 rfl (fun i hi => cRect_disjoint i _ hi) (by rfl)) $$ hc
  iintro hc
  iapply (load_k c I 0 4 arg2) $$ hk
  iintro hk
  iapply (load_v c I 0 4 arg3) $$ hv
  iintro hv
  iapply (part_load c arg8 cRect (hd I 0) 4 (cRect 4)) $$ hc
  iintro hc
  iapply (part_store c arg8 cRect (hd I 0) 4 4 rfl (fun i hi => cRect_disjoint i _ hi) (by rfl)) $$ hc
  iintro hc
  iapply (load_k c I 0 5 arg2) $$ hk
  iintro hk
  iapply (load_v c I 0 5 arg3) $$ hv
  iintro hv
  iapply (WP_ret c)
  iapply Hk
  isplitl [hk]; · iexact hk
  isplitl [hv]; · iexact hv
  iexact hc

set_option maxHeartbeats 2000000 in
/-- Part 5 of the body. -/
theorem run5 (c : Dev nD) (Q : (Σ' (v168 : FVec F S512x512 .f32), FVec F S512x64 .f32) → sProp 𝕄) :
    iprop(valAt arg2 c I.kk ∗ valAt arg3 c I.vv ∗ partAt arg8 c cRect (hd I 0) 5)
      ⊢ iprop(((valAt arg2 c I.kk ∗ valAt arg3 c I.vv ∗ partAt arg8 c cRect (hd I 0) 7) -∗ Q ⟨k0_pay20 (qOf I) maskOf (kS I 0 7), k0_pay21 (qOf I) maskOf (kS I 0 7) (vS I 0 7)⟩)
        -∗ WP c (k0_part5 arg0 harg0 arg1 harg1 arg2 harg2 arg3 harg3 arg4 harg4 arg5 harg5 accM hA rxM hX arg8 harg8 cc0_scratch3 cc0_scratch4 (qOf I) maskOf (k0_pay16 (qOf I) maskOf (kS I 0 5) (vS I 0 5)) (k0_pay17 (qOf I) maskOf (kS I 0 5))) Q) := by
  rw [k0_part5_eq_skeleton]; unfold k0_part5_skel
  simp only [Prog.lift, Prog.bind_op, Prog.bind_ret, Prog.pure_eq_ret]
  iintro ⟨hk, hv, hc⟩ Hk
  iapply (part_load c arg8 cRect (hd I 0) 5 (cRect 5)) $$ hc
  iintro hc
  iapply (part_store c arg8 cRect (hd I 0) 5 5 rfl (fun i hi => cRect_disjoint i _ hi) (by rfl)) $$ hc
  iintro hc
  iapply (load_k c I 0 6 arg2) $$ hk
  iintro hk
  iapply (load_v c I 0 6 arg3) $$ hv
  iintro hv
  iapply (part_load c arg8 cRect (hd I 0) 6 (cRect 6)) $$ hc
  iintro hc
  iapply (part_store c arg8 cRect (hd I 0) 6 6 rfl (fun i hi => cRect_disjoint i _ hi) (by rfl)) $$ hc
  iintro hc
  iapply (load_k c I 0 7 arg2) $$ hk
  iintro hk
  iapply (load_v c I 0 7 arg3) $$ hv
  iintro hv
  iapply (WP_ret c)
  iapply Hk
  isplitl [hk]; · iexact hk
  isplitl [hv]; · iexact hv
  iexact hc

set_option maxHeartbeats 2000000 in
/-- Part 6 of the body. -/
theorem run6 (c : Dev nD) (Q : (Σ' (v200 : FVec F S512x64 .f32), FVec F S512x512 .f32) → sProp 𝕄) :
    iprop(valAt arg2 c I.kk ∗ valAt arg3 c I.vv ∗ valAt arg4 c I.wo ∗ partAt arg8 c cRect (hd I 0) 7 ∗ blkAny (F := F) (accB 0 0) c ∗ blkAny (F := F) (accB 1 0) c ∗ blkAny (F := F) (accB 2 0) c)
      ⊢ iprop(((valAt arg2 c I.kk ∗ valAt arg3 c I.vv ∗ valAt arg4 c I.wo ∗ valAt arg8 c (ctxOf I 0) ∗ blkAt (accB 0 0) c (acc0 I 0 0) ∗ blkAt (accB 1 0) c (acc0 I 1 0) ∗ blkAt (accB 2 0) c (acc0 I 2 0)) -∗ Q ⟨k0_pay27 (vS I 1 0), k0_pay28 (qOf I) (kS I 1 0)⟩)
        -∗ WP c (k0_part6 arg0 harg0 arg1 harg1 arg2 harg2 arg3 harg3 arg4 harg4 arg5 harg5 accM hA rxM hX arg8 harg8 cc0_scratch3 cc0_scratch4 (qOf I) (k0_pay20 (qOf I) maskOf (kS I 0 7)) (k0_pay21 (qOf I) maskOf (kS I 0 7) (vS I 0 7))) Q) := by
  rw [k0_part6_eq_skeleton]; unfold k0_part6_skel
  simp only [Prog.lift, Prog.bind_op, Prog.bind_ret, Prog.pure_eq_ret]
  iintro ⟨hk, hv, ho, hc, a0, a1, a2⟩ Hk
  iapply (part_load c arg8 cRect (hd I 0) 7 (cRect 7)) $$ hc
  iintro hc
  iapply (part_store c arg8 cRect (hd I 0) 7 7 rfl (fun i hi => cRect_disjoint i _ hi) (by rfl)) $$ hc
  iintro hc
  ihave hc := (part_full c arg8 cRect (hd I 0) (ctxOf I 0) (ctx_cover I 0)) $$ hc
  iapply (load_all c arg8 (ctxOf I 0) zero2) $$ hc
  iintro hc
  iapply (load_all c arg4 I.wo zero2) $$ ho
  iintro ho
  iapply (any_load c (accB 0 0) (accB_of (acc_off 0 0))) $$ a0
  iintro a0
  iapply (any_store c (accB 0 0) (accB_of (acc_off 0 0)) (v := acc0 I 0 0)) $$ a0
  iintro a0
  iapply (any_load c (accB 1 0) (accB_of (acc_off 1 0))) $$ a1
  iintro a1
  iapply (any_store c (accB 1 0) (accB_of (acc_off 1 0)) (v := acc0 I 1 0)) $$ a1
  iintro a1
  iapply (any_load c (accB 2 0) (accB_of (acc_off 2 0))) $$ a2
  iintro a2
  iapply (any_store c (accB 2 0) (accB_of (acc_off 2 0)) (v := acc0 I 2 0)) $$ a2
  iintro a2
  iapply (load_k c I 1 0 arg2) $$ hk
  iintro hk
  iapply (load_v c I 1 0 arg3) $$ hv
  iintro hv
  iapply (WP_ret c)
  iapply Hk
  isplitl [hk]; · iexact hk
  isplitl [hv]; · iexact hv
  isplitl [ho]; · iexact ho
  isplitl [hc]; · iexact hc
  isplitl [a0]; · iexact a0
  isplitl [a1]; · iexact a1
  iexact a2

set_option maxHeartbeats 2000000 in
/-- Part 7 of the body. -/
theorem run7 (c : Dev nD) (Q : (Σ' (v232 : FVec F S512x64 .f32) (v234 : FVec F S64x512 .f32), FVec F S512x64 .f32) → sProp 𝕄) :
    iprop(valAt arg2 c I.kk ∗ valAt arg3 c I.vv ∗ valAt arg8 c (ctxOf I 0))
      ⊢ iprop(((valAt arg2 c I.kk ∗ valAt arg3 c I.vv ∗ partAt arg8 c cRect (hd I 1) 2) -∗ Q ⟨k0_pay31 (qOf I), k0_pay32 (kS I 1 2), k0_pay33 (vS I 1 2)⟩)
        -∗ WP c (k0_part7 arg0 harg0 arg1 harg1 arg2 harg2 arg3 harg3 arg4 harg4 arg5 harg5 accM hA rxM hX arg8 harg8 cc0_scratch3 cc0_scratch4 (qOf I) maskOf (k0_pay27 (vS I 1 0)) (k0_pay28 (qOf I) (kS I 1 0))) Q) := by
  rw [k0_part7_eq_skeleton]; unfold k0_part7_skel
  simp only [Prog.lift, Prog.bind_op, Prog.bind_ret, Prog.pure_eq_ret]
  iintro ⟨hk, hv, hc⟩ Hk
  ihave hc := (partAt_intro arg8 c cRect (hd I 1) (ctxOf I 0)) $$ hc
  iapply (part_load c arg8 cRect (hd I 1) 0 (cRect 0)) $$ hc
  iintro hc
  iapply (part_store c arg8 cRect (hd I 1) 0 0 rfl (fun i hi => cRect_disjoint i _ hi) (by rfl)) $$ hc
  iintro hc
  iapply (load_k c I 1 1 arg2) $$ hk
  iintro hk
  iapply (load_v c I 1 1 arg3) $$ hv
  iintro hv
  iapply (part_load c arg8 cRect (hd I 1) 1 (cRect 1)) $$ hc
  iintro hc
  iapply (part_store c arg8 cRect (hd I 1) 1 1 rfl (fun i hi => cRect_disjoint i _ hi) (by rfl)) $$ hc
  iintro hc
  iapply (load_k c I 1 2 arg2) $$ hk
  iintro hk
  iapply (load_v c I 1 2 arg3) $$ hv
  iintro hv
  iapply (WP_ret c)
  iapply Hk
  isplitl [hk]; · iexact hk
  isplitl [hv]; · iexact hv
  iexact hc

set_option maxHeartbeats 2000000 in
/-- Part 8 of the body. -/
theorem run8 (c : Dev nD) (Q : (Σ' (v268 : FVec F S512x64 .f32), FVec F S64x512 .f32) → sProp 𝕄) :
    iprop(valAt arg2 c I.kk ∗ valAt arg3 c I.vv ∗ partAt arg8 c cRect (hd I 1) 2)
      ⊢ iprop(((valAt arg2 c I.kk ∗ valAt arg3 c I.vv ∗ partAt arg8 c cRect (hd I 1) 4) -∗ Q ⟨k0_pay36 (qOf I), k0_pay37 (kS I 1 4)⟩)
        -∗ WP c (k0_part8 arg0 harg0 arg1 harg1 arg2 harg2 arg3 harg3 arg4 harg4 arg5 harg5 accM hA rxM hX arg8 harg8 cc0_scratch3 cc0_scratch4 (qOf I) maskOf (k0_pay31 (qOf I)) (k0_pay32 (kS I 1 2)) (k0_pay33 (vS I 1 2))) Q) := by
  rw [k0_part8_eq_skeleton]; unfold k0_part8_skel
  simp only [Prog.lift, Prog.bind_op, Prog.bind_ret, Prog.pure_eq_ret]
  iintro ⟨hk, hv, hc⟩ Hk
  iapply (part_load c arg8 cRect (hd I 1) 2 (cRect 2)) $$ hc
  iintro hc
  iapply (part_store c arg8 cRect (hd I 1) 2 2 rfl (fun i hi => cRect_disjoint i _ hi) (by rfl)) $$ hc
  iintro hc
  iapply (load_k c I 1 3 arg2) $$ hk
  iintro hk
  iapply (load_v c I 1 3 arg3) $$ hv
  iintro hv
  iapply (part_load c arg8 cRect (hd I 1) 3 (cRect 3)) $$ hc
  iintro hc
  iapply (part_store c arg8 cRect (hd I 1) 3 3 rfl (fun i hi => cRect_disjoint i _ hi) (by rfl)) $$ hc
  iintro hc
  iapply (load_k c I 1 4 arg2) $$ hk
  iintro hk
  iapply (WP_ret c)
  iapply Hk
  isplitl [hk]; · iexact hk
  isplitl [hv]; · iexact hv
  iexact hc

set_option maxHeartbeats 2000000 in
/-- Part 9 of the body. -/
theorem run9 (c : Dev nD) (Q : (Σ' (v304 : FVec F S512x64 .f32), FVec F S64x512 .f32) → sProp 𝕄) :
    iprop(valAt arg2 c I.kk ∗ valAt arg3 c I.vv ∗ partAt arg8 c cRect (hd I 1) 4)
      ⊢ iprop(((valAt arg2 c I.kk ∗ valAt arg3 c I.vv ∗ partAt arg8 c cRect (hd I 1) 6) -∗ Q ⟨k0_pay40 (qOf I), k0_pay41 (kS I 1 6)⟩)
        -∗ WP c (k0_part9 arg0 harg0 arg1 harg1 arg2 harg2 arg3 harg3 arg4 harg4 arg5 harg5 accM hA rxM hX arg8 harg8 cc0_scratch3 cc0_scratch4 (qOf I) maskOf (k0_pay36 (qOf I)) (k0_pay37 (kS I 1 4))) Q) := by
  rw [k0_part9_eq_skeleton]; unfold k0_part9_skel
  simp only [Prog.lift, Prog.bind_op, Prog.bind_ret, Prog.pure_eq_ret]
  iintro ⟨hk, hv, hc⟩ Hk
  iapply (load_v c I 1 4 arg3) $$ hv
  iintro hv
  iapply (part_load c arg8 cRect (hd I 1) 4 (cRect 4)) $$ hc
  iintro hc
  iapply (part_store c arg8 cRect (hd I 1) 4 4 rfl (fun i hi => cRect_disjoint i _ hi) (by rfl)) $$ hc
  iintro hc
  iapply (load_k c I 1 5 arg2) $$ hk
  iintro hk
  iapply (load_v c I 1 5 arg3) $$ hv
  iintro hv
  iapply (part_load c arg8 cRect (hd I 1) 5 (cRect 5)) $$ hc
  iintro hc
  iapply (part_store c arg8 cRect (hd I 1) 5 5 rfl (fun i hi => cRect_disjoint i _ hi) (by rfl)) $$ hc
  iintro hc
  iapply (load_k c I 1 6 arg2) $$ hk
  iintro hk
  iapply (WP_ret c)
  iapply Hk
  isplitl [hk]; · iexact hk
  isplitl [hv]; · iexact hv
  iexact hc

set_option maxHeartbeats 2000000 in
/-- Part 10 of the body. -/
theorem run10 (c : Dev nD) (Q : (Vec F S512x512 .f32) → sProp 𝕄) :
    iprop(valAt arg2 c I.kk ∗ valAt arg3 c I.vv ∗ partAt arg8 c cRect (hd I 1) 6)
      ⊢ iprop(((valAt arg2 c I.kk ∗ valAt arg3 c I.vv ∗ valAt arg8 c (ctxOf I 1)) -∗ Q (ctxOf I 1))
        -∗ WP c (k0_part10 arg0 harg0 arg1 harg1 arg2 harg2 arg3 harg3 arg4 harg4 arg5 harg5 accM hA rxM hX arg8 harg8 cc0_scratch3 cc0_scratch4 (qOf I) maskOf (k0_pay40 (qOf I)) (k0_pay41 (kS I 1 6))) Q) := by
  rw [k0_part10_eq_skeleton]; unfold k0_part10_skel
  simp only [Prog.lift, Prog.bind_op, Prog.bind_ret, Prog.pure_eq_ret]
  iintro ⟨hk, hv, hc⟩ Hk
  iapply (load_v c I 1 6 arg3) $$ hv
  iintro hv
  iapply (part_load c arg8 cRect (hd I 1) 6 (cRect 6)) $$ hc
  iintro hc
  iapply (part_store c arg8 cRect (hd I 1) 6 6 rfl (fun i hi => cRect_disjoint i _ hi) (by rfl)) $$ hc
  iintro hc
  iapply (load_k c I 1 7 arg2) $$ hk
  iintro hk
  iapply (load_v c I 1 7 arg3) $$ hv
  iintro hv
  iapply (part_load c arg8 cRect (hd I 1) 7 (cRect 7)) $$ hc
  iintro hc
  iapply (part_store c arg8 cRect (hd I 1) 7 7 rfl (fun i hi => cRect_disjoint i _ hi) (by rfl)) $$ hc
  iintro hc
  ihave hc := (part_full c arg8 cRect (hd I 1) (ctxOf I 1) (ctx_cover I 1)) $$ hc
  iapply (load_all c arg8 (ctxOf I 1) zero2) $$ hc
  iintro hc
  iapply (WP_ret c)
  iapply Hk
  isplitl [hk]; · iexact hk
  isplitl [hv]; · iexact hv
  iexact hc

set_option maxHeartbeats 2000000 in
/-- Part 11 of the body. -/
theorem run11 (c : Dev nD) (v2 : BitVec 32) (Q : (Σ' (v365 : BitVec 32) (v368 : BitVec 32), BitVec 32) → sProp 𝕄) :
    iprop(valAt arg4 c I.wo ∗ blkAny (F := F) (accB 0 1) c ∗ blkAny (F := F) (accB 1 1) c ∗ blkAny (F := F) (accB 2 1) c)
      ⊢ iprop((∀ r, (valAt arg4 c I.wo ∗ blkAt (accB 0 1) c (acc0 I 0 1) ∗ blkAt (accB 1 1) c (acc0 I 1 1) ∗ blkAt (accB 2 1) c (acc0 I 2 1)) -∗ Q r)
        -∗ WP c (k0_part11 arg0 harg0 arg1 harg1 arg2 harg2 arg3 harg3 arg4 harg4 arg5 harg5 accM hA rxM hX arg8 harg8 cc0_scratch3 cc0_scratch4 v2 (ctxOf I 1)) Q) := by
  rw [k0_part11_eq_skeleton]; unfold k0_part11_skel
  simp only [Prog.lift, Prog.bind_op, Prog.bind_ret, Prog.pure_eq_ret]
  iintro ⟨ho, a0, a1, a2⟩ Hk
  iapply (load_all c arg4 I.wo zero2) $$ ho
  iintro ho
  iapply (any_load c (accB 0 1) (accB_of (acc_off 0 1))) $$ a0
  iintro a0
  iapply (any_store c (accB 0 1) (accB_of (acc_off 0 1)) (v := acc0 I 0 1)) $$ a0
  iintro a0
  iapply (any_load c (accB 1 1) (accB_of (acc_off 1 1))) $$ a1
  iintro a1
  iapply (any_store c (accB 1 1) (accB_of (acc_off 1 1)) (v := acc0 I 1 1)) $$ a1
  iintro a1
  iapply (any_load c (accB 2 1) (accB_of (acc_off 2 1))) $$ a2
  iintro a2
  iapply (any_store c (accB 2 1) (accB_of (acc_off 2 1)) (v := acc0 I 2 1)) $$ a2
  iintro a2
  iapply (WP_ret c)
  iapply Hk
  isplitl [ho]; · iexact ho
  isplitl [a0]; · iexact a0
  isplitl [a1]; · iexact a1
  iexact a2

end Cert.KernelIdeal.Run

end
-- ==== Proof.Chunk.lean ====
/- The life of one chunk of the accumulator on one device: its four stages, each a copy sent, its departure waited for, the
   partner's arrival waited for, and — but at the last stage — the arrived block added to the kept one. -/
module

public import proofs.«01_k».proof.Proof.Rules

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (a : Dev nD → Fin 3 → Fin 2 → Tile F)

/-- The landing block of a stage, on its own device; the last stage has none. -/
def rxOwn (c : Dev nD) (t : Fin 3) (s : Fin 4) : sProp 𝕄 :=
  match s with
  | 0 => blkAny (F := F) (rxB t 0) c
  | 1 => blkAny (F := F) (rxB t 1) c
  | 2 => blkAny (F := F) (rxB t 2) c
  | 3 => iprop(emp)

/-- What the copy of a stage needs, not yet issued: its tokens, that the partner's receiving cell is open, and the landing
    block on the partner. -/
def later (c : Dev nD) (t : Fin 3) (s : Fin 4) : sProp 𝕄 :=
  iprop(laneA (F := F) c t s ∗ reached ER (recvCell (pa t s c) t s) 0 ∗ rxOwn (F := F) (pa t s c) t s)
/-- What is left of a stage. -/
def past (c : Dev nD) (t : Fin 3) (s : Fin 4) : sProp 𝕄 := iprop(laneD (F := F) c t s ∗ rxOwn (F := F) c t s)

/-- The last `k` stages to come. -/
def ahead (c : Dev nD) (t : Fin 3) : ℕ → sProp 𝕄
  | 0 => iprop(emp)
  | k + 1 => iprop(later (F := F) c t ⟨(3 - k) % 4, Nat.mod_lt _ (by decide)⟩ ∗ ahead c t k)
/-- The first `k` stages passed. -/
def done (c : Dev nD) (t : Fin 3) : ℕ → sProp 𝕄
  | 0 => iprop(emp)
  | k + 1 => iprop(done c t k ∗ past (F := F) c t ⟨k % 4, Nat.mod_lt _ (by decide)⟩)

theorem ahead_at (c : Dev nD) (t : Fin 3) (s : Fin 4) :
    ahead (F := F) c t (4 - s.val) = iprop(later (F := F) c t s ∗ ahead (F := F) c t (3 - s.val)) := by
  fin_cases s <;> rfl
theorem done_at (c : Dev nD) (t : Fin 3) (s : Fin 4) :
    done (F := F) c t (s.val + 1) = iprop(done (F := F) c t s.val ∗ past (F := F) c t s) := by
  fin_cases s <;> rfl

/-- The partner's half that the last stage writes. -/
def peer (c : Dev nD) (t : Fin 3) : sProp 𝕄 := blkAny (F := F) (accB t (kb t c)) (pa t 0 c)

/-- The kept half, at what it holds when stage `s` begins. -/
abbrev kept (c : Dev nD) (t : Fin 3) (s : Fin 4) : sProp 𝕄 := blkAt (accB t (kb t c)) c (H a t s.val c)

/-- What else is held while the copy of stage `s` is on its way, -/
def whileSent (c : Dev nD) (t : Fin 3) (s : Fin 4) : sProp 𝕄 :=
  match s with
  | 0 => kept a c t 0
  | 1 => peer (F := F) c t
  | 2 => peer (F := F) c t
  | 3 => iprop(emp)
/-- when it has departed, -/
def whileGone (c : Dev nD) (t : Fin 3) (s : Fin 4) : sProp 𝕄 :=
  match s with
  | 0 => iprop(emp)
  | 1 => peer (F := F) c t
  | 2 => peer (F := F) c t
  | 3 => iprop(emp)
/-- and when the partner's has arrived. -/
def whileHere (c : Dev nD) (t : Fin 3) (s : Fin 4) : sProp 𝕄 :=
  match s with
  | 0 => peer (F := F) c t
  | 1 => peer (F := F) c t
  | 2 => peer (F := F) c t
  | 3 => iprop(emp)

/-- Before the copy of stage `s` is issued. -/
def Ready (c : Dev nD) (t : Fin 3) (s : Fin 4) : sProp 𝕄 :=
  iprop(done (F := F) c t s.val ∗ ahead (F := F) c t (4 - s.val) ∗ kept a c t s
    ∗ (if s = 0 then blkAt (accB t (ot t c)) c (a c t (ot t c)) else peer (F := F) c t))
/-- The copy of stage `s` is issued. -/
def Sent (c : Dev nD) (t : Fin 3) (s : Fin 4) : sProp 𝕄 :=
  iprop(done (F := F) c t s.val ∗ ahead (F := F) c t (3 - s.val) ∗ laneB (F := F) c t s
    ∗ whileSent a c t s)
/-- It has departed. -/
def Departed (c : Dev nD) (t : Fin 3) (s : Fin 4) : sProp 𝕄 :=
  iprop(done (F := F) c t s.val ∗ ahead (F := F) c t (3 - s.val) ∗ laneC (F := F) c t s ∗ kept a c t s
    ∗ whileGone (F := F) c t s)
/-- The partner's has arrived. -/
def Arrived (c : Dev nD) (t : Fin 3) (s : Fin 4) : sProp 𝕄 :=
  iprop(done (F := F) c t s.val ∗ ahead (F := F) c t (3 - s.val) ∗ laneD (F := F) c t s ∗ kept a c t s
    ∗ blkAt (landM t s c) c (sent a t s (pa t s c))
    ∗ whileHere (F := F) c t s)

theorem land3 {off : Fin 3 → Nat} {inb : ∀ i, off i + S1x512x256.size i ≤ S3x1024x256.size i} {t : Fin 3} {c : Dev nD}
    (e : off = accOff t (kb t c)) : accAtOff off inb = landM t 3 (pa t 3 c) := by
  rw [accB_of e]
  show _ = accB t (ot t (pa t 0 c))
  rw [ot_first]

/-- The copy of stage 0 is issued. -/
theorem step_send0 {α : Type} (c : Dev nD) (t : Fin 3) (n : ℕ) (hn : n = t.val) {d : Dev nD}
    {src dst : Memref sig .tc .vmem S1x512x256 .bf16} {sS sR : DmaSem sig} {hsc : (sq dst).view.ref.isScScratch = false}
    {h1 : (sq src).view.WordExact} {h2 : (sq dst).view.WordExact}
    {h3 : DmaTarget.Typed .vmem (.dma sR) (.remote (d : Thread nD τ) (sq dst) (.dma sS) hsc)}
    {k : PUnit → Prog (TpuEff nD τ sig (Elt F) Λ₀ .tc) α} {Q : α → sProp 𝕄}
    (hsrc : src = accB t (ot t c)) (hdst : dst = rxB t 0) (hd : d = pa t 0 c) (hS : sS = sendS t 0) (hR : sR = recvS t 0) :
    iprop(Ctx a ∗ Ready a c t 0 ∗ owesE c (Ow c n))
      ⊢ iprop(((Sent a c t 0 ∗ owesE c (Ow c (n + 1))) -∗ WP c (k ⟨⟩) Q)
        -∗ WP c (.op (.enqueueDma (sq src) (.remote (d : Thread nD τ) (sq dst) (.dma sS) hsc) (.dma sR) h1 h2 h3) k) Q) := by
  unfold Ready Sent
  rw [ahead_at, if_pos rfl]
  unfold later
  iintro ⟨#HC, ⟨Hd, ⟨⟨Hl, Hr, Hx⟩, Ha⟩, Hk, Ho⟩, HO⟩ Hc
  iapply (send_land a c t n hn hsrc hdst hd hS hR) $$ [Hl Hr Hx Ho HO]
  · isplitr; · iexact HC
    isplitl [Hl]; · iexact Hl
    isplitl [Hr]; · iexact Hr
    isplitl [Ho]; · iexact Ho
    isplitl [Hx]
    · iapply (Entails.of_eq (show rxOwn (F := F) (pa t 0 c) t 0 = blkAny (F := F) (rxB t 0) (pa t 0 c) from rfl)); iexact Hx
    iexact HO
  iintro ⟨Hl, HO⟩
  iapply Hc
  isplitr [HO]
  · isplitl [Hd]; · iexact Hd
    isplitl [Ha]; · iexact Ha
    isplitl [Hl]; · iexact Hl
    iapply (Entails.of_eq (show kept a c t 0 = whileSent a c t 0 from rfl)); iexact Hk
  iexact HO

/-- The copy of a later stage is issued. -/
theorem step_send {α : Type} (c : Dev nD) (t : Fin 3) (s : Fin 4) (hs : s ≠ 0) (n : ℕ) (hn : n = 3 * s.val + t.val) {d : Dev nD}
    {src dst : Memref sig .tc .vmem S1x512x256 .bf16} {sS sR : DmaSem sig} {hsc : (sq dst).view.ref.isScScratch = false}
    {h1 : (sq src).view.WordExact} {h2 : (sq dst).view.WordExact}
    {h3 : DmaTarget.Typed .vmem (.dma sR) (.remote (d : Thread nD τ) (sq dst) (.dma sS) hsc)}
    {k : PUnit → Prog (TpuEff nD τ sig (Elt F) Λ₀ .tc) α} {Q : α → sProp 𝕄}
    (hsrc : src = accB t (kb t c)) (hdst : dst = landM t s (pa t s c)) (hd : d = pa t s c) (hS : sS = sendS t s) (hR : sR = recvS t s) :
    iprop(Ctx a ∗ Ready a c t s ∗ owesE c (Ow c n))
      ⊢ iprop(((Sent a c t s ∗ owesE c (Ow c (n + 1))) -∗ WP c (k ⟨⟩) Q)
        -∗ WP c (.op (.enqueueDma (sq src) (.remote (d : Thread nD τ) (sq dst) (.dma sS) hsc) (.dma sR) h1 h2 h3) k) Q) := by
  have hb : iprop(rxOwn (F := F) (pa t s c) t s ∗ peer (F := F) c t)
      ⊢ iprop(blkAny (F := F) (landM t s (pa t s c)) (pa t s c) ∗ whileSent a c t s) := by
    fin_cases s
    · exact absurd rfl hs
    · exact BI.Entails.refl _
    · exact BI.Entails.refl _
    · show iprop(emp ∗ peer (F := F) c t) ⊢ iprop(blkAny (F := F) (accB t (ot t (pa t 0 c))) (pa t 0 c) ∗ emp)
      rw [ot_first]
      unfold peer
      iintro ⟨-, H⟩
      isplitl [H]; · iexact H
      iempintro
  have hk : kept a c t s = blkAt (accB t (kb t c)) c (sent a t s c) := congrArg (blkAt (accB t (kb t c)) c) (if_neg hs).symm
  unfold Ready Sent
  rw [ahead_at, if_neg hs, hk]
  unfold later
  iintro ⟨#HC, ⟨Hd, ⟨⟨Hl, Hr, Hx⟩, Ha⟩, Hk, Ho⟩, HO⟩ Hc
  ihave Hb := hb $$ [Hx Ho]
  · isplitl [Hx]; · iexact Hx
    iexact Ho
  icases Hb with ⟨Hx, Ho⟩
  iapply (send_back a c t s hs n hn hsrc hdst hd hS hR) $$ [Hl Hr Hx Hk HO]
  · isplitr; · iexact HC
    isplitl [Hl]; · iexact Hl
    isplitl [Hr]; · iexact Hr
    isplitl [Hk]; · iexact Hk
    isplitl [Hx]; · iexact Hx
    iexact HO
  iintro ⟨Hl, HO⟩
  iapply Hc
  isplitr [HO]
  · isplitl [Hd]; · iexact Hd
    isplitl [Ha]; · iexact Ha
    isplitl [Hl]; · iexact Hl
    iexact Ho
  iexact HO

/-- The departure is waited for. -/
theorem step_wait_send {α : Type} (c : Dev nD) (t : Fin 3) (s : Fin 4) (n : ℕ)
    {s₁ s₂ : Shape} {e₁ e₂ : EltTy} {M₁ : Memref sig .tc .vmem s₁ e₁} {M₂ : Memref sig .tc .vmem s₂ e₂} {sS : DmaSem sig}
    {h1 : M₁.view.WordExact} {h2 : M₂.view.WordExact}
    {k : PUnit → Prog (TpuEff nD τ sig (Elt F) Λ₀ .tc) α} {Q : α → sProp 𝕄}
    (hS : sS = sendS t s) (hN : M₂.view.dmaCredit = N) :
    iprop(Ctx a ∗ Sent a c t s ∗ owesE c (Ow c n))
      ⊢ iprop(((Departed a c t s ∗ owesE c (Ow c n)) -∗ WP c (k ⟨⟩) Q)
        -∗ WP c (.op (.waitDma2 sS M₁ M₂ h1 h2) k) Q) := by
  have hb : iprop(whileSent a c t s ∗ sendPay a c t s)
      ⊢ iprop(kept a c t s ∗ whileGone (F := F) c t s) := by
    fin_cases s
    · exact BI.Entails.refl _
    · exact BI.sep_comm
    · exact BI.sep_comm
    · exact BI.sep_comm
  unfold Sent Departed
  iintro ⟨#HC, ⟨Hd, Ha, Hl, Ho⟩, HO⟩ Hc
  iapply (wait_send a c t s n hS hN) $$ [Hl HO]
  · isplitr; · iexact HC
    isplitl [Hl]; · iexact Hl
    iexact HO
  iintro ⟨Hl, Hp, HO⟩
  ihave Hb := hb $$ [Hp Ho]
  · isplitl [Ho]; · iexact Ho
    iexact Hp
  icases Hb with ⟨Hk, Ho⟩
  iapply Hc
  isplitr [HO]
  · isplitl [Hd]; · iexact Hd
    isplitl [Ha]; · iexact Ha
    isplitl [Hl]; · iexact Hl
    isplitl [Hk]; · iexact Hk
    iexact Ho
  iexact HO

/-- The arrival is waited for. -/
theorem step_wait_recv {α : Type} (c : Dev nD) (t : Fin 3) (s : Fin 4) (n : ℕ) (hn : 3 * (s.val + 1) ≤ n)
    {s₁ s₂ : Shape} {e₁ e₂ : EltTy} {M₁ : Memref sig .tc .vmem s₁ e₁} {M₂ : Memref sig .tc .vmem s₂ e₂} {sR : DmaSem sig}
    {h1 : M₁.view.WordExact} {h2 : M₂.view.WordExact}
    {k : PUnit → Prog (TpuEff nD τ sig (Elt F) Λ₀ .tc) α} {Q : α → sProp 𝕄}
    (hR : sR = recvS t s) (hN : M₂.view.dmaCredit = N) :
    iprop(Ctx a ∗ Departed a c t s ∗ owesE c (Ow c n))
      ⊢ iprop(((Arrived a c t s ∗ owesE c (Ow c n)) -∗ WP c (k ⟨⟩) Q)
        -∗ WP c (.op (.waitDma2 sR M₁ M₂ h1 h2) k) Q) := by
  have hb : iprop(whileGone (F := F) c t s ∗ recvPay a c t s)
      ⊢ iprop(blkAt (landM t s c) c (sent a t s (pa t s c)) ∗ whileHere (F := F) c t s) := by
    fin_cases s
    · exact (BI.emp_sep (M := MT nD τ sig Unit (Elt F) ℕ UU ℕ)).1
    · exact BI.sep_comm
    · exact BI.sep_comm
    · exact BI.sep_comm
  unfold Departed Arrived
  iintro ⟨#HC, ⟨Hd, Ha, Hl, Hk, Ho⟩, HO⟩ Hc
  iapply (wait_recv a c t s n hn hR hN) $$ [Hl HO]
  · isplitr; · iexact HC
    isplitl [Hl]; · iexact Hl
    iexact HO
  iintro ⟨Hl, Hp, HO⟩
  ihave Hb := hb $$ [Hp Ho]
  · isplitl [Ho]; · iexact Ho
    iexact Hp
  icases Hb with ⟨Hx, Ho⟩
  iapply Hc
  isplitr [HO]
  · isplitl [Hd]; · iexact Hd
    isplitl [Ha]; · iexact Ha
    isplitl [Hl]; · iexact Hl
    isplitl [Hk]; · iexact Hk
    isplitl [Hx]; · iexact Hx
    iexact Ho
  iexact HO

/-- The kept block is read. -/
theorem step_load_acc {α : Type} (c : Dev nD) (t : Fin 3) (s : Fin 4) {off : Fin 3 → Nat}
    {inb : ∀ i, off i + S1x512x256.size i ≤ S3x1024x256.size i} {hl} (hoff : off = accOff t (kb t c))
    {k : Tile F → Prog (TpuEff nD τ sig (Elt F) Λ₀ .tc) α} {Q : α → sProp 𝕄} :
    Arrived a c t s ⊢ iprop((Arrived a c t s -∗ WP c (k (H a t s.val c)) Q)
      -∗ WP c (.op (.load accM (Rect.unit (s := S3x1024x256) off S1x512x256.size inb).toLoadRect hl) k) Q) := by
  unfold Arrived
  iintro ⟨Hd, Ha, Hl, Hk, Hx, Ho⟩ Hc
  iapply (load_acc c (accB t (kb t c)) _ (accB_of hoff)) $$ Hk
  iintro Hk
  iapply Hc
  isplitl [Hd]; · iexact Hd
  isplitl [Ha]; · iexact Ha
  isplitl [Hl]; · iexact Hl
  isplitl [Hk]; · iexact Hk
  isplitl [Hx]; · iexact Hx
  iexact Ho

/-- The arrived block is read. -/
theorem step_load_rx {α : Type} (c : Dev nD) (t : Fin 3) (s : Fin 4) {off : Fin 3 → Nat}
    {inb : ∀ i, off i + S1x512x256.size i ≤ S3x1536x256.size i} {hl} (hM : rxAtOff off inb = landM t s c)
    {k : Tile F → Prog (TpuEff nD τ sig (Elt F) Λ₀ .tc) α} {Q : α → sProp 𝕄} :
    Arrived a c t s ⊢ iprop((Arrived a c t s -∗ WP c (k (sent a t s (pa t s c))) Q)
      -∗ WP c (.op (.load rxM (Rect.unit (s := S3x1536x256) off S1x512x256.size inb).toLoadRect hl) k) Q) := by
  unfold Arrived
  iintro ⟨Hd, Ha, Hl, Hk, Hx, Ho⟩ Hc
  iapply (load_rx c (landM t s c) _ hM) $$ Hx
  iintro Hx
  iapply Hc
  isplitl [Hd]; · iexact Hd
  isplitl [Ha]; · iexact Ha
  isplitl [Hl]; · iexact Hl
  isplitl [Hk]; · iexact Hk
  isplitl [Hx]; · iexact Hx
  iexact Ho

theorem H_succ (t : Fin 3) (s : Fin 3) (c : Dev nD) :
    H a t (s.val + 1) c = add (H a t s.val c) (sent a t ⟨s.val, by omega⟩ (pa t ⟨s.val, by omega⟩ c)) :=
  match s with
  | 0 => by
    show add (a c t (kb t c)) (a (pa t 0 c) t (kb t c)) = add (a c t (kb t c)) (a (pa t 0 c) t (ot t (pa t 0 c)))
    rw [ot_first]
  | 1 => rfl
  | 2 => rfl

/-- The sum is stored over the kept block: the next stage may begin. -/
theorem step_store {α : Type} (c : Dev nD) (t : Fin 3) (s s' : Fin 4) (hs : s.val < 3) (hs' : s'.val = s.val + 1) {v : Tile F} {off : Fin 3 → Nat}
    {inb : ∀ i, off i + S1x512x256.size i ≤ S3x1024x256.size i} {hx hm} (hoff : off = accOff t (kb t c))
    (hv : v = add (H a t s.val c) (sent a t s (pa t s c)))
    {k : PUnit → Prog (TpuEff nD τ sig (Elt F) Λ₀ .tc) α} {Q : α → sProp 𝕄} :
    Arrived a c t s ⊢ iprop((Ready a c t s' -∗ WP c (k ⟨⟩) Q)
      -∗ WP c (.op (.store accM (Rect.unit (s := S3x1024x256) off S1x512x256.size inb) v Finset.univ hx hm) k) Q) := by
  have hb : iprop(blkAt (landM t s c) c (sent a t s (pa t s c)) ∗ whileHere (F := F) c t s)
      ⊢ iprop(rxOwn (F := F) c t s ∗ peer (F := F) c t) := by
    fin_cases s
    · show iprop(blkAt (rxB t 0) c (sent a t 0 (pa t 0 c)) ∗ peer (F := F) c t) ⊢ iprop(blkAny (F := F) (rxB t 0) c ∗ peer (F := F) c t)
      unfold blkAny
      iintro ⟨H1, H2⟩; isplitl [H1]; · iexists _; iexact H1
      iexact H2
    · show iprop(blkAt (rxB t 1) c (sent a t 1 (pa t 1 c)) ∗ peer (F := F) c t) ⊢ iprop(blkAny (F := F) (rxB t 1) c ∗ peer (F := F) c t)
      unfold blkAny
      iintro ⟨H1, H2⟩; isplitl [H1]; · iexists _; iexact H1
      iexact H2
    · show iprop(blkAt (rxB t 2) c (sent a t 2 (pa t 2 c)) ∗ peer (F := F) c t) ⊢ iprop(blkAny (F := F) (rxB t 2) c ∗ peer (F := F) c t)
      unfold blkAny
      iintro ⟨H1, H2⟩; isplitl [H1]; · iexists _; iexact H1
      iexact H2
    · exact absurd hs (Nat.lt_irrefl 3)
  have hne : s' ≠ 0 := fun h => by rw [h] at hs'; exact absurd hs' (by simp)
  have hH : kept a c t s' = blkAt (accB t (kb t c)) c v := congrArg (blkAt (accB t (kb t c)) c) (by rw [hs', hv]; exact H_succ a t ⟨s.val, hs⟩ c)
  unfold Arrived Ready
  rw [if_neg hne, hH, hs', done_at, show 4 - (s.val + 1) = 3 - s.val from by omega]
  unfold past
  iintro ⟨Hd, Ha, Hl, Hk, Hx, Ho⟩ Hc
  iapply (store_acc c (accB t (kb t c)) _ (accB_of hoff)) $$ Hk
  iintro Hk
  ihave Hb := hb $$ [Hx Ho]
  · isplitl [Hx]; · iexact Hx
    iexact Ho
  icases Hb with ⟨Hx, Ho⟩
  iapply Hc
  isplitl [Hd Hl Hx]
  · isplitl [Hd]; · iexact Hd
    isplitl [Hl]; · iexact Hl
    iexact Hx
  isplitl [Ha]; · iexact Ha
  isplitl [Hk]; · iexact Hk
  iexact Ho

end Cert.KernelIdeal.Run

end
-- ==== Proof.Comm.lean ====
/- The communicating parts of the kernel's body. -/
module

public import proofs.«01_k».proof.Proof.Chunk

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (a : Dev nD → Fin 3 → Fin 2 → Tile F)

variable (arg0 : Memref sig .tc .vmem S2x512x768 .f32) (harg0 : arg0.IsWhole) (arg1 : Memref sig .tc .vmem S768x512 .f32) (harg1 : arg1.IsWhole)
  (arg2 : Memref sig .tc .vmem S2x512x512 .f32) (harg2 : arg2.IsWhole) (arg3 : Memref sig .tc .vmem S2x512x512 .f32) (harg3 : arg3.IsWhole)
  (arg4 : Memref sig .tc .vmem S512x768 .f32) (harg4 : arg4.IsWhole) (arg5 : Memref sig .tc .vmem S2x512x768 .f32) (harg5 : arg5.IsWhole)
  (hA : (accM).IsWhole) (hX : (rxM).IsWhole) (arg8 : Memref sig .tc .vmem S512x512 .f32) (harg8 : arg8.IsWhole)

theorem rx_off (t s : Fin 3) : (![t.val, 512 * s.val, 0] : Fin 3 → Nat) = rxOff t s := rfl

set_option maxHeartbeats 2000000 in
/-- Part 12 of the body: its copies, waits and sums, in order. -/
theorem run12 (c : Dev nD) (v2 : BitVec 32) (Q : (Σ' (v374 : BitVec 32) (v385 : BitVec 32), BitVec 32) → sProp 𝕄) :
    iprop(Ctx a ∗ Ready a c 0 0 ∗ Ready a c 1 0 ∗ owesE c (Ow c 0))
      ⊢ iprop((∀ r, (Sent a c 0 0 ∗ Sent a c 1 0 ∗ owesE c (Ow c 2)) -∗ Q r)
        -∗ WP c (k0_part12 arg0 harg0 arg1 harg1 arg2 harg2 arg3 harg3 arg4 harg4 arg5 harg5 accM hA rxM hX arg8 harg8 cc0_scratch3 cc0_scratch4 c v2) Q) := by
  rw [k0_part12_eq_skeleton]; unfold k0_part12_skel
  simp only [Prog.lift, Prog.bind_op, Prog.bind_ret, Prog.pure_eq_ret]
  iintro ⟨#HC, h0, h1, HO⟩ Hk
  iapply (step_send0 a c 0 0 rfl (accB_of (off1_eq c)) (rxB_of (rx_off 0 0)) (dev4_eq c) (by decide) (by decide)) $$ [h0 HO]
  · isplitr; · iexact HC
    isplitl [h0]; · iexact h0
    iexact HO
  iintro ⟨h0, HO⟩
  iapply (step_send0 a c 1 1 rfl (accB_of (off2_eq c)) (rxB_of (rx_off 1 0)) (dev5_eq c) (by decide) (by decide)) $$ [h1 HO]
  · isplitr; · iexact HC
    isplitl [h1]; · iexact h1
    iexact HO
  iintro ⟨h1, HO⟩
  iapply (WP_ret c)
  iapply Hk
  isplitl [h0]; · iexact h0
  isplitl [h1]; · iexact h1
  iexact HO

set_option maxHeartbeats 2000000 in
/-- Part 13 of the body: its copies, waits and sums, in order. -/
theorem run13 (c : Dev nD) (v2 : BitVec 32) (v365 : BitVec 32) (v374 : BitVec 32) (Q : (BitVec 32) → sProp 𝕄) :
    iprop(Ctx a ∗ Sent a c 0 0 ∗ Ready a c 2 0 ∗ owesE c (Ow c 2))
      ⊢ iprop((∀ r, (Ready a c 0 1 ∗ Sent a c 2 0 ∗ owesE c (Ow c 3)) -∗ Q r)
        -∗ WP c (k0_part13 arg0 harg0 arg1 harg1 arg2 harg2 arg3 harg3 arg4 harg4 arg5 harg5 accM hA rxM hX arg8 harg8 cc0_scratch3 cc0_scratch4 c v2 v365 v374) Q) := by
  rw [k0_part13_eq_skeleton]; unfold k0_part13_skel
  simp only [Prog.lift, Prog.bind_op, Prog.bind_ret, Prog.pure_eq_ret]
  iintro ⟨#HC, h0, h2, HO⟩ Hk
  iapply (step_send0 a c 2 2 rfl (accB_of (off3_eq c)) (rxB_of (rx_off 2 0)) (dev6_eq c) (by decide) (by decide)) $$ [h2 HO]
  · isplitr; · iexact HC
    isplitl [h2]; · iexact h2
    iexact HO
  iintro ⟨h2, HO⟩
  iapply (step_wait_send a c 0 0 3 (by decide) (by rfl)) $$ [h0 HO]
  · isplitr; · iexact HC
    isplitl [h0]; · iexact h0
    iexact HO
  iintro ⟨h0, HO⟩
  iapply (step_wait_recv a c 0 0 3 (by decide) (by decide) (by rfl)) $$ [h0 HO]
  · isplitr; · iexact HC
    isplitl [h0]; · iexact h0
    iexact HO
  iintro ⟨h0, HO⟩
  iapply (step_load_acc a c 0 0 (off4_eq c)) $$ h0
  iintro h0
  iapply (step_load_rx a c 0 0 (rxB_of (rx_off 0 0))) $$ h0
  iintro h0
  iapply (step_load_acc a c 0 0 (off4_eq c)) $$ h0
  iintro h0
  iapply (step_store a c 0 0 1 (by decide) rfl (off4_eq c) rfl) $$ h0
  iintro h0
  iapply (WP_ret c)
  iapply Hk
  isplitl [h0]; · iexact h0
  isplitl [h2]; · iexact h2
  iexact HO

set_option maxHeartbeats 2000000 in
/-- Part 14 of the body: its copies, waits and sums, in order. -/
theorem run14 (c : Dev nD) (v368 : BitVec 32) (v385 : BitVec 32) (v431 : BitVec 32) (Q : (FVec F S512x256 .bf16) → sProp 𝕄) :
    iprop(Ctx a ∗ Ready a c 0 1 ∗ Sent a c 1 0 ∗ owesE c (Ow c 3))
      ⊢ iprop(((Sent a c 0 1 ∗ Arrived a c 1 0 ∗ owesE c (Ow c 4)) -∗ Q (k0_pay49 (H a 1 (0 : Fin 4).val c)))
        -∗ WP c (k0_part14 arg0 harg0 arg1 harg1 arg2 harg2 arg3 harg3 arg4 harg4 arg5 harg5 accM hA rxM hX arg8 harg8 cc0_scratch3 cc0_scratch4 c v368 v385 v431) Q) := by
  rw [k0_part14_eq_skeleton]; unfold k0_part14_skel
  simp only [Prog.lift, Prog.bind_op, Prog.bind_ret, Prog.pure_eq_ret]
  iintro ⟨#HC, h0, h1, HO⟩ Hk
  iapply (step_send a c 0 1 (by decide) 3 rfl (accB_of (off5_eq c)) (rxB_of (rx_off 0 1)) (dev7_eq c) (by decide) (by decide)) $$ [h0 HO]
  · isplitr; · iexact HC
    isplitl [h0]; · iexact h0
    iexact HO
  iintro ⟨h0, HO⟩
  iapply (step_wait_send a c 1 0 4 (by decide) (by rfl)) $$ [h1 HO]
  · isplitr; · iexact HC
    isplitl [h1]; · iexact h1
    iexact HO
  iintro ⟨h1, HO⟩
  iapply (step_wait_recv a c 1 0 4 (by decide) (by decide) (by rfl)) $$ [h1 HO]
  · isplitr; · iexact HC
    isplitl [h1]; · iexact h1
    iexact HO
  iintro ⟨h1, HO⟩
  iapply (step_load_acc a c 1 0 (off6_eq c)) $$ h1
  iintro h1
  iapply (WP_ret c)
  iapply Hk
  isplitl [h0]; · iexact h0
  isplitl [h1]; · iexact h1
  iexact HO

set_option maxHeartbeats 2000000 in
/-- Part 15 of the body: its copies, waits and sums, in order. -/
theorem run15 (c : Dev nD) (v2 : BitVec 32) (v368 : BitVec 32) (v396 : BitVec 32)  (Q : (BitVec 32) → sProp 𝕄) :
    iprop(Ctx a ∗ Arrived a c 1 0 ∗ Sent a c 2 0 ∗ owesE c (Ow c 4))
      ⊢ iprop((∀ r, (Sent a c 1 1 ∗ Departed a c 2 0 ∗ owesE c (Ow c 5)) -∗ Q r)
        -∗ WP c (k0_part15 arg0 harg0 arg1 harg1 arg2 harg2 arg3 harg3 arg4 harg4 arg5 harg5 accM hA rxM hX arg8 harg8 cc0_scratch3 cc0_scratch4 c v2 v368 v396 (k0_pay49 (H a 1 (0 : Fin 4).val c))) Q) := by
  rw [k0_part15_eq_skeleton]; unfold k0_part15_skel
  simp only [Prog.lift, Prog.bind_op, Prog.bind_ret, Prog.pure_eq_ret]
  iintro ⟨#HC, h1, h2, HO⟩ Hk
  iapply (step_load_rx a c 1 0 (rxB_of (rx_off 1 0))) $$ h1
  iintro h1
  iapply (step_load_acc a c 1 0 (off6_eq c)) $$ h1
  iintro h1
  iapply (step_store a c 1 0 1 (by decide) rfl (off6_eq c) rfl) $$ h1
  iintro h1
  iapply (step_send a c 1 1 (by decide) 4 rfl (accB_of (off7_eq c)) (rxB_of (rx_off 1 1)) (dev8_eq c) (by decide) (by decide)) $$ [h1 HO]
  · isplitr; · iexact HC
    isplitl [h1]; · iexact h1
    iexact HO
  iintro ⟨h1, HO⟩
  iapply (step_wait_send a c 2 0 5 (by decide) (by rfl)) $$ [h2 HO]
  · isplitr; · iexact HC
    isplitl [h2]; · iexact h2
    iexact HO
  iintro ⟨h2, HO⟩
  iapply (WP_ret c)
  iapply Hk
  isplitl [h1]; · iexact h1
  isplitl [h2]; · iexact h2
  iexact HO

set_option maxHeartbeats 2000000 in
/-- Part 16 of the body: its copies, waits and sums, in order. -/
theorem run16 (c : Dev nD) (v2 : BitVec 32) (v371 : BitVec 32) (Q : (BitVec 32) → sProp 𝕄) :
    iprop(Ctx a ∗ Sent a c 0 1 ∗ Departed a c 2 0 ∗ owesE c (Ow c 5))
      ⊢ iprop((∀ r, (Departed a c 0 1 ∗ Sent a c 2 1 ∗ owesE c (Ow c 6)) -∗ Q r)
        -∗ WP c (k0_part16 arg0 harg0 arg1 harg1 arg2 harg2 arg3 harg3 arg4 harg4 arg5 harg5 accM hA rxM hX arg8 harg8 cc0_scratch3 cc0_scratch4 c v2 v371) Q) := by
  rw [k0_part16_eq_skeleton]; unfold k0_part16_skel
  simp only [Prog.lift, Prog.bind_op, Prog.bind_ret, Prog.pure_eq_ret]
  iintro ⟨#HC, h0, h2, HO⟩ Hk
  iapply (step_wait_recv a c 2 0 5 (by decide) (by decide) (by rfl)) $$ [h2 HO]
  · isplitr; · iexact HC
    isplitl [h2]; · iexact h2
    iexact HO
  iintro ⟨h2, HO⟩
  iapply (step_load_acc a c 2 0 (off8_eq c)) $$ h2
  iintro h2
  iapply (step_load_rx a c 2 0 (rxB_of (rx_off 2 0))) $$ h2
  iintro h2
  iapply (step_load_acc a c 2 0 (off8_eq c)) $$ h2
  iintro h2
  iapply (step_store a c 2 0 1 (by decide) rfl (off8_eq c) rfl) $$ h2
  iintro h2
  iapply (step_send a c 2 1 (by decide) 5 rfl (accB_of (off9_eq c)) (rxB_of (rx_off 2 1)) (dev9_eq c) (by decide) (by decide)) $$ [h2 HO]
  · isplitr; · iexact HC
    isplitl [h2]; · iexact h2
    iexact HO
  iintro ⟨h2, HO⟩
  iapply (step_wait_send a c 0 1 6 (by decide) (by rfl)) $$ [h0 HO]
  · isplitr; · iexact HC
    isplitl [h0]; · iexact h0
    iexact HO
  iintro ⟨h0, HO⟩
  iapply (WP_ret c)
  iapply Hk
  isplitl [h0]; · iexact h0
  isplitl [h2]; · iexact h2
  iexact HO

set_option maxHeartbeats 2000000 in
/-- Part 17 of the body: its copies, waits and sums, in order. -/
theorem run17 (c : Dev nD) (v2 : BitVec 32) (v365 : BitVec 32) (v431 : BitVec 32) (Q : (BitVec 32) → sProp 𝕄) :
    iprop(Ctx a ∗ Departed a c 0 1 ∗ owesE c (Ow c 6))
      ⊢ iprop((∀ r, (Sent a c 0 2 ∗ owesE c (Ow c 7)) -∗ Q r)
        -∗ WP c (k0_part17 arg0 harg0 arg1 harg1 arg2 harg2 arg3 harg3 arg4 harg4 arg5 harg5 accM hA rxM hX arg8 harg8 cc0_scratch3 cc0_scratch4 c v2 v365 v431) Q) := by
  rw [k0_part17_eq_skeleton]; unfold k0_part17_skel
  simp only [Prog.lift, Prog.bind_op, Prog.bind_ret, Prog.pure_eq_ret]
  iintro ⟨#HC, h0, HO⟩ Hk
  iapply (step_wait_recv a c 0 1 6 (by decide) (by decide) (by rfl)) $$ [h0 HO]
  · isplitr; · iexact HC
    isplitl [h0]; · iexact h0
    iexact HO
  iintro ⟨h0, HO⟩
  iapply (step_load_acc a c 0 1 (off4_eq c)) $$ h0
  iintro h0
  iapply (step_load_rx a c 0 1 (rxB_of (rx_off 0 1))) $$ h0
  iintro h0
  iapply (step_load_acc a c 0 1 (off4_eq c)) $$ h0
  iintro h0
  iapply (step_store a c 0 1 2 (by decide) rfl (off4_eq c) rfl) $$ h0
  iintro h0
  iapply (step_send a c 0 2 (by decide) 6 rfl (accB_of (off5_eq c)) (rxB_of (rx_off 0 2)) (dev10_eq c) (by decide) (by decide)) $$ [h0 HO]
  · isplitr; · iexact HC
    isplitl [h0]; · iexact h0
    iexact HO
  iintro ⟨h0, HO⟩
  iapply (WP_ret c)
  iapply Hk
  isplitl [h0]; · iexact h0
  iexact HO

set_option maxHeartbeats 2000000 in
/-- Part 18 of the body: its copies, waits and sums, in order. -/
theorem run18 (c : Dev nD) (v2 : BitVec 32) (v368 : BitVec 32) (v466 : BitVec 32) (Q : (BitVec 32) → sProp 𝕄) :
    iprop(Ctx a ∗ Sent a c 1 1 ∗ owesE c (Ow c 7))
      ⊢ iprop((∀ r, (Ready a c 1 2 ∗ owesE c (Ow c 7)) -∗ Q r)
        -∗ WP c (k0_part18 arg0 harg0 arg1 harg1 arg2 harg2 arg3 harg3 arg4 harg4 arg5 harg5 accM hA rxM hX arg8 harg8 cc0_scratch3 cc0_scratch4 c v2 v368 v466) Q) := by
  rw [k0_part18_eq_skeleton]; unfold k0_part18_skel
  simp only [Prog.lift, Prog.bind_op, Prog.bind_ret, Prog.pure_eq_ret]
  iintro ⟨#HC, h1, HO⟩ Hk
  iapply (step_wait_send a c 1 1 7 (by decide) (by rfl)) $$ [h1 HO]
  · isplitr; · iexact HC
    isplitl [h1]; · iexact h1
    iexact HO
  iintro ⟨h1, HO⟩
  iapply (step_wait_recv a c 1 1 7 (by decide) (by decide) (by rfl)) $$ [h1 HO]
  · isplitr; · iexact HC
    isplitl [h1]; · iexact h1
    iexact HO
  iintro ⟨h1, HO⟩
  iapply (step_load_acc a c 1 1 (off6_eq c)) $$ h1
  iintro h1
  iapply (step_load_rx a c 1 1 (rxB_of (rx_off 1 1))) $$ h1
  iintro h1
  iapply (step_load_acc a c 1 1 (off6_eq c)) $$ h1
  iintro h1
  iapply (step_store a c 1 1 2 (by decide) rfl (off6_eq c) rfl) $$ h1
  iintro h1
  iapply (WP_ret c)
  iapply Hk
  isplitl [h1]; · iexact h1
  iexact HO

set_option maxHeartbeats 2000000 in
/-- Part 19 of the body: its copies, waits and sums, in order. -/
theorem run19 (c : Dev nD) (v371 : BitVec 32) (v501 : BitVec 32) (Q : (FVec F S512x256 .bf16) → sProp 𝕄) :
    iprop(Ctx a ∗ Ready a c 1 2 ∗ Sent a c 2 1 ∗ owesE c (Ow c 7))
      ⊢ iprop(((Sent a c 1 2 ∗ Arrived a c 2 1 ∗ owesE c (Ow c 8)) -∗ Q (k0_pay54 (H a 2 (1 : Fin 4).val c) (sent a 2 1 (pa 2 1 c))))
        -∗ WP c (k0_part19 arg0 harg0 arg1 harg1 arg2 harg2 arg3 harg3 arg4 harg4 arg5 harg5 accM hA rxM hX arg8 harg8 cc0_scratch3 cc0_scratch4 c v371 v501) Q) := by
  rw [k0_part19_eq_skeleton]; unfold k0_part19_skel
  simp only [Prog.lift, Prog.bind_op, Prog.bind_ret, Prog.pure_eq_ret]
  iintro ⟨#HC, h1, h2, HO⟩ Hk
  iapply (step_send a c 1 2 (by decide) 7 rfl (accB_of (off7_eq c)) (rxB_of (rx_off 1 2)) (dev11_eq c) (by decide) (by decide)) $$ [h1 HO]
  · isplitr; · iexact HC
    isplitl [h1]; · iexact h1
    iexact HO
  iintro ⟨h1, HO⟩
  iapply (step_wait_send a c 2 1 8 (by decide) (by rfl)) $$ [h2 HO]
  · isplitr; · iexact HC
    isplitl [h2]; · iexact h2
    iexact HO
  iintro ⟨h2, HO⟩
  iapply (step_wait_recv a c 2 1 8 (by decide) (by decide) (by rfl)) $$ [h2 HO]
  · isplitr; · iexact HC
    isplitl [h2]; · iexact h2
    iexact HO
  iintro ⟨h2, HO⟩
  iapply (step_load_acc a c 2 1 (off8_eq c)) $$ h2
  iintro h2
  iapply (step_load_rx a c 2 1 (rxB_of (rx_off 2 1))) $$ h2
  iintro h2
  iapply (step_load_acc a c 2 1 (off8_eq c)) $$ h2
  iintro h2
  iapply (WP_ret c)
  iapply Hk
  isplitl [h1]; · iexact h1
  isplitl [h2]; · iexact h2
  iexact HO

set_option maxHeartbeats 2000000 in
/-- Part 20 of the body: its copies, waits and sums, in order. -/
theorem run20 (c : Dev nD) (v2 : BitVec 32) (v365 : BitVec 32) (v536 : BitVec 32)  (Q : (BitVec 32) → sProp 𝕄) :
    iprop(Ctx a ∗ Sent a c 0 2 ∗ Arrived a c 2 1 ∗ owesE c (Ow c 8))
      ⊢ iprop((∀ r, (Arrived a c 0 2 ∗ Sent a c 2 2 ∗ owesE c (Ow c 9)) -∗ Q r)
        -∗ WP c (k0_part20 arg0 harg0 arg1 harg1 arg2 harg2 arg3 harg3 arg4 harg4 arg5 harg5 accM hA rxM hX arg8 harg8 cc0_scratch3 cc0_scratch4 c v2 v365 v536 (k0_pay54 (H a 2 (1 : Fin 4).val c) (sent a 2 1 (pa 2 1 c)))) Q) := by
  rw [k0_part20_eq_skeleton]; unfold k0_part20_skel
  simp only [Prog.lift, Prog.bind_op, Prog.bind_ret, Prog.pure_eq_ret]
  iintro ⟨#HC, h0, h2, HO⟩ Hk
  iapply (step_store a c 2 1 2 (by decide) rfl (off8_eq c) rfl) $$ h2
  iintro h2
  iapply (step_send a c 2 2 (by decide) 8 rfl (accB_of (off9_eq c)) (rxB_of (rx_off 2 2)) (dev12_eq c) (by decide) (by decide)) $$ [h2 HO]
  · isplitr; · iexact HC
    isplitl [h2]; · iexact h2
    iexact HO
  iintro ⟨h2, HO⟩
  iapply (step_wait_send a c 0 2 9 (by decide) (by rfl)) $$ [h0 HO]
  · isplitr; · iexact HC
    isplitl [h0]; · iexact h0
    iexact HO
  iintro ⟨h0, HO⟩
  iapply (step_wait_recv a c 0 2 9 (by decide) (by decide) (by rfl)) $$ [h0 HO]
  · isplitr; · iexact HC
    isplitl [h0]; · iexact h0
    iexact HO
  iintro ⟨h0, HO⟩
  iapply (WP_ret c)
  iapply Hk
  isplitl [h0]; · iexact h0
  isplitl [h2]; · iexact h2
  iexact HO

set_option maxHeartbeats 2000000 in
/-- Part 21 of the body: its copies, waits and sums, in order. -/
theorem run21 (c : Dev nD) (v2 : BitVec 32) (v365 : BitVec 32) (v571 : BitVec 32) (Q : (BitVec 32) → sProp 𝕄) :
    iprop(Ctx a ∗ Arrived a c 0 2 ∗ Sent a c 1 2 ∗ owesE c (Ow c 9))
      ⊢ iprop((∀ r, (Sent a c 0 3 ∗ Departed a c 1 2 ∗ owesE c (Ow c 10)) -∗ Q r)
        -∗ WP c (k0_part21 arg0 harg0 arg1 harg1 arg2 harg2 arg3 harg3 arg4 harg4 arg5 harg5 accM hA rxM hX arg8 harg8 cc0_scratch3 cc0_scratch4 c v2 v365 v571) Q) := by
  rw [k0_part21_eq_skeleton]; unfold k0_part21_skel
  simp only [Prog.lift, Prog.bind_op, Prog.bind_ret, Prog.pure_eq_ret]
  iintro ⟨#HC, h0, h1, HO⟩ Hk
  iapply (step_load_acc a c 0 2 (off4_eq c)) $$ h0
  iintro h0
  iapply (step_load_rx a c 0 2 (rxB_of (rx_off 0 2))) $$ h0
  iintro h0
  iapply (step_load_acc a c 0 2 (off4_eq c)) $$ h0
  iintro h0
  iapply (step_store a c 0 2 3 (by decide) rfl (off4_eq c) rfl) $$ h0
  iintro h0
  iapply (step_send a c 0 3 (by decide) 9 rfl (accB_of (off5_eq c)) (land3 (off5_eq c)) (dev13_eq c) (by decide) (by decide)) $$ [h0 HO]
  · isplitr; · iexact HC
    isplitl [h0]; · iexact h0
    iexact HO
  iintro ⟨h0, HO⟩
  iapply (step_wait_send a c 1 2 10 (by decide) (by rfl)) $$ [h1 HO]
  · isplitr; · iexact HC
    isplitl [h1]; · iexact h1
    iexact HO
  iintro ⟨h1, HO⟩
  iapply (WP_ret c)
  iapply Hk
  isplitl [h0]; · iexact h0
  isplitl [h1]; · iexact h1
  iexact HO

set_option maxHeartbeats 2000000 in
/-- Part 22 of the body: its copies, waits and sums, in order. -/
theorem run22 (c : Dev nD) (v2 : BitVec 32) (v368 : BitVec 32) (Q : (BitVec 32) → sProp 𝕄) :
    iprop(Ctx a ∗ Departed a c 1 2 ∗ owesE c (Ow c 10))
      ⊢ iprop((∀ r, (Sent a c 1 3 ∗ owesE c (Ow c 11)) -∗ Q r)
        -∗ WP c (k0_part22 arg0 harg0 arg1 harg1 arg2 harg2 arg3 harg3 arg4 harg4 arg5 harg5 accM hA rxM hX arg8 harg8 cc0_scratch3 cc0_scratch4 c v2 v368) Q) := by
  rw [k0_part22_eq_skeleton]; unfold k0_part22_skel
  simp only [Prog.lift, Prog.bind_op, Prog.bind_ret, Prog.pure_eq_ret]
  iintro ⟨#HC, h1, HO⟩ Hk
  iapply (step_wait_recv a c 1 2 10 (by decide) (by decide) (by rfl)) $$ [h1 HO]
  · isplitr; · iexact HC
    isplitl [h1]; · iexact h1
    iexact HO
  iintro ⟨h1, HO⟩
  iapply (step_load_acc a c 1 2 (off6_eq c)) $$ h1
  iintro h1
  iapply (step_load_rx a c 1 2 (rxB_of (rx_off 1 2))) $$ h1
  iintro h1
  iapply (step_load_acc a c 1 2 (off6_eq c)) $$ h1
  iintro h1
  iapply (step_store a c 1 2 3 (by decide) rfl (off6_eq c) rfl) $$ h1
  iintro h1
  iapply (step_send a c 1 3 (by decide) 10 rfl (accB_of (off7_eq c)) (land3 (off7_eq c)) (dev14_eq c) (by decide) (by decide)) $$ [h1 HO]
  · isplitr; · iexact HC
    isplitl [h1]; · iexact h1
    iexact HO
  iintro ⟨h1, HO⟩
  iapply (WP_ret c)
  iapply Hk
  isplitl [h1]; · iexact h1
  iexact HO

set_option maxHeartbeats 2000000 in
/-- Part 23 of the body: its copies, waits and sums, in order. -/
theorem run23 (c : Dev nD) (v2 : BitVec 32) (v371 : BitVec 32) (v606 : BitVec 32) (Q : (BitVec 32) → sProp 𝕄) :
    iprop(Ctx a ∗ Sent a c 2 2 ∗ owesE c (Ow c 11))
      ⊢ iprop((∀ r, (Sent a c 2 3 ∗ owesE c (Ow c 12)) -∗ Q r)
        -∗ WP c (k0_part23 arg0 harg0 arg1 harg1 arg2 harg2 arg3 harg3 arg4 harg4 arg5 harg5 accM hA rxM hX arg8 harg8 cc0_scratch3 cc0_scratch4 c v2 v371 v606) Q) := by
  rw [k0_part23_eq_skeleton]; unfold k0_part23_skel
  simp only [Prog.lift, Prog.bind_op, Prog.bind_ret, Prog.pure_eq_ret]
  iintro ⟨#HC, h2, HO⟩ Hk
  iapply (step_wait_send a c 2 2 11 (by decide) (by rfl)) $$ [h2 HO]
  · isplitr; · iexact HC
    isplitl [h2]; · iexact h2
    iexact HO
  iintro ⟨h2, HO⟩
  iapply (step_wait_recv a c 2 2 11 (by decide) (by decide) (by rfl)) $$ [h2 HO]
  · isplitr; · iexact HC
    isplitl [h2]; · iexact h2
    iexact HO
  iintro ⟨h2, HO⟩
  iapply (step_load_acc a c 2 2 (off8_eq c)) $$ h2
  iintro h2
  iapply (step_load_rx a c 2 2 (rxB_of (rx_off 2 2))) $$ h2
  iintro h2
  iapply (step_load_acc a c 2 2 (off8_eq c)) $$ h2
  iintro h2
  iapply (step_store a c 2 2 3 (by decide) rfl (off8_eq c) rfl) $$ h2
  iintro h2
  iapply (step_send a c 2 3 (by decide) 11 rfl (accB_of (off9_eq c)) (land3 (off9_eq c)) (dev15_eq c) (by decide) (by decide)) $$ [h2 HO]
  · isplitr; · iexact HC
    isplitl [h2]; · iexact h2
    iexact HO
  iintro ⟨h2, HO⟩
  iapply (WP_ret c)
  iapply Hk
  isplitl [h2]; · iexact h2
  iexact HO

set_option maxHeartbeats 2000000 in
/-- Part 24 of the body: its copies, waits and sums, in order. -/
theorem run24 (c : Dev nD) (v641 : BitVec 32) (v676 : BitVec 32) (Q : (PUnit) → sProp 𝕄) :
    iprop(Ctx a ∗ Sent a c 0 3 ∗ Sent a c 1 3 ∗ owesE c (Ow c 12))
      ⊢ iprop((∀ r, (Arrived a c 0 3 ∗ Departed a c 1 3 ∗ owesE c (Ow c 12)) -∗ Q r)
        -∗ WP c (k0_part24 arg0 harg0 arg1 harg1 arg2 harg2 arg3 harg3 arg4 harg4 arg5 harg5 accM hA rxM hX arg8 harg8 cc0_scratch3 cc0_scratch4 c v641 v676) Q) := by
  rw [k0_part24_eq_skeleton]; unfold k0_part24_skel
  simp only [Prog.lift, Prog.bind_op, Prog.bind_ret, Prog.pure_eq_ret]
  iintro ⟨#HC, h0, h1, HO⟩ Hk
  iapply (step_wait_send a c 0 3 12 (by decide) (by rfl)) $$ [h0 HO]
  · isplitr; · iexact HC
    isplitl [h0]; · iexact h0
    iexact HO
  iintro ⟨h0, HO⟩
  iapply (step_wait_recv a c 0 3 12 (by decide) (by decide) (by rfl)) $$ [h0 HO]
  · isplitr; · iexact HC
    isplitl [h0]; · iexact h0
    iexact HO
  iintro ⟨h0, HO⟩
  iapply (step_wait_send a c 1 3 12 (by decide) (by rfl)) $$ [h1 HO]
  · isplitr; · iexact HC
    isplitl [h1]; · iexact h1
    iexact HO
  iintro ⟨h1, HO⟩
  iapply (WP_ret c)
  iapply Hk
  isplitl [h0]; · iexact h0
  isplitl [h1]; · iexact h1
  iexact HO

end Cert.KernelIdeal.Run

end
-- ==== Proof.Scratch.lean ====
/- The accumulator and the landing buffer as their blocks; the loads of whole planes of the accumulator. -/
module

public import proofs.«01_k».proof.Proof.Compute
public import proofs.«01_k».proof.Proof.Comm
public import Idealize.ShloMosaic.Lib.Ring

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem accB_set (t : Fin 3) (h : Fin 2) :
    (accB t h).view.set = (Rect.unit (s := S3x1024x256) (accOff t h) S1x512x256.size (accOff_inb t h)).set := View.set_slice_whole _ _
theorem rxB_set (t : Fin 3) (s : Fin 3) :
    (rxB t s).view.set = (Rect.unit (s := S3x1536x256) (rxOff t s) S1x512x256.size (rxOff_inb t s)).set := View.set_slice_whole _ _

/-- The blocks of the accumulator, as sets of its elements, -/
def accI (p : Fin 3 × Fin 2) : Finset S3x1024x256.Idx := (Rect.unit (s := S3x1024x256) (accOff p.1 p.2) S1x512x256.size (accOff_inb p.1 p.2)).set
/-- and those of the landing buffer. -/
def rxI (p : Fin 3 × Fin 3) : Finset S3x1536x256.Idx := (Rect.unit (s := S3x1536x256) (rxOff p.1 p.2) S1x512x256.size (rxOff_inb p.1 p.2)).set

theorem accI_disjoint (p p' : Fin 3 × Fin 2) (h : p ≠ p') : Disjoint (accI p) (accI p') := by
  by_cases ht : p.1 = p'.1
  · have hh : p.2.val ≠ p'.2.val := fun e => h (Prod.ext ht (Fin.ext e))
    exact Rect.unit_disjoint (s := S3x1024x256) 1 (show 512 * p.2.val + 512 ≤ 512 * p'.2.val ∨ 512 * p'.2.val + 512 ≤ 512 * p.2.val by omega)
  · have hh : p.1.val ≠ p'.1.val := fun e => ht (Fin.ext e)
    exact Rect.unit_disjoint (s := S3x1024x256) 0 (show p.1.val + 1 ≤ p'.1.val ∨ p'.1.val + 1 ≤ p.1.val by omega)
theorem rxI_disjoint (p p' : Fin 3 × Fin 3) (h : p ≠ p') : Disjoint (rxI p) (rxI p') := by
  by_cases ht : p.1 = p'.1
  · have hh : p.2.val ≠ p'.2.val := fun e => h (Prod.ext ht (Fin.ext e))
    exact Rect.unit_disjoint (s := S3x1536x256) 1 (show 512 * p.2.val + 512 ≤ 512 * p'.2.val ∨ 512 * p'.2.val + 512 ≤ 512 * p.2.val by omega)
  · have hh : p.1.val ≠ p'.1.val := fun e => ht (Fin.ext e)
    exact Rect.unit_disjoint (s := S3x1536x256) 0 (show p.1.val + 1 ≤ p'.1.val ∨ p'.1.val + 1 ≤ p.1.val by omega)

theorem accI_cover : Finset.univ.biUnion accI = Finset.univ := by
  refine Finset.eq_univ_of_forall fun i => ?_
  have h0 : (i 0).val < 3 := (i 0).isLt
  have h1 : (i 1).val < 1024 := (i 1).isLt
  have h2 : (i 2).val < 256 := (i 2).isLt
  refine Finset.mem_biUnion.mpr ⟨(⟨(i 0).val, h0⟩, ⟨(i 1).val / 512, by omega⟩), Finset.mem_univ _, Rect.mem_set_unit.mpr fun j => ?_⟩
  fin_cases j
  · exact ⟨show (i 0).val ≤ (i 0).val by omega, show (i 0).val < (i 0).val + 1 by omega⟩
  · exact ⟨show 512 * ((i 1).val / 512) ≤ (i 1).val by omega, show (i 1).val < 512 * ((i 1).val / 512) + 512 by omega⟩
  · exact ⟨show 0 ≤ (i 2).val by omega, show (i 2).val < 0 + 256 by omega⟩
theorem rxI_cover : Finset.univ.biUnion rxI = Finset.univ := by
  refine Finset.eq_univ_of_forall fun i => ?_
  have h0 : (i 0).val < 3 := (i 0).isLt
  have h1 : (i 1).val < 1536 := (i 1).isLt
  have h2 : (i 2).val < 256 := (i 2).isLt
  refine Finset.mem_biUnion.mpr ⟨(⟨(i 0).val, h0⟩, ⟨(i 1).val / 512, by omega⟩), Finset.mem_univ _, Rect.mem_set_unit.mpr fun j => ?_⟩
  fin_cases j
  · exact ⟨show (i 0).val ≤ (i 0).val by omega, show (i 0).val < (i 0).val + 1 by omega⟩
  · exact ⟨show 512 * ((i 1).val / 512) ≤ (i 1).val by omega, show (i 1).val < 512 * ((i 1).val / 512) + 512 by omega⟩
  · exact ⟨show 0 ≤ (i 2).val by omega, show (i 2).val < 0 + 256 by omega⟩

theorem acc_to (c : Dev nD) (p : Fin 3 × Fin 2) (f : Buf (Elt F) ((c : Thread nD τ).loc cc0_scratch0)) :
    (((c : Thread nD τ).loc cc0_scratch0 ↦[accI p]{fullShare} f) : sProp 𝕄) ⊢ blkAny (accB p.1 p.2) c := by
  unfold blkAny blkAt
  iintro H
  iexists _, f
  isplitr
  · ipureintro; rfl
  rw [accB_set]
  iexact H
theorem acc_of (c : Dev nD) (p : Fin 3 × Fin 2) :
    blkAny (accB p.1 p.2) c ⊢ (iprop(∃ f : Buf (Elt F) ((c : Thread nD τ).loc cc0_scratch0), (c : Thread nD τ).loc cc0_scratch0 ↦[accI p]{fullShare} f) : sProp 𝕄) := by
  unfold blkAny blkAt
  iintro ⟨%w, %f, -, H⟩
  iexists f
  rw [accB_set]
  iexact H
theorem rx_to (c : Dev nD) (p : Fin 3 × Fin 3) (f : Buf (Elt F) ((c : Thread nD τ).loc cc0_scratch1)) :
    (((c : Thread nD τ).loc cc0_scratch1 ↦[rxI p]{fullShare} f) : sProp 𝕄) ⊢ blkAny (rxB p.1 p.2) c := by
  unfold blkAny blkAt
  iintro H
  iexists _, f
  isplitr
  · ipureintro; rfl
  rw [rxB_set]
  iexact H
theorem rx_of (c : Dev nD) (p : Fin 3 × Fin 3) :
    blkAny (rxB p.1 p.2) c ⊢ (iprop(∃ f : Buf (Elt F) ((c : Thread nD τ).loc cc0_scratch1), (c : Thread nD τ).loc cc0_scratch1 ↦[rxI p]{fullShare} f) : sProp 𝕄) := by
  unfold blkAny blkAt
  iintro ⟨%w, %f, -, H⟩
  iexists f
  rw [rxB_set]
  iexact H

theorem six (Φ : Fin 3 × Fin 2 → sProp 𝕄) : bigSep Finset.univ Φ
    = iprop(Φ (0, 0) ∗ Φ (0, 1) ∗ Φ (1, 0) ∗ Φ (1, 1) ∗ Φ (2, 0) ∗ Φ (2, 1)) :=
  BI.bigSep_univ_eq_bigSepL [(0, 0), (0, 1), (1, 0), (1, 1), (2, 0), (2, 1)] (by decide) (by decide) Φ
theorem nine (Φ : Fin 3 × Fin 3 → sProp 𝕄) : bigSep Finset.univ Φ
    = iprop(Φ (0, 0) ∗ Φ (0, 1) ∗ Φ (0, 2) ∗ Φ (1, 0) ∗ Φ (1, 1) ∗ Φ (1, 2) ∗ Φ (2, 0) ∗ Φ (2, 1) ∗ Φ (2, 2)) :=
  BI.bigSep_univ_eq_bigSepL [(0, 0), (0, 1), (0, 2), (1, 0), (1, 1), (1, 2), (2, 0), (2, 1), (2, 2)] (by decide) (by decide) Φ

/-- The accumulator, whole, is its six blocks; -/
theorem acc_split (c : Dev nD) (f : Buf (Elt F) ((c : Thread nD τ).loc cc0_scratch0)) :
    (((c : Thread nD τ).loc cc0_scratch0 ↦{fullShare} f) : sProp 𝕄)
      ⊢ iprop((blkAny (F := F) (accB 0 0) c ∗ blkAny (F := F) (accB 0 1) c) ∗ (blkAny (F := F) (accB 1 0) c ∗ blkAny (F := F) (accB 1 1) c)
        ∗ blkAny (F := F) (accB 2 0) c ∗ blkAny (F := F) (accB 2 1) c) := by
  refine (Entails.of_eq (Ring.pointsTo_blocks accI accI_disjoint accI_cover f)).trans ?_
  refine (BI.bigSep_mono fun p _ => acc_to c p f).trans ?_
  refine (Entails.of_eq (six _)).trans ?_
  iintro ⟨h0, h1, h2, h3, h4, h5⟩
  isplitl [h0 h1]; · isplitl [h0]; · iexact h0
                     iexact h1
  isplitl [h2 h3]; · isplitl [h2]; · iexact h2
                     iexact h3
  isplitl [h4]; · iexact h4
  iexact h5
/-- and back. -/
theorem acc_join (c : Dev nD) (f₀ : Buf (Elt F) ((c : Thread nD τ).loc cc0_scratch0)) :
    iprop((blkAny (F := F) (accB 0 0) c ∗ blkAny (F := F) (accB 0 1) c) ∗ (blkAny (F := F) (accB 1 0) c ∗ blkAny (F := F) (accB 1 1) c)
        ∗ blkAny (F := F) (accB 2 0) c ∗ blkAny (F := F) (accB 2 1) c)
      ⊢ (iprop(∃ f : Buf (Elt F) ((c : Thread nD τ).loc cc0_scratch0), (c : Thread nD τ).loc cc0_scratch0 ↦{fullShare} f) : sProp 𝕄) := by
  have h1 : bigSep Finset.univ (fun p : Fin 3 × Fin 2 => blkAny (F := F) (accB p.1 p.2) c) ⊢ _ := BI.bigSep_mono fun p _ => acc_of c p
  have h2 := Ring.pointsTo_blocks_join_exists (nD := nD) (τ := τ) (sig := sig) (Ix := Unit) (Val := Elt F) (Name := ℕ) (U := UU) (Lvl := ℕ)
    (ℓ := (c : Thread nD τ).loc cc0_scratch0) (q := fullShare) accI accI_disjoint accI_cover f₀
  refine BIBase.Entails.trans ?_ (((Entails.of_eq (six fun p => blkAny (F := F) (accB p.1 p.2) c).symm).trans h1).trans h2)
  iintro ⟨⟨h0, h1⟩, ⟨h2, h3⟩, h4, h5⟩
  isplitl [h0]; · iexact h0
  isplitl [h1]; · iexact h1
  isplitl [h2]; · iexact h2
  isplitl [h3]; · iexact h3
  isplitl [h4]; · iexact h4
  iexact h5

/-- The landing buffer, whole, is its nine blocks; -/
theorem rx_split (c : Dev nD) (f : Buf (Elt F) ((c : Thread nD τ).loc cc0_scratch1)) :
    (((c : Thread nD τ).loc cc0_scratch1 ↦{fullShare} f) : sProp 𝕄)
      ⊢ iprop(blkAny (F := F) (rxB 0 0) c ∗ blkAny (F := F) (rxB 0 1) c ∗ blkAny (F := F) (rxB 0 2) c
        ∗ blkAny (F := F) (rxB 1 0) c ∗ blkAny (F := F) (rxB 1 1) c ∗ blkAny (F := F) (rxB 1 2) c
        ∗ blkAny (F := F) (rxB 2 0) c ∗ blkAny (F := F) (rxB 2 1) c ∗ blkAny (F := F) (rxB 2 2) c) := by
  refine (Entails.of_eq (Ring.pointsTo_blocks rxI rxI_disjoint rxI_cover f)).trans ?_
  refine (BI.bigSep_mono fun p _ => rx_to c p f).trans ?_
  exact Entails.of_eq (nine _)
/-- and back. -/
theorem rx_join (c : Dev nD) (f₀ : Buf (Elt F) ((c : Thread nD τ).loc cc0_scratch1)) :
    iprop(blkAny (F := F) (rxB 0 0) c ∗ blkAny (F := F) (rxB 0 1) c ∗ blkAny (F := F) (rxB 0 2) c
        ∗ blkAny (F := F) (rxB 1 0) c ∗ blkAny (F := F) (rxB 1 1) c ∗ blkAny (F := F) (rxB 1 2) c
        ∗ blkAny (F := F) (rxB 2 0) c ∗ blkAny (F := F) (rxB 2 1) c ∗ blkAny (F := F) (rxB 2 2) c)
      ⊢ (iprop(∃ f : Buf (Elt F) ((c : Thread nD τ).loc cc0_scratch1), (c : Thread nD τ).loc cc0_scratch1 ↦{fullShare} f) : sProp 𝕄) := by
  have h1 : bigSep Finset.univ (fun p : Fin 3 × Fin 3 => blkAny (F := F) (rxB p.1 p.2) c) ⊢ _ := BI.bigSep_mono fun p _ => rx_of c p
  have h2 := Ring.pointsTo_blocks_join_exists (nD := nD) (τ := τ) (sig := sig) (Ix := Unit) (Val := Elt F) (Name := ℕ) (U := UU) (Lvl := ℕ)
    (ℓ := (c : Thread nD τ).loc cc0_scratch1) (q := fullShare) rxI rxI_disjoint rxI_cover f₀
  refine BIBase.Entails.trans ?_ (((Entails.of_eq (nine fun p => blkAny (F := F) (rxB p.1 p.2) c).symm).trans h1).trans h2)
  exact .rfl

/-! ## A plane of the accumulator -/

/-- Two blocks, one above the other. -/
def planeOf (u : Fin 2 → Tile F) : Vec F S1x1024x256 .bf16 := fun y =>
  u ⟨(y 1).val / 512, by have h : (y 1).val < 1024 := (y 1).isLt; omega⟩
    (ix3 (n0 := 1) (n1 := 512) (n2 := 256) 0 ⟨(y 1).val % 512, Nat.mod_lt _ (by decide)⟩ (y 2))

/-- A load of both blocks of a chunk at once. -/
theorem load_plane {α : Type} (c : Dev nD) (t : Fin 3) (u : Fin 2 → Tile F) {off : Fin 3 → Nat} (ho : off = ![t.val, 0, 0])
    {inb : ∀ i, off i + S1x1024x256.size i ≤ S3x1024x256.size i} {hl}
    {k : Vec F S1x1024x256 .bf16 → Prog (TpuEff nD τ sig (Elt F) Λ₀ .tc) α} {Q : α → sProp 𝕄} :
    iprop(blkAt (accB t 0) c (u 0) ∗ blkAt (accB t 1) c (u 1))
      ⊢ iprop(((blkAt (accB t 0) c (u 0) ∗ blkAt (accB t 1) c (u 1)) -∗ WP c (k (planeOf u)) Q)
        -∗ WP c (.op (.load accM (Rect.unit (s := S3x1024x256) off S1x1024x256.size inb).toLoadRect hl) k) Q) := by
  subst ho
  have hd : Disjoint (accI (t, 0)) (accI (t, 1)) := accI_disjoint _ _ (fun e => absurd (show (0 : Fin 2) = 1 from congrArg Prod.snd e) (by decide))
  have e0 : (accB t 0).view.set = accI (t, 0) := accB_set t 0
  have e1 : (accB t 1).view.set = accI (t, 1) := accB_set t 1
  unfold blkAt
  iintro ⟨⟨%f0, %hf0, h0⟩, ⟨%f1, %hf1, h1⟩⟩ Hk
  ihave H := (pointsTo_join (ℓ := (c : Thread nD τ).loc cc0_scratch0) (q := fullShare) (f := f0) (g := f1) hd) $$ [h0 h1]
  · isplitl [h0]
    · rw [← e0]; iexact h0
    · rw [← e1]; iexact h1
  have hg0 : (accB t 0).view.read (Elt F) ((accI (t, 1)).piecewise f1 f0 : Buf (Elt F) ((c : Thread nD τ).loc cc0_scratch0)) = u 0 := by
    rw [← hf0]
    exact View.read_congr fun i hi => Finset.piecewise_eq_of_notMem _ _ _ (Finset.disjoint_left.mp hd (by rw [← e0]; exact hi))
  have hg1 : (accB t 1).view.read (Elt F) ((accI (t, 1)).piecewise f1 f0 : Buf (Elt F) ((c : Thread nD τ).loc cc0_scratch0)) = u 1 := by
    rw [← hf1]
    exact View.read_congr fun i hi => Finset.piecewise_eq_of_mem _ _ _ (by rw [← e1]; exact hi)
  generalize ((accI (t, 1)).piecewise f1 f0 : Buf (Elt F) ((c : Thread nD τ).loc cc0_scratch0)) = g at hg0 hg1
  have hsub : (accM.access (Rect.unit (s := S3x1024x256) ![t.val, 0, 0] S1x1024x256.size inb)).set ⊆ accI (t, 0) ∪ accI (t, 1) := by
    rw [View.set_slice_whole]
    intro i hi
    have hm := Rect.mem_set_unit.mp hi
    have m0 := hm 0
    have m1 := hm 1
    have m2 := hm 2
    have q0 : t.val ≤ (i 0).val ∧ (i 0).val < t.val + 1 := m0
    have q1 : 0 ≤ (i 1).val ∧ (i 1).val < 0 + 1024 := m1
    have q2 : 0 ≤ (i 2).val ∧ (i 2).val < 0 + 256 := m2
    by_cases hh : (i 1).val < 512
    · refine Finset.mem_union_left _ (Rect.mem_set_unit.mpr fun j => ?_)
      fin_cases j
      · exact q0
      · exact ⟨show 512 * 0 ≤ (i 1).val by omega, show (i 1).val < 512 * 0 + 512 by omega⟩
      · exact q2
    · refine Finset.mem_union_right _ (Rect.mem_set_unit.mpr fun j => ?_)
      fin_cases j
      · exact q0
      · exact ⟨show 512 * 1 ≤ (i 1).val by omega, show (i 1).val < 512 * 1 + 512 by omega⟩
      · exact q2
  have hread : (accM.access (Rect.unit (s := S3x1024x256) ![t.val, 0, 0] S1x1024x256.size inb)).read (Elt F) g = planeOf u := by
    funext y
    have h1 : (y 1).val < 1024 := (y 1).isLt
    have hu : ∀ h : Fin 2, u h = (accB t h).view.read (Elt F) g := fun h => by
      fin_cases h
      · exact hg0.symm
      · exact hg1.symm
    unfold planeOf
    rw [hu]
    show g _ = g _
    congr 1
    funext i
    refine Fin.ext ?_
    fin_cases i
    · show t.val + 1 * (y 0).val = t.val + 1 * 0
      have h0 : (y 0).val < 1 := (y 0).isLt
      omega
    · show 0 + 1 * (y 1).val = 512 * ((y 1).val / 512) + 1 * ((y 1).val % 512)
      omega
    · show 0 + 1 * (y 2).val = 0 + 1 * (y 2).val
      rfl
  iapply (wp_load_rect 𝒱₀ (c : Thread nD τ) none Set.univ (m := accM) (r := Rect.unit (s := S3x1024x256) ![t.val, 0, 0] S1x1024x256.size inb) hsub) $$ H
  rw [hread]
  iintro H
  ihave H := (pointsTo_union (ℓ := (c : Thread nD τ).loc cc0_scratch0) (q := fullShare) (f := g) hd).1 $$ H
  icases H with ⟨h0, h1⟩
  iapply Hk
  isplitl [h0]
  · iexists g; isplitr
    · ipureintro; exact hg0
    rw [e0]; iexact h0
  · iexists g; isplitr
    · ipureintro; exact hg1
    rw [e1]; iexact h1

end Cert.KernelIdeal.Run

end
-- ==== Proof.Finish.lean ====
/- The end of the body: the last waits, and the stores of the three column blocks of the result. -/
module

public import proofs.«01_k».proof.Proof.Scratch

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (a : Dev nD → Fin 3 → Fin 2 → Tile F)

/-- A chunk at the end: every stage passed, both halves of the accumulator reduced. -/
def ended (c : Dev nD) (t : Fin 3) : sProp 𝕄 :=
  iprop(done (F := F) c t 3 ∗ laneD (F := F) c t 3 ∗ (blkAt (accB t 0) c (fin a t 0 c) ∗ blkAt (accB t 1) c (fin a t 1 c)))

theorem ended_of (c : Dev nD) (t : Fin 3) : Arrived a c t 3 ⊢ ended a c t := by
  have hk : kb t c = 0 ∨ kb t c = 1 := by
    generalize kb t c = k
    revert k; decide
  unfold Arrived ended
  iintro ⟨hd, ha, hl, hk, hx, hw⟩
  isplitl [hd]; · iexact hd
  isplitl [hl]; · iexact hl
  have e : landM t 3 c = accB t (ot t c) := rfl
  rcases hk with h | h
  · have e0 : fin a t 0 c = H a t 3 c := if_pos h.symm
    have e1 : fin a t 1 c = H a t 3 (pa t 3 c) := if_neg (fun e => absurd (e.trans h) (by decide))
    have o : ot t c = 1 := by rw [show ot t c = 1 - kb t c from rfl, h]; rfl
    rw [e0, e1]
    isplitl [hk]
    · iapply (Entails.of_eq (show kept a c t 3 = blkAt (accB t 0) c (H a t 3 c) by unfold kept; rw [h]; rfl)); iexact hk
    · iapply (Entails.of_eq (show blkAt (landM t 3 c) c (sent a t 3 (pa t 3 c)) = blkAt (accB t 1) c (H a t 3 (pa t 3 c)) by rw [e, o]; rfl)); iexact hx
  · have e1 : fin a t 1 c = H a t 3 c := if_pos h.symm
    have e0 : fin a t 0 c = H a t 3 (pa t 3 c) := if_neg (fun e => absurd (e.trans h) (by decide))
    have o : ot t c = 0 := by rw [show ot t c = 1 - kb t c from rfl, h]; rfl
    rw [e0, e1]
    isplitl [hx]
    · iapply (Entails.of_eq (show blkAt (landM t 3 c) c (sent a t 3 (pa t 3 c)) = blkAt (accB t 0) c (H a t 3 (pa t 3 c)) by rw [e, o]; rfl)); iexact hx
    · iapply (Entails.of_eq (show kept a c t 3 = blkAt (accB t 1) c (H a t 3 c) by unfold kept; rw [h]; rfl)); iexact hk

/-- The columns of the result that a chunk holds. -/
abbrev oRect (t : Fin 3) : Rect S2x512x768 := Rect.unit (s := S2x512x768) ![0, 0, 256 * t.val] S2x512x256.size (by
  fin_cases t <;> decide)
/-- The block of the result that a chunk becomes. -/
def oOf (c : Dev nD) (t : Fin 3) : FVec F S2x512x256 .f32 := k0_pay59 (planeOf fun h => fin a t h c)
/-- The result on device `c`. -/
def resOf (c : Dev nD) : Vec F S2x512x768 .f32 := fun y =>
  oOf a c ⟨(y 2).val / 256, by have h : (y 2).val < 768 := (y 2).isLt; omega⟩
    (ix3 (n0 := 2) (n1 := 512) (n2 := 256) (y 0) (y 1) ⟨(y 2).val % 256, Nat.mod_lt _ (by decide)⟩)

theorem oRect_disjoint (t t' : Fin 3) (h : t < t') : Disjoint (oRect t).set (oRect t').set :=
  Rect.unit_disjoint (s := S2x512x768) 2 (.inl (show 256 * t.val + 256 ≤ 256 * t'.val by have := Fin.lt_def.mp h; omega))

theorem res_cover (c : Dev nD) (y : S2x512x768.Idx) : ∃ t, ∃ x, (oRect t).emb x = y ∧ resOf a c y = oOf a c t x := by
  have h2 : (y 2).val < 768 := (y 2).isLt
  refine ⟨⟨(y 2).val / 256, by omega⟩, ix3 (n0 := 2) (n1 := 512) (n2 := 256) (y 0) (y 1) ⟨(y 2).val % 256, Nat.mod_lt _ (by decide)⟩, ?_, rfl⟩
  funext i
  refine Fin.ext ?_
  fin_cases i
  · show 0 + 1 * (y 0).val = (y 0).val
    omega
  · show 0 + 1 * (y 1).val = (y 1).val
    omega
  · show 256 * ((y 2).val / 256) + 1 * ((y 2).val % 256) = (y 2).val
    omega

variable (arg0 : Memref sig .tc .vmem S2x512x768 .f32) (harg0 : arg0.IsWhole) (arg1 : Memref sig .tc .vmem S768x512 .f32) (harg1 : arg1.IsWhole) (arg2 : Memref sig .tc .vmem S2x512x512 .f32) (harg2 : arg2.IsWhole) (arg3 : Memref sig .tc .vmem S2x512x512 .f32) (harg3 : arg3.IsWhole) (arg4 : Memref sig .tc .vmem S512x768 .f32) (harg4 : arg4.IsWhole) (arg5 : Memref sig .tc .vmem S2x512x768 .f32) (harg5 : arg5.IsWhole) (hA : accM.IsWhole) (hX : rxM.IsWhole) (arg8 : Memref sig .tc .vmem S512x512 .f32) (harg8 : arg8.IsWhole)

/-- The last waits, and the first two column blocks of the result. -/
theorem run25 (c : Dev nD) (v711 : BitVec 32) (Q : PUnit → sProp 𝕄) :
    iprop(Ctx a ∗ Departed a c 1 3 ∗ Sent a c 2 3 ∗ ended a c 0 ∗ partAt arg5 c oRect (oOf a c) 0 ∗ owesE c (Ow c 12))
      ⊢ iprop((∀ r, (ended a c 0 ∗ ended a c 1 ∗ ended a c 2 ∗ partAt arg5 c oRect (oOf a c) 2 ∗ owesE c (Ow c 12)) -∗ Q r)
        -∗ WP c (k0_part25 arg0 harg0 arg1 harg1 arg2 harg2 arg3 harg3 arg4 harg4 arg5 harg5 accM hA rxM hX arg8 harg8 cc0_scratch3 cc0_scratch4 c v711) Q) := by
  rw [k0_part25_eq_skeleton]; unfold k0_part25_skel
  simp only [Prog.lift, Prog.bind_op, Prog.bind_ret, Prog.pure_eq_ret]
  iintro ⟨#HC, h1, h2, h0, ho, HO⟩ Hk
  iapply (step_wait_recv a c 1 3 12 (by decide) (by decide) (by rfl)) $$ [h1 HO]
  · isplitr; · iexact HC
    isplitl [h1]; · iexact h1
    iexact HO
  iintro ⟨h1, HO⟩
  iapply (step_wait_send a c 2 3 12 (by decide) (by rfl)) $$ [h2 HO]
  · isplitr; · iexact HC
    isplitl [h2]; · iexact h2
    iexact HO
  iintro ⟨h2, HO⟩
  iapply (step_wait_recv a c 2 3 12 (by decide) (by decide) (by rfl)) $$ [h2 HO]
  · isplitr; · iexact HC
    isplitl [h2]; · iexact h2
    iexact HO
  iintro ⟨h2, HO⟩
  ihave h1 := (ended_of a c 1) $$ h1
  ihave h2 := (ended_of a c 2) $$ h2
  unfold ended
  icases h0 with ⟨d0, l0, p0⟩
  iapply (load_plane c 0 (fun h => fin a 0 h c) (by rfl)) $$ p0
  iintro p0
  iapply (part_load c arg5 oRect (oOf a c) 0 (oRect 0)) $$ ho
  iintro ho
  iapply (part_store c arg5 oRect (oOf a c) 0 0 rfl (fun i hi => oRect_disjoint i _ hi) (by rfl)) $$ ho
  iintro ho
  icases h1 with ⟨d1, l1, p1⟩
  iapply (load_plane c 1 (fun h => fin a 1 h c) (by rfl)) $$ p1
  iintro p1
  iapply (part_load c arg5 oRect (oOf a c) 1 (oRect 1)) $$ ho
  iintro ho
  iapply (part_store c arg5 oRect (oOf a c) 1 1 rfl (fun i hi => oRect_disjoint i _ hi) (by rfl)) $$ ho
  iintro ho
  iapply (WP_ret c)
  iapply Hk
  isplitl [d0 l0 p0]
  · isplitl [d0]; · iexact d0
    isplitl [l0]; · iexact l0
    iexact p0
  isplitl [d1 l1 p1]
  · isplitl [d1]; · iexact d1
    isplitl [l1]; · iexact l1
    iexact p1
  isplitl [h2]; · iexact h2
  isplitl [ho]; · iexact ho
  iexact HO

/-- The last column block. -/
theorem run26 (c : Dev nD) {inb : ∀ i, ![2, 0, 0] i + S1x1024x256.size i ≤ S3x1024x256.size i} {hl hl' hx hm}
    (Q : PUnit → sProp 𝕄) :
    iprop(ended a c 2 ∗ partAt arg5 c oRect (oOf a c) 2)
      ⊢ iprop(((ended a c 2 ∗ valAt arg5 c (resOf a c)) -∗ Q ⟨⟩)
        -∗ WP c (.op (.load accM (Rect.unit (s := S3x1024x256) ![2, 0, 0] S1x1024x256.size inb).toLoadRect hl) fun v774 =>
            .op (.load arg5 (oRect 2).toLoadRect hl') fun _ => .op (.store arg5 (oRect 2) (k0_pay1 v774) Finset.univ hx hm) fun _ => .ret ⟨⟩) Q) := by
  iintro ⟨h2, ho⟩ Hk
  unfold ended
  icases h2 with ⟨d2, l2, p2⟩
  iapply (load_plane c 2 (fun h => fin a 2 h c) (by rfl)) $$ p2
  iintro p2
  iapply (part_load c arg5 oRect (oOf a c) 2 (oRect 2)) $$ ho
  iintro ho
  iapply (part_store c arg5 oRect (oOf a c) 2 2 rfl (fun i hi => oRect_disjoint i _ hi) (by rfl)) $$ ho
  iintro ho
  ihave ho := (part_full c arg5 oRect (oOf a c) (resOf a c) (res_cover a c)) $$ ho
  iapply (WP_ret c)
  iapply Hk
  isplitl [d2 l2 p2]
  · isplitl [d2]; · iexact d2
    isplitl [l2]; · iexact l2
    iexact p2
  iexact ho

end Cert.KernelIdeal.Run

end
-- ==== Proof.Setup.lean ====
/- Before and after the body's rounds: what the barrier hands over, and the scratch buffers put together again. -/
module

public import proofs.«01_k».proof.Proof.Finish

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (a : Dev nD → Fin 3 → Fin 2 → Tile F)

/-- A chunk's four lanes, unused, -/
def lanes (c : Dev nD) (t : Fin 3) : sProp 𝕄 :=
  iprop(laneA (F := F) c t 0 ∗ laneA (F := F) c t 1 ∗ laneA (F := F) c t 2 ∗ laneA (F := F) c t 3)
/-- and used up. -/
def lanesD (c : Dev nD) (t : Fin 3) : sProp 𝕄 :=
  iprop(laneD (F := F) c t 0 ∗ laneD (F := F) c t 1 ∗ laneD (F := F) c t 2 ∗ laneD (F := F) c t 3)
/-- A chunk's four receiving cells are open. -/
def rch (c : Dev nD) (t : Fin 3) : sProp 𝕄 :=
  iprop(reached ER (recvCell c t 0) 0 ∗ reached ER (recvCell c t 1) 0 ∗ reached ER (recvCell c t 2) 0 ∗ reached ER (recvCell c t 3) 0)
/-- A chunk's landing blocks. -/
def rxs (c : Dev nD) (t : Fin 3) : sProp 𝕄 :=
  iprop(blkAny (F := F) (rxB t 0) c ∗ blkAny (F := F) (rxB t 1) c ∗ blkAny (F := F) (rxB t 2) c)
/-- A chunk's two halves of the accumulator. -/
def accs2 (c : Dev nD) (t : Fin 3) : sProp 𝕄 := iprop(blkAny (F := F) (accB t 0) c ∗ blkAny (F := F) (accB t 1) c)

theorem pay0 (c : Dev nD) :
    iprop(blkAny (F := F) (rxB 0 0) c ∗ blkAny (F := F) (rxB 2 1) c ∗ blkAny (F := F) (rxB 1 2) c
      ∗ reached ER (recvCell c 0 0) 0 ∗ reached ER (recvCell c 2 1) 0 ∗ reached ER (recvCell c 1 2) 0 ∗ reached ER (recvCell c 0 3) 0)
      ⊢ barPay (F := F) (pr 0 c) 0 := by
  unfold barPay
  rw [pr_pr]
  exact .rfl
theorem payed0 (c : Dev nD) :
    barPay (F := F) c 0 ⊢ iprop(blkAny (F := F) (rxB 0 0) (pa 0 0 c) ∗ blkAny (F := F) (rxB 2 1) (pa 2 1 c) ∗ blkAny (F := F) (rxB 1 2) (pa 1 2 c)
      ∗ reached ER (recvCell (pa 0 0 c) 0 0) 0 ∗ reached ER (recvCell (pa 2 1 c) 2 1) 0 ∗ reached ER (recvCell (pa 1 2 c) 1 2) 0 ∗ reached ER (recvCell (pa 0 3 c) 0 3) 0) := by
  unfold barPay
  exact .rfl
theorem pay1 (c : Dev nD) :
    iprop(blkAny (F := F) (rxB 1 0) c ∗ blkAny (F := F) (rxB 0 1) c ∗ blkAny (F := F) (rxB 2 2) c
      ∗ reached ER (recvCell c 1 0) 0 ∗ reached ER (recvCell c 0 1) 0 ∗ reached ER (recvCell c 2 2) 0 ∗ reached ER (recvCell c 1 3) 0)
      ⊢ barPay (F := F) (pr 1 c) 1 := by
  unfold barPay
  rw [pr_pr]
  exact .rfl
theorem payed1 (c : Dev nD) :
    barPay (F := F) c 1 ⊢ iprop(blkAny (F := F) (rxB 1 0) (pa 1 0 c) ∗ blkAny (F := F) (rxB 0 1) (pa 0 1 c) ∗ blkAny (F := F) (rxB 2 2) (pa 2 2 c)
      ∗ reached ER (recvCell (pa 1 0 c) 1 0) 0 ∗ reached ER (recvCell (pa 0 1 c) 0 1) 0 ∗ reached ER (recvCell (pa 2 2 c) 2 2) 0 ∗ reached ER (recvCell (pa 1 3 c) 1 3) 0) := by
  unfold barPay
  exact .rfl
theorem pay2 (c : Dev nD) :
    iprop(blkAny (F := F) (rxB 2 0) c ∗ blkAny (F := F) (rxB 1 1) c ∗ blkAny (F := F) (rxB 0 2) c
      ∗ reached ER (recvCell c 2 0) 0 ∗ reached ER (recvCell c 1 1) 0 ∗ reached ER (recvCell c 0 2) 0 ∗ reached ER (recvCell c 2 3) 0)
      ⊢ barPay (F := F) (pr 2 c) 2 := by
  unfold barPay
  rw [pr_pr]
  exact .rfl
theorem payed2 (c : Dev nD) :
    barPay (F := F) c 2 ⊢ iprop(blkAny (F := F) (rxB 2 0) (pa 2 0 c) ∗ blkAny (F := F) (rxB 1 1) (pa 1 1 c) ∗ blkAny (F := F) (rxB 0 2) (pa 0 2 c)
      ∗ reached ER (recvCell (pa 2 0 c) 2 0) 0 ∗ reached ER (recvCell (pa 1 1 c) 1 1) 0 ∗ reached ER (recvCell (pa 0 2 c) 0 2) 0 ∗ reached ER (recvCell (pa 2 3 c) 2 3) 0) := by
  unfold barPay
  exact .rfl

theorem ahead_of (c : Dev nD) (t : Fin 3) :
    iprop(lanes (F := F) c t ∗ (blkAny (F := F) (rxB t 0) (pa t 0 c) ∗ blkAny (F := F) (rxB t 1) (pa t 1 c) ∗ blkAny (F := F) (rxB t 2) (pa t 2 c))
      ∗ reached ER (recvCell (pa t 0 c) t 0) 0 ∗ reached ER (recvCell (pa t 1 c) t 1) 0 ∗ reached ER (recvCell (pa t 2 c) t 2) 0 ∗ reached ER (recvCell (pa t 3 c) t 3) 0)
      ⊢ ahead (F := F) c t 4 := by
  have e : ahead (F := F) c t 4 = iprop(later (F := F) c t 0 ∗ later (F := F) c t 1 ∗ later (F := F) c t 2 ∗ later (F := F) c t 3 ∗ emp) := rfl
  rw [e]
  unfold lanes later
  iintro ⟨⟨l0, l1, l2, l3⟩, ⟨x0, x1, x2⟩, r0, r1, r2, r3⟩
  isplitl [l0 x0 r0]
  · isplitl [l0]; · iexact l0
    isplitl [r0]; · iexact r0
    iapply (Entails.of_eq (show blkAny (F := F) (rxB t 0) (pa t 0 c) = rxOwn (F := F) (pa t 0 c) t 0 from rfl)); iexact x0
  isplitl [l1 x1 r1]
  · isplitl [l1]; · iexact l1
    isplitl [r1]; · iexact r1
    iapply (Entails.of_eq (show blkAny (F := F) (rxB t 1) (pa t 1 c) = rxOwn (F := F) (pa t 1 c) t 1 from rfl)); iexact x1
  isplitl [l2 x2 r2]
  · isplitl [l2]; · iexact l2
    isplitl [r2]; · iexact r2
    iapply (Entails.of_eq (show blkAny (F := F) (rxB t 2) (pa t 2 c) = rxOwn (F := F) (pa t 2 c) t 2 from rfl)); iexact x2
  isplitl [l3 r3]
  · isplitl [l3]; · iexact l3
    isplitl [r3]; · iexact r3
    iapply (Entails.of_eq (show iprop(emp) = rxOwn (F := F) (pa t 3 c) t 3 from rfl)); iempintro
  iempintro

/-- What a device gives its three partners at the barrier. -/
theorem setup_bar (c : Dev nD) :
    iprop((rxs (F := F) c 0 ∗ rxs (F := F) c 1 ∗ rxs (F := F) c 2) ∗ rch (F := F) c 0 ∗ rch (F := F) c 1 ∗ rch (F := F) c 2)
      ⊢ iprop(barPay (F := F) (pr 0 c) 0 ∗ barPay (F := F) (pr 1 c) 1 ∗ barPay (F := F) (pr 2 c) 2) := by
  unfold rxs rch
  iintro ⟨⟨⟨x00, x01, x02⟩, ⟨x10, x11, x12⟩, ⟨x20, x21, x22⟩⟩, ⟨r00, r01, r02, r03⟩, ⟨r10, r11, r12, r13⟩, ⟨r20, r21, r22, r23⟩⟩
  isplitl [x00 x21 x12 r00 r21 r12 r03]
  · iapply (pay0 c)
    isplitl [x00]; · iexact x00
    isplitl [x21]; · iexact x21
    isplitl [x12]; · iexact x12
    isplitl [r00]; · iexact r00
    isplitl [r21]; · iexact r21
    isplitl [r12]; · iexact r12
    iexact r03
  isplitl [x10 x01 x22 r10 r01 r22 r13]
  · iapply (pay1 c)
    isplitl [x10]; · iexact x10
    isplitl [x01]; · iexact x01
    isplitl [x22]; · iexact x22
    isplitl [r10]; · iexact r10
    isplitl [r01]; · iexact r01
    isplitl [r22]; · iexact r22
    iexact r13
  iapply (pay2 c)
  isplitl [x20]; · iexact x20
  isplitl [x11]; · iexact x11
  isplitl [x02]; · iexact x02
  isplitl [r20]; · iexact r20
  isplitl [r11]; · iexact r11
  isplitl [r02]; · iexact r02
  iexact r23

/-- What it has from them is what its copies need. -/
theorem setup_later (c : Dev nD) :
    iprop((barPay (F := F) c 0 ∗ barPay (F := F) c 1 ∗ barPay (F := F) c 2) ∗ lanes (F := F) c 0 ∗ lanes (F := F) c 1 ∗ lanes (F := F) c 2)
      ⊢ iprop(ahead (F := F) c 0 4 ∗ ahead (F := F) c 1 4 ∗ ahead (F := F) c 2 4) := by
  iintro ⟨⟨p0, p1, p2⟩, l0, l1, l2⟩
  ihave p0 := (payed0 c) $$ p0
  ihave p1 := (payed1 c) $$ p1
  ihave p2 := (payed2 c) $$ p2
  icases p0 with ⟨x00, x21, x12, r00, r21, r12, r03⟩
  icases p1 with ⟨x10, x01, x22, r10, r01, r22, r13⟩
  icases p2 with ⟨x20, x11, x02, r20, r11, r02, r23⟩
  isplitl [l0 x00 x01 x02 r00 r01 r02 r03]
  · iapply (ahead_of c 0)
    isplitl [l0]; · iexact l0
    isplitl [x00 x01 x02]
    · isplitl [x00]; · iexact x00
      isplitl [x01]; · iexact x01
      iexact x02
    isplitl [r00]; · iexact r00
    isplitl [r01]; · iexact r01
    isplitl [r02]; · iexact r02
    iexact r03
  isplitl [l1 x10 x11 x12 r10 r11 r12 r13]
  · iapply (ahead_of c 1)
    isplitl [l1]; · iexact l1
    isplitl [x10 x11 x12]
    · isplitl [x10]; · iexact x10
      isplitl [x11]; · iexact x11
      iexact x12
    isplitl [r10]; · iexact r10
    isplitl [r11]; · iexact r11
    isplitl [r12]; · iexact r12
    iexact r13
  iapply (ahead_of c 2)
  isplitl [l2]; · iexact l2
  isplitl [x20 x21 x22]
  · isplitl [x20]; · iexact x20
    isplitl [x21]; · iexact x21
    iexact x22
  isplitl [r20]; · iexact r20
  isplitl [r21]; · iexact r21
  isplitl [r22]; · iexact r22
  iexact r23

/-- With both halves written a chunk's first copy can go. -/
theorem ready_of (c : Dev nD) (t : Fin 3) :
    iprop(ahead (F := F) c t 4 ∗ blkAt (accB t 0) c (a c t 0) ∗ blkAt (accB t 1) c (a c t 1)) ⊢ Ready a c t 0 := by
  have hk : kb t c = 0 ∨ kb t c = 1 := by
    generalize kb t c = k
    revert k; decide
  have e : Ready a c t 0 = iprop(emp ∗ ahead (F := F) c t 4 ∗ blkAt (accB t (kb t c)) c (a c t (kb t c)) ∗ blkAt (accB t (ot t c)) c (a c t (ot t c))) := by
    unfold Ready
    rw [if_pos rfl]
    rfl
  rw [e]
  iintro ⟨ha, h0, h1⟩
  isplitr; · iempintro
  isplitl [ha]; · iexact ha
  rcases hk with h | h
  · have o : ot t c = 1 := by rw [show ot t c = 1 - kb t c from rfl, h]; rfl
    rw [h, o]
    isplitl [h0]; · iexact h0
    iexact h1
  · have o : ot t c = 0 := by rw [show ot t c = 1 - kb t c from rfl, h]; rfl
    rw [h, o]
    isplitl [h1]; · iexact h1
    iexact h0

/-- What a chunk gives back at the end. -/
theorem ended_to (c : Dev nD) (t : Fin 3) : ended a c t ⊢ iprop(lanesD (F := F) c t ∗ accs2 (F := F) c t ∗ rxs (F := F) c t) := by
  have e : done (F := F) c t 3 = iprop(((emp ∗ past (F := F) c t 0) ∗ past (F := F) c t 1) ∗ past (F := F) c t 2) := rfl
  unfold ended lanesD accs2 rxs
  rw [e]
  unfold past
  iintro ⟨⟨⟨⟨-, l0, x0⟩, l1, x1⟩, l2, x2⟩, l3, h0, h1⟩
  isplitl [l0 l1 l2 l3]
  · isplitl [l0]; · iexact l0
    isplitl [l1]; · iexact l1
    isplitl [l2]; · iexact l2
    iexact l3
  isplitl [h0 h1]
  · isplitl [h0]
    · unfold blkAny; iexists _; iexact h0
    · unfold blkAny; iexists _; iexact h1
  isplitl [x0]; · iapply (Entails.of_eq (show rxOwn (F := F) c t 0 = blkAny (F := F) (rxB t 0) c from rfl)); iexact x0
  isplitl [x1]; · iapply (Entails.of_eq (show rxOwn (F := F) c t 1 = blkAny (F := F) (rxB t 1) c from rfl)); iexact x1
  iapply (Entails.of_eq (show rxOwn (F := F) c t 2 = blkAny (F := F) (rxB t 2) c from rfl)); iexact x2

/-- A scratch buffer at contents not chosen. -/
abbrev accAny (c : Dev nD) : sProp 𝕄 :=
  iprop(∃ f : Buf (Elt F) ((c : Thread nD τ).loc cc0_scratch0), ((c : Thread nD τ).loc cc0_scratch0) ↦{fullShare} f)
abbrev rxAny (c : Dev nD) : sProp 𝕄 :=
  iprop(∃ f : Buf (Elt F) ((c : Thread nD τ).loc cc0_scratch1), ((c : Thread nD τ).loc cc0_scratch1) ↦{fullShare} f)

theorem acc_out (c : Dev nD) : accAny (F := F) c ⊢ iprop((∃ f : Buf (Elt F) ((c : Thread nD τ).loc cc0_scratch0), emp)
    ∗ accs2 (F := F) c 0 ∗ accs2 (F := F) c 1 ∗ accs2 (F := F) c 2) := by
  iintro ⟨%f, H⟩
  isplitr; · iexists f; iempintro
  unfold accs2
  iapply (acc_split c f); iexact H
theorem acc_in (c : Dev nD) : iprop((∃ f : Buf (Elt F) ((c : Thread nD τ).loc cc0_scratch0), emp)
    ∗ accs2 (F := F) c 0 ∗ accs2 (F := F) c 1 ∗ accs2 (F := F) c 2) ⊢ accAny (F := F) c := by
  iintro ⟨⟨%f, -⟩, H⟩
  unfold accs2
  iapply (acc_join c f); iexact H
theorem rx_out (c : Dev nD) : rxAny (F := F) c ⊢ iprop((∃ f : Buf (Elt F) ((c : Thread nD τ).loc cc0_scratch1), emp)
    ∗ rxs (F := F) c 0 ∗ rxs (F := F) c 1 ∗ rxs (F := F) c 2) := by
  iintro ⟨%f, H⟩
  isplitr; · iexists f; iempintro
  ihave H := (rx_split c f) $$ H
  unfold rxs
  icases H with ⟨x00, x01, x02, x10, x11, x12, x20, x21, x22⟩
  isplitl [x00 x01 x02]
  · isplitl [x00]; · iexact x00
    isplitl [x01]; · iexact x01
    iexact x02
  isplitl [x10 x11 x12]
  · isplitl [x10]; · iexact x10
    isplitl [x11]; · iexact x11
    iexact x12
  isplitl [x20]; · iexact x20
  isplitl [x21]; · iexact x21
  iexact x22
theorem rx_in (c : Dev nD) : iprop((∃ f : Buf (Elt F) ((c : Thread nD τ).loc cc0_scratch1), emp)
    ∗ rxs (F := F) c 0 ∗ rxs (F := F) c 1 ∗ rxs (F := F) c 2) ⊢ rxAny (F := F) c := by
  iintro ⟨⟨%f, -⟩, H⟩
  unfold rxs
  icases H with ⟨⟨x00, x01, x02⟩, ⟨x10, x11, x12⟩, x20, x21, x22⟩
  iapply (rx_join c f)
  isplitl [x00]; · iexact x00
  isplitl [x01]; · iexact x01
  isplitl [x02]; · iexact x02
  isplitl [x10]; · iexact x10
  isplitl [x11]; · iexact x11
  isplitl [x12]; · iexact x12
  isplitl [x20]; · iexact x20
  isplitl [x21]; · iexact x21
  iexact x22

end Cert.KernelIdeal.Run

end
-- ==== Proof.Body.lean ====
/- The whole body at a device: its twenty-five parts one after another. -/
module

public import proofs.«01_k».proof.Proof.Setup

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (arg0 : Memref sig .tc .vmem S2x512x768 .f32) (harg0 : arg0.IsWhole) (arg1 : Memref sig .tc .vmem S768x512 .f32) (harg1 : arg1.IsWhole)
  (arg2 : Memref sig .tc .vmem S2x512x512 .f32) (harg2 : arg2.IsWhole) (arg3 : Memref sig .tc .vmem S2x512x512 .f32) (harg3 : arg3.IsWhole)
  (arg4 : Memref sig .tc .vmem S512x768 .f32) (harg4 : arg4.IsWhole) (arg5 : Memref sig .tc .vmem S2x512x768 .f32) (harg5 : arg5.IsWhole)
  (hA : (accM).IsWhole) (hX : (rxM).IsWhole) (arg8 : Memref sig .tc .vmem S512x512 .f32) (harg8 : arg8.IsWhole)

/-- The partial results every device starts the sum with. -/
abbrev accs (J : Dev nD → Ins F) : Dev nD → Fin 3 → Fin 2 → Tile F := fun c t h => acc0 (J c) t h

variable (J : Dev nD → Ins F)

/-- What the body takes of its device's cells. -/
def opens (c : Dev nD) : sProp 𝕄 :=
  iprop(((dutyTok ER (barCell (pr 0 c)) 0 0 ∗ reached ER (barCell (pr 0 c)) 0) ∗ (dutyTok ER (barCell (pr 1 c)) 0 1 ∗ reached ER (barCell (pr 1 c)) 0)
      ∗ (dutyTok ER (barCell (pr 2 c)) 0 2 ∗ reached ER (barCell (pr 2 c)) 0))
    ∗ atPos ER (barCell c) 0 ∅ 0 ∗ cred (tallyAt (barCell c) () 3)
    ∗ (lanes (F := F) c 0 ∗ lanes (F := F) c 1 ∗ lanes (F := F) c 2) ∗ rch (F := F) c 0 ∗ rch (F := F) c 1 ∗ rch (F := F) c 2)

/-- What it gives back of them: every semaphore at zero. -/
def closes (c : Dev nD) : sProp 𝕄 :=
  iprop(semVal (barCell c) 0 ∗ lanesD (F := F) c 0 ∗ lanesD (F := F) c 1 ∗ lanesD (F := F) c 2)

/-- Its five arguments. -/
def given (c : Dev nD) : sProp 𝕄 :=
  iprop(valAt arg0 c (J c).x ∗ valAt arg1 c (J c).wq ∗ valAt arg2 c (J c).kk ∗ valAt arg3 c (J c).vv ∗ valAt arg4 c (J c).wo)

/-- The scratch buffers at contents not chosen. -/
def scratches (c : Dev nD) : sProp 𝕄 :=
  iprop(accAny (F := F) c ∗ rxAny (F := F) c ∗ ∃ w, valAt (F := F) arg8 c w)

/-- The body at a device: from the arguments and what the device has of the cells it reaches the end, the result
    written and every semaphore back at zero. -/
theorem run_body (c : Dev nD) (Q : PUnit → sProp 𝕄) :
    iprop(Ctx (accs J) ∗ opens (F := F) c ∗ owesE c (O₀ c) ∗ scratches arg8 c ∗ given arg0 arg1 arg2 arg3 arg4 J c ∗ ∃ w, valAt arg5 c w)
      ⊢ iprop(((closes (F := F) c ∗ owesE c (Ow c 12) ∗ scratches arg8 c ∗ given arg0 arg1 arg2 arg3 arg4 J c
            ∗ valAt arg5 c (resOf (accs J) c)) -∗ Q ⟨⟩)
        -∗ WP c (cc0_body arg0 harg0 arg1 harg1 arg2 harg2 arg3 harg3 arg4 harg4 arg5 harg5 accM hA rxM hX arg8 harg8 cc0_scratch3 cc0_scratch4) Q) := by
  rw [cc0_body_eq_skeleton]; unfold cc0_body_skel opens scratches given closes
  iintro ⟨#HC, ⟨⟨⟨d0, e0⟩, ⟨d1, e1⟩, ⟨d2, e2⟩⟩, hat, hcr, hl, hr⟩, HO, ⟨hacc, hrx, ⟨%w8, h8⟩⟩, ⟨g0, g1, g2, g3, g4⟩, ⟨%w5, h5⟩⟩ Hk
  ihave hacc := (acc_out c) $$ hacc
  unfold accs2
  icases hacc with ⟨facc, ⟨a00, a01⟩, ⟨a10, a11⟩, a20, a21⟩
  ihave hrx := (rx_out c) $$ hrx
  icases hrx with ⟨frx, hrx⟩
  ihave hp := (setup_bar c) $$ [hrx hr]
  · isplitl [hrx]; · iexact hrx
    iexact hr
  icases hp with ⟨p0, p1, p2⟩
  ihave h8 := (partAt_intro arg8 c cRect (hd (J c) 0) w8) $$ h8
  ihave h5 := (partAt_intro arg5 c oRect (oOf (accs J) c) w5) $$ h5
  iapply (WP_bind c)
  iapply (run1 (accs J) (J c) arg0 harg0 arg1 harg1 arg2 harg2 arg3 harg3 arg4 harg4 arg5 harg5 hA hX arg8 harg8 c _) $$ [d0 d1 d2 e0 e1 e2 p0 p1 p2 hat hcr HO g0 g1]
  · isplitr; · iexact HC
    isplitl [d0 e0 p0]
    · isplitl [d0]; · iexact d0
      isplitl [e0]; · iexact e0
      iexact p0
    isplitl [d1 e1 p1]
    · isplitl [d1]; · iexact d1
      isplitl [e1]; · iexact e1
      iexact p1
    isplitl [d2 e2 p2]
    · isplitl [d2]; · iexact d2
      isplitl [e2]; · iexact e2
      iexact p2
    isplitl [hat]; · iexact hat
    isplitl [hcr]; · iexact hcr
    isplitl [HO]; · iexact HO
    isplitl [g0]; · iexact g0
    iexact g1
  iintro %v ⟨hbar, p0, p1, p2, HO, g0, g1⟩
  ihave hn := (setup_later c) $$ [p0 p1 p2 hl]
  · isplitl [p0 p1 p2]
    · isplitl [p0]; · iexact p0
      isplitl [p1]; · iexact p1
      iexact p2
    iexact hl
  icases hn with ⟨n0, n1, n2⟩
  iapply (WP_bind c)
  iapply (run2 (J c) arg0 harg0 arg1 harg1 arg2 harg2 arg3 harg3 arg4 harg4 arg5 harg5 hA hX arg8 harg8 c _) $$ [g2 g3 h8]
  · isplitl [g2]; · iexact g2
    isplitl [g3]; · iexact g3
    iexact h8
  iintro ⟨g2, g3, h8⟩
  iapply (WP_bind c)
  iapply (run3 (J c) arg0 harg0 arg1 harg1 arg2 harg2 arg3 harg3 arg4 harg4 arg5 harg5 hA hX arg8 harg8 c _) $$ [g2 g3 h8]
  · isplitl [g2]; · iexact g2
    isplitl [g3]; · iexact g3
    iexact h8
  iintro ⟨g2, g3, h8⟩
  iapply (WP_bind c)
  iapply (run4 (J c) arg0 harg0 arg1 harg1 arg2 harg2 arg3 harg3 arg4 harg4 arg5 harg5 hA hX arg8 harg8 c _) $$ [g2 g3 h8]
  · isplitl [g2]; · iexact g2
    isplitl [g3]; · iexact g3
    iexact h8
  iintro ⟨g2, g3, h8⟩
  iapply (WP_bind c)
  iapply (run5 (J c) arg0 harg0 arg1 harg1 arg2 harg2 arg3 harg3 arg4 harg4 arg5 harg5 hA hX arg8 harg8 c _) $$ [g2 g3 h8]
  · isplitl [g2]; · iexact g2
    isplitl [g3]; · iexact g3
    iexact h8
  iintro ⟨g2, g3, h8⟩
  iapply (WP_bind c)
  iapply (run6 (J c) arg0 harg0 arg1 harg1 arg2 harg2 arg3 harg3 arg4 harg4 arg5 harg5 hA hX arg8 harg8 c _) $$ [g2 g3 g4 h8 a00 a10 a20]
  · isplitl [g2]; · iexact g2
    isplitl [g3]; · iexact g3
    isplitl [g4]; · iexact g4
    isplitl [h8]; · iexact h8
    isplitl [a00]; · iexact a00
    isplitl [a10]; · iexact a10
    iexact a20
  iintro ⟨g2, g3, g4, h8, a00, a10, a20⟩
  iapply (WP_bind c)
  iapply (run7 (J c) arg0 harg0 arg1 harg1 arg2 harg2 arg3 harg3 arg4 harg4 arg5 harg5 hA hX arg8 harg8 c _) $$ [g2 g3 h8]
  · isplitl [g2]; · iexact g2
    isplitl [g3]; · iexact g3
    iexact h8
  iintro ⟨g2, g3, h8⟩
  iapply (WP_bind c)
  iapply (run8 (J c) arg0 harg0 arg1 harg1 arg2 harg2 arg3 harg3 arg4 harg4 arg5 harg5 hA hX arg8 harg8 c _) $$ [g2 g3 h8]
  · isplitl [g2]; · iexact g2
    isplitl [g3]; · iexact g3
    iexact h8
  iintro ⟨g2, g3, h8⟩
  iapply (WP_bind c)
  iapply (run9 (J c) arg0 harg0 arg1 harg1 arg2 harg2 arg3 harg3 arg4 harg4 arg5 harg5 hA hX arg8 harg8 c _) $$ [g2 g3 h8]
  · isplitl [g2]; · iexact g2
    isplitl [g3]; · iexact g3
    iexact h8
  iintro ⟨g2, g3, h8⟩
  iapply (WP_bind c)
  iapply (run10 (J c) arg0 harg0 arg1 harg1 arg2 harg2 arg3 harg3 arg4 harg4 arg5 harg5 hA hX arg8 harg8 c _) $$ [g2 g3 h8]
  · isplitl [g2]; · iexact g2
    isplitl [g3]; · iexact g3
    iexact h8
  iintro ⟨g2, g3, h8⟩
  iapply (WP_bind c)
  iapply (run11 (J c) arg0 harg0 arg1 harg1 arg2 harg2 arg3 harg3 arg4 harg4 arg5 harg5 hA hX arg8 harg8 c _ _) $$ [g4 a01 a11 a21]
  · isplitl [g4]; · iexact g4
    isplitl [a01]; · iexact a01
    isplitl [a11]; · iexact a11
    iexact a21
  iintro %r11 ⟨g4, a01, a11, a21⟩
  ihave s0 := (ready_of (accs J) c 0) $$ [n0 a00 a01]
  · isplitl [n0]; · iexact n0
    isplitl [a00]; · iexact a00
    iexact a01
  ihave s1 := (ready_of (accs J) c 1) $$ [n1 a10 a11]
  · isplitl [n1]; · iexact n1
    isplitl [a10]; · iexact a10
    iexact a11
  ihave s2 := (ready_of (accs J) c 2) $$ [n2 a20 a21]
  · isplitl [n2]; · iexact n2
    isplitl [a20]; · iexact a20
    iexact a21
  iapply (WP_bind c)
  iapply (run12 (accs J) arg0 harg0 arg1 harg1 arg2 harg2 arg3 harg3 arg4 harg4 arg5 harg5 hA hX arg8 harg8 c _ _) $$ [s0 s1 HO]
  · isplitr; · iexact HC
    isplitl [s0]; · iexact s0
    isplitl [s1]; · iexact s1
    iexact HO
  iintro %r12 ⟨s0, s1, HO⟩
  iapply (WP_bind c)
  iapply (run13 (accs J) arg0 harg0 arg1 harg1 arg2 harg2 arg3 harg3 arg4 harg4 arg5 harg5 hA hX arg8 harg8 c _ _ _ _) $$ [s0 s2 HO]
  · isplitr; · iexact HC
    isplitl [s0]; · iexact s0
    isplitl [s2]; · iexact s2
    iexact HO
  iintro %r13 ⟨s0, s2, HO⟩
  iapply (WP_bind c)
  iapply (run14 (accs J) arg0 harg0 arg1 harg1 arg2 harg2 arg3 harg3 arg4 harg4 arg5 harg5 hA hX arg8 harg8 c _ _ _ _) $$ [s0 s1 HO]
  · isplitr; · iexact HC
    isplitl [s0]; · iexact s0
    isplitl [s1]; · iexact s1
    iexact HO
  iintro ⟨s0, s1, HO⟩
  iapply (WP_bind c)
  iapply (run15 (accs J) arg0 harg0 arg1 harg1 arg2 harg2 arg3 harg3 arg4 harg4 arg5 harg5 hA hX arg8 harg8 c _ _ _ _) $$ [s1 s2 HO]
  · isplitr; · iexact HC
    isplitl [s1]; · iexact s1
    isplitl [s2]; · iexact s2
    iexact HO
  iintro %r15 ⟨s1, s2, HO⟩
  iapply (WP_bind c)
  iapply (run16 (accs J) arg0 harg0 arg1 harg1 arg2 harg2 arg3 harg3 arg4 harg4 arg5 harg5 hA hX arg8 harg8 c _ _ _) $$ [s0 s2 HO]
  · isplitr; · iexact HC
    isplitl [s0]; · iexact s0
    isplitl [s2]; · iexact s2
    iexact HO
  iintro %r16 ⟨s0, s2, HO⟩
  iapply (WP_bind c)
  iapply (run17 (accs J) arg0 harg0 arg1 harg1 arg2 harg2 arg3 harg3 arg4 harg4 arg5 harg5 hA hX arg8 harg8 c _ _ _ _) $$ [s0 HO]
  · isplitr; · iexact HC
    isplitl [s0]; · iexact s0
    iexact HO
  iintro %r17 ⟨s0, HO⟩
  iapply (WP_bind c)
  iapply (run18 (accs J) arg0 harg0 arg1 harg1 arg2 harg2 arg3 harg3 arg4 harg4 arg5 harg5 hA hX arg8 harg8 c _ _ _ _) $$ [s1 HO]
  · isplitr; · iexact HC
    isplitl [s1]; · iexact s1
    iexact HO
  iintro %r18 ⟨s1, HO⟩
  iapply (WP_bind c)
  iapply (run19 (accs J) arg0 harg0 arg1 harg1 arg2 harg2 arg3 harg3 arg4 harg4 arg5 harg5 hA hX arg8 harg8 c _ _ _) $$ [s1 s2 HO]
  · isplitr; · iexact HC
    isplitl [s1]; · iexact s1
    isplitl [s2]; · iexact s2
    iexact HO
  iintro ⟨s1, s2, HO⟩
  iapply (WP_bind c)
  iapply (run20 (accs J) arg0 harg0 arg1 harg1 arg2 harg2 arg3 harg3 arg4 harg4 arg5 harg5 hA hX arg8 harg8 c _ _ _ _) $$ [s0 s2 HO]
  · isplitr; · iexact HC
    isplitl [s0]; · iexact s0
    isplitl [s2]; · iexact s2
    iexact HO
  iintro %r20 ⟨s0, s2, HO⟩
  iapply (WP_bind c)
  iapply (run21 (accs J) arg0 harg0 arg1 harg1 arg2 harg2 arg3 harg3 arg4 harg4 arg5 harg5 hA hX arg8 harg8 c _ _ _ _) $$ [s0 s1 HO]
  · isplitr; · iexact HC
    isplitl [s0]; · iexact s0
    isplitl [s1]; · iexact s1
    iexact HO
  iintro %r21 ⟨s0, s1, HO⟩
  iapply (WP_bind c)
  iapply (run22 (accs J) arg0 harg0 arg1 harg1 arg2 harg2 arg3 harg3 arg4 harg4 arg5 harg5 hA hX arg8 harg8 c _ _ _) $$ [s1 HO]
  · isplitr; · iexact HC
    isplitl [s1]; · iexact s1
    iexact HO
  iintro %r22 ⟨s1, HO⟩
  iapply (WP_bind c)
  iapply (run23 (accs J) arg0 harg0 arg1 harg1 arg2 harg2 arg3 harg3 arg4 harg4 arg5 harg5 hA hX arg8 harg8 c _ _ _ _) $$ [s2 HO]
  · isplitr; · iexact HC
    isplitl [s2]; · iexact s2
    iexact HO
  iintro %r23 ⟨s2, HO⟩
  iapply (WP_bind c)
  iapply (run24 (accs J) arg0 harg0 arg1 harg1 arg2 harg2 arg3 harg3 arg4 harg4 arg5 harg5 hA hX arg8 harg8 c _ _ _) $$ [s0 s1 HO]
  · isplitr; · iexact HC
    isplitl [s0]; · iexact s0
    isplitl [s1]; · iexact s1
    iexact HO
  iintro %r24 ⟨s0, s1, HO⟩
  ihave s0 := (ended_of (accs J) c 0) $$ s0
  iapply (WP_bind c)
  iapply (run25 (accs J) arg0 harg0 arg1 harg1 arg2 harg2 arg3 harg3 arg4 harg4 arg5 harg5 hA hX arg8 harg8 c _ _) $$ [s1 s2 s0 h5 HO]
  · isplitr; · iexact HC
    isplitl [s1]; · iexact s1
    isplitl [s2]; · iexact s2
    isplitl [s0]; · iexact s0
    isplitl [h5]; · iexact h5
    iexact HO
  iintro %r25 ⟨s0, s1, s2, h5, HO⟩
  simp only [Prog.lift, Prog.bind_op, Prog.bind_ret, Prog.pure_eq_ret]
  iapply (run26 (accs J) arg5 c _) $$ [s2 h5]
  · isplitl [s2]; · iexact s2
    iexact h5
  iintro ⟨s2, h5⟩
  ihave s0 := (ended_to (accs J) c 0) $$ s0
  ihave s1 := (ended_to (accs J) c 1) $$ s1
  ihave s2 := (ended_to (accs J) c 2) $$ s2
  icases s0 with ⟨l0, b0, x0⟩
  icases s1 with ⟨l1, b1, x1⟩
  icases s2 with ⟨l2, b2, x2⟩
  iapply Hk
  isplitl [hbar l0 l1 l2]
  · isplitl [hbar]; · iexact hbar
    isplitl [l0]; · iexact l0
    isplitl [l1]; · iexact l1
    iexact l2
  isplitl [HO]; · iexact HO
  isplitl [facc frx b0 b1 b2 x0 x1 x2 h8]
  · isplitl [facc b0 b1 b2]
    · iapply (acc_in c)
      isplitl [facc]; · iexact facc
      isplitl [b0]; · iexact b0
      isplitl [b1]; · iexact b1
      iexact b2
    isplitl [frx x0 x1 x2]
    · iapply (rx_in c)
      isplitl [frx]; · iexact frx
      isplitl [x0]; · iexact x0
      isplitl [x1]; · iexact x1
      iexact x2
    iexists _; iexact h8
  isplitl [g0 g1 g2 g3 g4]
  · isplitl [g0]; · iexact g0
    isplitl [g1]; · iexact g1
    isplitl [g2]; · iexact g2
    isplitl [g3]; · iexact g3
    iexact g4
  iexact h5

end Cert.KernelIdeal.Run

end
-- ==== Proof.Region.lean ====
/- The call as one region of the program: its proof data and its body's obligation. -/
module

public import proofs.«01_k».proof.Proof.Body
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit.Geometry

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- What the call is given at each device: the arguments, after the host's slices. -/
def ins (c : Dev nD) : Ins F where
  x := V1 m c main_arg0
  wq := V1 m c main_arg1
  kk := V1 m c main_v12
  vv := V1 m c main_v17
  wo := V1 m c main_arg4

/-- What it leaves in the result's array. -/
def res (c : Dev nD) : Vec F S2x512x768 .f32 := resOf (accs (ins m)) c

/-- The buffers after the call. -/
def Vend (c : Dev nD) : Valuation τ sig (Elt F) := Function.update (V1 m c) main_v18 (res m c)

/-- The scratch buffers as the region holds them. -/
def scr (c : Dev nD) : sProp 𝕄 :=
  iprop(accAny (F := F) c ∗ rxAny (F := F) c ∗ ∃ f : Buf (Elt F) ((c : Thread nD τ).loc cc0_scratch2), ((c : Thread nD τ).loc cc0_scratch2) ↦{fullShare} f)

theorem valAt_scratch (c : Dev nD) (f : Buf (Elt F) ((c : Thread nD τ).loc cc0_scratch2)) :
    (((c : Thread nD τ).loc cc0_scratch2) ↦{fullShare} f) ⊢ (valAt (F := F) (Memref.whole cc0_scratch2) c f : sProp 𝕄) := by
  unfold valAt
  rw [View.set_whole]
  iintro H
  iexists f
  isplitr
  · ipureintro; exact View.read_whole (Val := Elt F) (b := cc0_scratch2) f
  iexact H
theorem scratch_valAt (c : Dev nD) (w : Vec F S512x512 .f32) :
    (valAt (F := F) (Memref.whole cc0_scratch2) c w : sProp 𝕄)
      ⊢ iprop(∃ f : Buf (Elt F) ((c : Thread nD τ).loc cc0_scratch2), ((c : Thread nD τ).loc cc0_scratch2) ↦{fullShare} f) := by
  unfold valAt
  rw [View.set_whole]
  iintro ⟨%f, -, H⟩
  iexists f; iexact H

theorem scr_to (c : Dev nD) : scr (F := F) c ⊢ scratches (F := F) (Memref.whole cc0_scratch2) c := by
  unfold scr scratches
  iintro ⟨h0, h1, ⟨%f, h2⟩⟩
  isplitl [h0]; · iexact h0
  isplitl [h1]; · iexact h1
  iexists f
  iapply (valAt_scratch c f); iexact h2
theorem scr_from (c : Dev nD) : scratches (F := F) (Memref.whole cc0_scratch2) c ⊢ scr (F := F) c := by
  unfold scr scratches
  iintro ⟨h0, h1, ⟨%w, h2⟩⟩
  isplitl [h0]; · iexact h0
  isplitl [h1]; · iexact h1
  iapply (scratch_valAt c w); iexact h2

/-- The region's proof data. -/
def dat (c : Dev nD) : Dat τ (Elt F) Unit ℕ UU ℕ cfg0 c where
  A w := V1 m c (Pipeline.arrRef spec0 w)
  after w t := match w with
    | 0 => (ins m c).x
    | 1 => (ins m c).wq
    | 2 => (ins m c).kk
    | 3 => (ins m c).vv
    | 4 => (ins m c).wo
    | 5 => res m c
    | ⟨_ + 6, h⟩ => absurd h (Nat.not_lt.2 (Nat.le_add_left _ _))
  Φ t := if t.val = 0 then iprop(Ctx (accs (ins m)) ∗ opens (F := F) c ∗ scr (F := F) c ∗ ∃ r, prngReg c r)
    else iprop(closes (F := F) c ∗ scr (F := F) c ∗ ∃ r, prngReg c r)
  q _ := fullShare
  owed t := if t.val = 0 then O₀ c else 0

abbrev pdats : (p : Fin 1) → (c : Dev nD) → Dat τ (Elt F) Unit ℕ UU ℕ (cfgs p) c := fun _ c => dat m c

theorem owed_zero (c : Dev nD) : (pdats m 0 c).owed 0 = O₀ c := by
  show (if ((0 : Fin (cfg0.N + 1)).val = 0) then O₀ c else 0) = O₀ c; exact if_pos rfl
theorem owed_first (c : Dev nD) : (dat m c).owed t0_0.castSucc = O₀ c := by
  show (if (t0_0.castSucc : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

theorem owes_in (c : Dev nD) (t : Fin (cfg0.N + 1)) (O : CellTallies nD τ sig Unit) (h : (dat m c).owed t = O) :
    ((dat m c).owesAt () t : sProp 𝕄) ⊢ owesE c O := by
  unfold Dat.owesAt Pipeline.owesWithin owesE
  rw [h]
  iintro ⟨%W, -, HO⟩; iexists W; iexact HO
theorem owes_out (c : Dev nD) (t : Fin (cfg0.N + 1)) (O : CellTallies nD τ sig Unit) (h : (dat m c).owed t = O) :
    owesE c O ⊢ ((dat m c).owesAt () t : sProp 𝕄) := by
  unfold Dat.owesAt Pipeline.owesWithin Dat.bound owesE
  rw [h]
  iintro ⟨%W, HO⟩; iexists W
  isplitr
  · ipureintro; exact fun _ _ => Or.inl trivial
  iexact HO

/-- A window's one block is its whole array. -/
theorem blk_read0 (c : Dev nD) (t : Fin cfg0.N) (A : Buf (Elt F) ((cfg0.win 0).arr.view.loc (c : Thread nD τ))) :
    ((cfg0.win 0).blk t).view.read (Elt F) A = A := by
  funext y
  show A _ = A y
  congr 1; funext i; apply Fin.ext; fin_cases i <;> simp <;> rfl
theorem blk_read1 (c : Dev nD) (t : Fin cfg0.N) (A : Buf (Elt F) ((cfg0.win 1).arr.view.loc (c : Thread nD τ))) :
    ((cfg0.win 1).blk t).view.read (Elt F) A = A := by
  funext y
  show A _ = A y
  congr 1; funext i; apply Fin.ext; fin_cases i <;> simp <;> rfl
theorem blk_read2 (c : Dev nD) (t : Fin cfg0.N) (A : Buf (Elt F) ((cfg0.win 2).arr.view.loc (c : Thread nD τ))) :
    ((cfg0.win 2).blk t).view.read (Elt F) A = A := by
  funext y
  show A _ = A y
  congr 1; funext i; apply Fin.ext; fin_cases i <;> simp <;> rfl
theorem blk_read3 (c : Dev nD) (t : Fin cfg0.N) (A : Buf (Elt F) ((cfg0.win 3).arr.view.loc (c : Thread nD τ))) :
    ((cfg0.win 3).blk t).view.read (Elt F) A = A := by
  funext y
  show A _ = A y
  congr 1; funext i; apply Fin.ext; fin_cases i <;> simp <;> rfl
theorem blk_read4 (c : Dev nD) (t : Fin cfg0.N) (A : Buf (Elt F) ((cfg0.win 4).arr.view.loc (c : Thread nD τ))) :
    ((cfg0.win 4).blk t).view.read (Elt F) A = A := by
  funext y
  show A _ = A y
  congr 1; funext i; apply Fin.ext; fin_cases i <;> simp <;> rfl

theorem before0 (c : Dev nD) (t : Fin cfg0.N) (d) : (dat m c).before 0 t d = (ins m c).x := by
  unfold Dat.before
  rw [if_pos (fetch0_0 t)]
  exact (show (dat m c).fetched 0 t d = (dat m c).blockOf 0 t from rfl).trans (blk_read0 c t ((dat m c).A 0))
theorem before1 (c : Dev nD) (t : Fin cfg0.N) (d) : (dat m c).before 1 t d = (ins m c).wq := by
  unfold Dat.before
  rw [if_pos (fetch0_1 t)]
  exact (show (dat m c).fetched 1 t d = (dat m c).blockOf 1 t from rfl).trans (blk_read1 c t ((dat m c).A 1))
theorem before2 (c : Dev nD) (t : Fin cfg0.N) (d) : (dat m c).before 2 t d = (ins m c).kk := by
  unfold Dat.before
  rw [if_pos (fetch0_2 t)]
  exact (show (dat m c).fetched 2 t d = (dat m c).blockOf 2 t from rfl).trans (blk_read2 c t ((dat m c).A 2))
theorem before3 (c : Dev nD) (t : Fin cfg0.N) (d) : (dat m c).before 3 t d = (ins m c).vv := by
  unfold Dat.before
  rw [if_pos (fetch0_3 t)]
  exact (show (dat m c).fetched 3 t d = (dat m c).blockOf 3 t from rfl).trans (blk_read3 c t ((dat m c).A 3))
theorem before4 (c : Dev nD) (t : Fin cfg0.N) (d) : (dat m c).before 4 t d = (ins m c).wo := by
  unfold Dat.before
  rw [if_pos (fetch0_4 t)]
  exact (show (dat m c).fetched 4 t d = (dat m c).blockOf 4 t from rfl).trans (blk_read4 c t ((dat m c).A 4))

theorem after0 (c : Dev nD) (t : Fin cfg0.N) : (dat m c).after 0 t = (ins m c).x := by dsimp only [dat]
theorem after1 (c : Dev nD) (t : Fin cfg0.N) : (dat m c).after 1 t = (ins m c).wq := by dsimp only [dat]
theorem after2 (c : Dev nD) (t : Fin cfg0.N) : (dat m c).after 2 t = (ins m c).kk := by dsimp only [dat]
theorem after3 (c : Dev nD) (t : Fin cfg0.N) : (dat m c).after 3 t = (ins m c).vv := by dsimp only [dat]
theorem after4 (c : Dev nD) (t : Fin cfg0.N) : (dat m c).after 4 t = (ins m c).wo := by dsimp only [dat]
theorem after5 (c : Dev nD) (t : Fin cfg0.N) : (dat m c).after 5 t = res m c := by dsimp only [dat]

/-- A whole memory at given contents, in the region's words and in the body's. -/
theorem owns_valAt {s : Shape} {e : EltTy} (M : Memref sig .tc .vmem s e) (c : Dev nD) (X : s.Idx → Elt F e) :
    (owns (c : Thread nD τ) M fullShare X : sProp 𝕄) = valAt M c X := rfl

/-- The body's obligation, from the body's run. -/
theorem body_ok (c : Dev nD) : BodyObligation (dat m c) defs₀ 𝒱₀ () Set.univ := fun t => by
  obtain rfl : t = t0_0 := fin_N0 t
  rw [bigSep_W0, bigSep_W0]
  simp only []
  simp only [before0, before1, before2, before3, before4, after0, after1, after2, after3, after4, after5]
  rw [show (dat m c).Φ t0_0.castSucc = iprop(Ctx (accs (ins m)) ∗ opens (F := F) c ∗ scr (F := F) c ∗ ∃ r, prngReg c r) from rfl,
    show (dat m c).Φ t0_0.succ = iprop(closes (F := F) c ∗ scr (F := F) c ∗ ∃ r, prngReg c r) from rfl]
  iintro ⟨⟨#HC, Ho, Hs, Hp⟩, HO, ⟨%e0, g0⟩, ⟨%e1, g1⟩, ⟨%e2, g2⟩, ⟨%e3, g3⟩, ⟨%e4, g4⟩, ⟨%e5, g5⟩⟩
  ihave HO := (owes_in m c _ (O₀ c) (owed_first m c)) $$ HO
  ihave Hs := (scr_to c) $$ Hs
  iapply (run_body (win0_0.stage (cfg0.slots t0_0 0)) (hstage0_0 0) (win0_1.stage (cfg0.slots t0_0 1)) (hstage0_1 0)
    (win0_2.stage (cfg0.slots t0_0 2)) (hstage0_2 0) (win0_3.stage (cfg0.slots t0_0 3)) (hstage0_3 0)
    (win0_4.stage (cfg0.slots t0_0 4)) (hstage0_4 0) (win0_5.stage (cfg0.slots t0_0 5)) (hstage0_5 0)
    (Memref.isWhole_whole _) (Memref.isWhole_whole _) (Memref.whole cc0_scratch2) (Memref.isWhole_whole _) (ins m) c _) $$ [Ho HO Hs g0 g1 g2 g3 g4 g5]
  · isplitr; · iexact HC
    isplitl [Ho]; · iexact Ho
    isplitl [HO]; · iexact HO
    isplitl [Hs]; · iexact Hs
    isplitl [g0 g1 g2 g3 g4]
    · unfold given
      isplitl [g0]; · iapply (Entails.of_eq (owns_valAt (stage0_0 0) c _)); iexact g0
      isplitl [g1]; · iapply (Entails.of_eq (owns_valAt (stage0_1 0) c _)); iexact g1
      isplitl [g2]; · iapply (Entails.of_eq (owns_valAt (stage0_2 0) c _)); iexact g2
      isplitl [g3]; · iapply (Entails.of_eq (owns_valAt (stage0_3 0) c _)); iexact g3
      iapply (Entails.of_eq (owns_valAt (stage0_4 0) c _)); iexact g4
    iexists _; iapply (Entails.of_eq (owns_valAt (stage0_5 0) c _)); iexact g5
  iintro ⟨Hc, HO, Hs, Hg, h5⟩
  ihave Hs := (scr_from c) $$ Hs
  rw [Ow_end]
  unfold given
  icases Hg with ⟨g0, g1, g2, g3, g4⟩
  isplitl [Hc Hs Hp]
  · isplitl [Hc]; · iexact Hc
    isplitl [Hs]; · iexact Hs
    iexact Hp
  isplitl [HO]; · iapply (owes_out m c _ 0 (owed_last m c)); iexact HO
  isplitl [g0]; · iapply (Entails.of_eq (owns_valAt (stage0_0 0) c _).symm); iexact g0
  isplitl [g1]; · iapply (Entails.of_eq (owns_valAt (stage0_1 0) c _).symm); iexact g1
  isplitl [g2]; · iapply (Entails.of_eq (owns_valAt (stage0_2 0) c _).symm); iexact g2
  isplitl [g3]; · iapply (Entails.of_eq (owns_valAt (stage0_3 0) c _).symm); iexact g3
  isplitl [g4]; · iapply (Entails.of_eq (owns_valAt (stage0_4 0) c _).symm); iexact g4
  iapply (Entails.of_eq (owns_valAt (stage0_5 0) c _).symm); iexact h5

end Cert.KernelIdeal.Run

end
-- ==== Proof.Talk.lean ====
/- The call as a region that talks: its cells opened at its start and closed at its end, and its record. -/
module

public import proofs.«01_k».proof.Proof.Region

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

theorem fin_three (Φ : Fin 3 → sProp 𝕄) : bigSep Finset.univ Φ = iprop(Φ 0 ∗ Φ 1 ∗ Φ 2) :=
  (BI.bigSep_univ_eq_bigSepL [0, 1, 2] (by decide) (by decide) Φ).trans rfl
theorem fin_four (Φ : Fin 4 → sProp 𝕄) : bigSep Finset.univ Φ = iprop(Φ 0 ∗ Φ 1 ∗ Φ 2 ∗ Φ 3) :=
  (BI.bigSep_univ_eq_bigSepL [0, 1, 2, 3] (by decide) (by decide) Φ).trans rfl
theorem fin_two (Φ : Fin 2 → sProp 𝕄) : bigSep Finset.univ Φ = iprop(Φ 0 ∗ Φ 1) :=
  (BI.bigSep_univ_eq_bigSepL [0, 1] (by decide) (by decide) Φ).trans rfl

/-- A resource per copy, over all the copies. -/
def each (Φ : Fin 3 → Fin 4 → sProp 𝕄) : sProp 𝕄 := bigSep Finset.univ fun t : Fin 3 => bigSep Finset.univ fun s : Fin 4 => Φ t s
theorem each_mono {Φ Ψ : Fin 3 → Fin 4 → sProp 𝕄} (h : ∀ t s, Φ t s ⊢ Ψ t s) : each Φ ⊢ each Ψ :=
  BI.bigSep_mono fun t _ => BI.bigSep_mono fun s _ => h t s
theorem each_sep (Φ Ψ : Fin 3 → Fin 4 → sProp 𝕄) : each (fun t s => iprop(Φ t s ∗ Ψ t s)) = iprop(each Φ ∗ each Ψ) := by
  unfold each
  rw [← bigSep_sep']
  exact BI.bigSep_congr fun t _ => bigSep_sep' _ _ _
theorem each_fupd (Φ : Fin 3 → Fin 4 → sProp 𝕄) : each (fun t s => iprop(|={Set.univ}=> Φ t s)) ⊢ (|={Set.univ}=> each Φ : sProp 𝕄) :=
  (BI.bigSep_mono fun t _ => bigSep_fupd _ _).trans (bigSep_fupd _ _)
theorem each_with {R : sProp 𝕄} [BI.Persistent R] {Φ Ψ : Fin 3 → Fin 4 → sProp 𝕄} (h : ∀ t s, iprop(R ∗ Φ t s) ⊢ Ψ t s) : iprop(R ∗ each Φ) ⊢ each Ψ :=
  bigSep_with_persistent fun t _ => bigSep_with_persistent fun s _ => h t s
theorem each_eq (Φ : Fin 3 → Fin 4 → sProp 𝕄) : each Φ = iprop((Φ 0 0 ∗ Φ 0 1 ∗ Φ 0 2 ∗ Φ 0 3) ∗ (Φ 1 0 ∗ Φ 1 1 ∗ Φ 1 2 ∗ Φ 1 3) ∗ (Φ 2 0 ∗ Φ 2 1 ∗ Φ 2 2 ∗ Φ 2 3)) := by
  unfold each
  rw [fin_three, fin_four, fin_four, fin_four]

theorem lanes_each (c : Dev nD) : each (fun t s => laneA (F := F) c t s) = iprop(lanes (F := F) c 0 ∗ lanes (F := F) c 1 ∗ lanes (F := F) c 2) := by
  rw [each_eq]; rfl
theorem lanesD_each (c : Dev nD) : each (fun t s => laneD (F := F) c t s) = iprop(lanesD (F := F) c 0 ∗ lanesD (F := F) c 1 ∗ lanesD (F := F) c 2) := by
  rw [each_eq]; rfl
theorem rch_each (c : Dev nD) : each (fun t s => (reached ER (recvCell c t s) 0 : sProp 𝕄)) = iprop(rch (F := F) c 0 ∗ rch (F := F) c 1 ∗ rch (F := F) c 2) := by
  rw [each_eq]; rfl

/-- The call's own semaphores: each copy's sending and receiving ones. -/
def osem (k : Fin 3 × Fin 4 × Fin 2) : SemLoc sig := if k.2.2 = 0 then .dma (sendS k.1 k.2.1) else .dma (recvS k.1 k.2.1)

theorem osem_facts : Pipeline.OwnSemFacts spec0 osem := by decide +kernel

/-- A resource over all the call's own semaphores is one per copy of its two. -/
theorem osem_each (Φ : SemLoc sig → sProp 𝕄) :
    (bigSep Finset.univ fun k => Φ (osem k)) = each fun t s => iprop(Φ (.dma (sendS t s)) ∗ Φ (.dma (recvS t s))) := by
  unfold each
  rw [BI.bigSep_univ_prod]
  refine BI.bigSep_congr fun t _ => ?_
  rw [BI.bigSep_univ_prod]
  refine BI.bigSep_congr fun s _ => ?_
  rw [fin_two]; rfl

theorem ownSems_eq (c : Dev nD) : (Pipeline.ownSems0 osem c : sProp 𝕄) = each fun t s => laneD (F := F) c t s := by
  unfold Pipeline.ownSems0
  exact osem_each fun sm => semVal ((c : Thread nD τ), sm) 0

/-! ## The start -/

/-- What a device holds for one copy before its two cells are open. -/
def laneG (c : Dev nD) (t : Fin 3) (s : Fin 4) : sProp 𝕄 :=
  iprop((openTok ER (sendCell c t s) ∗ openTok ER (recvCell c t s)) ∗ dutyTok ER (sendCell c t s) 0 0 ∗ dutyTok ER (recvCell (pa t s c) t s) 0 0
    ∗ cred (tallyAt (recvCell c t s) () N))

theorem open_lane (a : Dev nD → Fin 3 → Fin 2 → Tile F) (c : Dev nD) (t : Fin 3) (s : Fin 4) :
    iprop(Ctx a ∗ (laneG (F := F) c t s ∗ laneD (F := F) c t s)) ⊢ (|={Set.univ}=> (laneA (F := F) c t s ∗ reached ER (recvCell c t s) 0) : sProp 𝕄) := by
  unfold laneG laneD laneA
  iintro ⟨#HC, ⟨⟨Ho, Ho'⟩, Hd, Hd', Hc⟩, Hs, Hs'⟩
  ihave Hi := (Ctx_inv a (sendCell c t s) (send_mem c t s)) $$ HC
  icases Hi with ⟨%κ, #Hi⟩
  ihave Hj := (Ctx_inv a (recvCell c t s) (recv_mem c t s)) $$ HC
  icases Hj with ⟨%κ', #Hj⟩
  imod (Rounds.cell_open ER (Rd a) (g := sendCell c t s) (Set.mem_univ κ)) $$ [Ho Hs] with ⟨Ha, #Hr⟩
  · isplitr; · iexact Hi
    isplitl [Ho]; · iexact Ho
    iexact Hs
  imod (Rounds.cell_open ER (Rd a) (g := recvCell c t s) (Set.mem_univ κ')) $$ [Ho' Hs'] with ⟨Ha', #Hr'⟩
  · isplitr; · iexact Hj
    isplitl [Ho']; · iexact Ho'
    iexact Hs'
  imodintro
  isplitl [Ha Hd Ha' Hd' Hc]
  · isplitl [Ha]; · iexact Ha
    isplitr; · iexact Hr
    isplitl [Hd]; · iexact Hd
    isplitl [Ha']; · iexact Ha'
    isplitl [Hd']; · iexact Hd'
    iexact Hc
  iexact Hr'

/-- The cells' invariants, allocated. -/
def invs (a : Dev nD → Fin 3 → Fin 2 → Tile F) : sProp 𝕄 := iprop(∃ K : GSem nD τ sig → ℕ, bigSep cells fun g => cellInv ER (Rd a) (K g) g)

instance invs_persistent (a : Dev nD → Fin 3 → Fin 2 → Tile F) : BI.Persistent (invs a) := by unfold invs; infer_instance

/-- A device's rights to its partners' barriers. -/
def bars (c : Dev nD) : sProp 𝕄 :=
  iprop((dutyTok ER (barCell (pr 0 c)) 0 0 ∗ reached ER (barCell (pr 0 c)) 0) ∗ (dutyTok ER (barCell (pr 1 c)) 0 1 ∗ reached ER (barCell (pr 1 c)) 0)
      ∗ (dutyTok ER (barCell (pr 2 c)) 0 2 ∗ reached ER (barCell (pr 2 c)) 0))

/-- What a device holds of the cells when the call starts. -/
def Tk (c : Dev nD) : sProp 𝕄 :=
  iprop(invs (accs (ins m)) ∗ bars (F := F) c ∗ atPos ER (barCell c) 0 ∅ 0 ∗ cred (tallyAt (barCell c) () 3) ∗ each fun t s => laneG (F := F) c t s)
def Xk (c : Dev nD) : sProp 𝕄 := iprop(Ctx (accs (ins m)) ∗ opens (F := F) c)
def Yk (c : Dev nD) : sProp 𝕄 := semVal (barCell c) 0

theorem opening (c : Dev nD) : iprop(Tk m c ∗ Pipeline.ownSems0 osem c ∗ levAts L lv) ⊢ (|={Set.univ}=> Xk m c : sProp 𝕄) := by
  rw [ownSems_eq]
  unfold Tk Xk opens bars
  iintro ⟨⟨#Hi, Hb, Ha, Hc, Hg⟩, Hs, #Hl⟩
  ihave #HC := (show iprop(invs (accs (ins m)) ∗ levAts L lv) ⊢ Ctx (accs (ins m)) from Entails.of_eq rfl) $$ [Hi Hl]
  · isplitr; · iexact Hi
    iexact Hl
  ihave Hx := (Entails.of_eq (each_sep (fun t s => laneG (F := F) c t s) (fun t s => laneD (F := F) c t s)).symm) $$ [Hg Hs]
  · isplitl [Hg]; · iexact Hg
    iexact Hs
  ihave Hy := (each_with (R := Ctx (accs (ins m))) fun t s => open_lane (accs (ins m)) c t s) $$ [Hx]
  · isplitr; · iexact HC
    iexact Hx
  imod (each_fupd _) $$ Hy with Hz
  imodintro
  ihave Hz := (Entails.of_eq (each_sep (fun t s => laneA (F := F) c t s) (fun t s => (reached ER (recvCell c t s) 0 : sProp 𝕄)))) $$ Hz
  icases Hz with ⟨Hz1, Hz2⟩
  isplitr; · iexact HC
  isplitl [Hb]; · iexact Hb
  isplitl [Ha]; · iexact Ha
  isplitl [Hc]; · iexact Hc
  isplitl [Hz1]; · iapply (Entails.of_eq (lanes_each (F := F) c)); iexact Hz1
  iapply (Entails.of_eq (rch_each (F := F) c)); iexact Hz2

/-! ## The record -/

theorem held_none (c : Dev nD) (W : Valuation τ sig (Elt F)) : (StableHlo.held (c.tc : Thread nD τ) ∅ W : sProp 𝕄) = BI.emp := by
  unfold StableHlo.held
  exact BI.bigSep_empty

theorem scoped_scr (c : Dev nD) : (Pipeline.scopedRest spec0 c : sProp 𝕄) = scr (F := F) c := (scopedRest0_eq c).trans rfl

theorem Φ_first (c : Dev nD) : (pdats m 0 c).Φ 0 = iprop(Ctx (accs (ins m)) ∗ opens (F := F) c ∗ scr (F := F) c ∗ ∃ r, prngReg c r) := by
  show (if ((0 : Fin (cfg0.N + 1)).val = 0) then iprop(Ctx (accs (ins m)) ∗ opens (F := F) c ∗ scr (F := F) c ∗ ∃ r, prngReg c r)
    else iprop(closes (F := F) c ∗ scr (F := F) c ∗ ∃ r, prngReg c r)) = _
  exact if_pos rfl
theorem Φ_last (c : Dev nD) : (pdats m 0 c).Φ (Fin.last (Pipeline.pin (pcfgs (F := F)) adm 0).N) = iprop(closes (F := F) c ∗ scr (F := F) c ∗ ∃ r, prngReg c r) := by
  show (if (Fin.last cfg0.N).val = 0 then iprop(Ctx (accs (ins m)) ∗ opens (F := F) c ∗ scr (F := F) c ∗ ∃ r, prngReg c r)
    else iprop(closes (F := F) c ∗ scr (F := F) c ∗ ∃ r, prngReg c r)) = _
  exact if_neg (by rw [Fin.val_last, show cfg0.N = 1 from N_0]; decide)

theorem entering (c : Dev nD) : iprop(Pipeline.scopedRest (Pipeline.pin (pcfgs (F := F)) adm 0).spec c ∗ (∃ r, prngReg c r) ∗ StableHlo.held (c.tc : Thread nD τ) ∅ (V1 m c) ∗ Xk m c)
    ⊢ (pdats m 0 c).Φ 0 := by
  rw [Φ_first,
    show (Pipeline.scopedRest (Pipeline.pin (pcfgs (F := F)) adm 0).spec c : sProp 𝕄) = scr (F := F) c from scoped_scr c]
  unfold Xk
  iintro ⟨Hs, Hp, -, HC, Ho⟩
  isplitl [HC]; · iexact HC
  isplitl [Ho]; · iexact Ho
  isplitl [Hs]; · iexact Hs
  iexact Hp

theorem leaving (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (Vend m c) ∗ Pipeline.ownSems0 osem c ∗ Yk (F := F) c) := by
  rw [Φ_last,
    show (Pipeline.scopedRest (Pipeline.pin (pcfgs (F := F)) adm 0).spec c : sProp 𝕄) = scr (F := F) c from scoped_scr c,
    held_none, ownSems_eq, lanesD_each]
  unfold closes Yk
  iintro ⟨⟨Hb, Hd⟩, Hs, Hp⟩
  isplitl [Hs]; · iexact Hs
  isplitl [Hp]; · iexact Hp
  isplitr; · iempintro
  isplitl [Hd]; · iexact Hd
  iexact Hb

theorem O₀_pos {c : Dev nD} {g : GSem nD τ sig} {u : Unit} (h : 0 < O₀ c g u) :
    (∃ d, g = barCell d) ∨ ∃ d t s, g = recvCell d t s := by
  have two : ∀ A B : CellTallies nD τ sig Unit, 0 < (A + B) g u → 0 < A g u ∨ 0 < B g u := fun A B h => by
    have e : (A + B) g u = A g u + B g u := rfl
    rw [e] at h
    exact Nat.add_pos_iff_pos_or_pos.mp h
  have one : ∀ d : Dev nD, 0 < (tallyAt (barCell d) () 1 : CellTallies nD τ sig Unit) g u → g = barCell d := fun d h => by
    rw [tallyAt_apply] at h
    by_contra e
    rw [if_neg fun e' => e e'.1] at h
    exact absurd h (Nat.lt_irrefl 0)
  unfold O₀ at h
  rcases two _ _ h with h | h
  · rcases two _ _ h with h | h
    · rcases two _ _ h with h | h
      · obtain ⟨k, -, -, e⟩ := Ow_pos c 0 g u h
        exact .inr ⟨_, _, _, e⟩
      · exact .inl ⟨_, one _ h⟩
    · exact .inl ⟨_, one _ h⟩
  · exact .inl ⟨_, one _ h⟩

theorem cut_owed (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · rcases O₀_pos h with ⟨d, rfl⟩ | ⟨d, t', s, rfl⟩
    · exact ⟨by rw [L_tc]; exact Finset.mem_singleton_self _, by rw [lv_bar]; decide⟩
    · exact ⟨by rw [L_tc]; exact Finset.mem_singleton_self _, by rw [lv_recv]; omega⟩
  · exact absurd h (Nat.lt_irrefl 0)

theorem stage_role : ∀ (w : Fin 6) (s : Fin (spec0 w).nbuf), role (.dma ((spec0 w).sem s)) = .other := by decide
theorem lv_stage (c : Dev nD) (w : Fin 6) (s : Fin (spec0 w).nbuf) (u : Unit) : lv ((c : Thread nD τ), .dma ((spec0 w).sem s)) u ≤ 0 := by
  dsimp only [lv]; rw [stage_role]

theorem Vend_of (c : Dev nD) (r : Ref sig .tc) (h : r ≠ main_v18) : Vend m c r = V1 m c r :=
  Function.update_of_ne (StableHlo.devRef_ne_of_ne h : (Proc.devRef .tc r : DevRef τ sig) ≠ Proc.devRef .tc main_v18) _ _
theorem Vend_out (c : Dev nD) : Vend m c main_v18 = res m c := Function.update_self _ _ _

/-- The buffers the call does not touch. -/
abbrev others : Finset (DevRef τ sig) := Pipeline.ucRefs τ sig \ Pipeline.arrRefs (τ := τ) spec0

theorem v18_arr : (Proc.devRef .tc main_v18 : DevRef τ sig) ∈ Pipeline.arrRefs (τ := τ) spec0 :=
  Finset.mem_map_of_mem _ (Finset.mem_image_of_mem _ (Finset.mem_univ (5 : Fin 6)))
theorem arr_sub : Pipeline.arrRefs (τ := τ) spec0 ⊆ Pipeline.ucRefs τ sig := by decide +kernel

theorem others_same (c : Dev nD) : ∀ b ∈ others \ (∅ : Finset (DevRef τ sig)), Vend m c b = V1 m c b := fun b hb => by
  refine Function.update_of_ne (fun e => ?_) _ _
  rw [Finset.sdiff_empty] at hb
  exact (Finset.mem_sdiff.mp hb).2 (e ▸ v18_arr)

theorem last_in (c : Dev nD) (w : Fin 6) (h : (cfg0.win w).isOut = false) (h' : Pipeline.arrRef spec0 w ≠ main_v18) :
    (dat m c).arrAt w cfg0.N = Vend m c (Proc.devRef .tc (Pipeline.arrRef spec0 w)) :=
  ((dat m c).arrAt_in w h _).trans (Vend_of m c (Pipeline.arrRef spec0 w) h').symm
theorem last_out (c : Dev nD) : (dat m c).arrAt 5 cfg0.N = res m c := by
  refine (dat m c).arrAt_eq_of_after_last 5 t0_0 (by decide +kernel) _ ?_
  intro j
  rw [after5]
  rfl
theorem last_arr (c : Dev nD) : ∀ w : Fin 6, (dat m c).arrAt w cfg0.N = Vend m c (Proc.devRef .tc (Pipeline.arrRef spec0 w))
  | 0 => last_in m c 0 rfl (by decide)
  | 1 => last_in m c 1 rfl (by decide)
  | 2 => last_in m c 2 rfl (by decide)
  | 3 => last_in m c 3 rfl (by decide)
  | 4 => last_in m c 4 rfl (by decide)
  | 5 => (last_out m c).trans (Vend_out m c).symm

set_option backward.isDefEq.respectTransparency.types false in
/-- The call as a region of the program. -/
def reg : RegionSeg (pcfgs (F := F)) adm (pdats m) () defs₀ 𝒱₀ L lv 0 :=
  RegionSeg.ofTalk (pcfgs (F := F)) adm (pdats m) () defs₀ 𝒱₀ L lv 0 osem osem_facts
    ∅ others (Finset.empty_subset _) launch0.toP rfl (fun c => (body_ok m c).loose)
    (fun _ => 0) O₀ (fun c => (owed_zero m c).trans (zero_add _).symm) (owed_last m) (fun _ => rfl) (fun c w => by unfold Dat.share; split <;> rfl)
    (V1 m) (Vend m) (others_same m)
    (Tk m) (Yk (F := F)) (Xk m) (Yk (F := F)) (opening m) (entering m) (leaving m)
    (fun c => by iintro H; imodintro; iexact H)
    (fun _ => 0)
    ⟨fun c w s => by rw [L_tc]; exact Finset.mem_singleton_self _, fun c w s => lv_stage c w s (), fun c t g i h => cut_owed m c t g i h⟩
    (fun _ => iprop(emp))
    (fun _ _ => rfl) (fun c w => last_arr m c w)

/-- What rides along the host's operations to the call. -/
def E0 (c : Dev nD) : sProp 𝕄 := iprop(Tk m c ∗ (∃ r, prngReg c r) ∗ owesE c (O₀ c))

theorem reg_pre (c : Dev nD) : iprop(StableHlo.held (c : Thread nD τ) (Pipeline.ucRefs τ sig) (V1 m c) ∗ E0 m c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + O₀ c) Wd)
  rw [StableHlo.held_sub_split (c.tc : Thread nD τ) arr_sub (V1 m c), zero_add]
  unfold E0 owesE
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

theorem reg_post (c : Dev nD) : (reg m).post c
    ⊢ iprop((StableHlo.held (c : Thread nD τ) (Pipeline.ucRefs τ sig) (Vend m c) ∗ semVal (barCell c) 0) ∗ ∃ W, owes (c : Thread nD τ) (0 : CellTallies nD τ sig Unit) W) := by
  show iprop(StableHlo.held (c.tc : Thread nD τ) (Pipeline.arrRefs (τ := τ) spec0) (Vend m c) ∗ (∃ r, prngReg c r)
    ∗ (StableHlo.held (c.tc : Thread nD τ) others (Vend m c) ∗ emp) ∗ Yk (F := F) c ∗ ∃ Wd, owes (c : Thread nD τ) (0 : CellTallies nD τ sig Unit) Wd) ⊢ _
  rw [StableHlo.held_sub_split (c.tc : Thread nD τ) arr_sub (Vend m c)]
  unfold Yk
  iintro ⟨Ha, -, ⟨Ho, -⟩, Hb, HO⟩
  isplitr [HO]
  · isplitr [Hb]
    · isplitl [Ha]; · iexact Ha
      iexact Ho
    iexact Hb
  iexact HO

end Cert.KernelIdeal.Run

end
-- ==== Proof.Launch.lean ====
/- The launch: the cells made and dealt out, and the program's run on all eight devices. -/
module

public import proofs.«01_k».proof.Proof.Talk

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem osem_inj : Function.Injective osem := osem_facts.inj
theorem osem_ne_bar : ∀ k, osem k ≠ .reg barS := by decide
theorem sem_cases : ∀ sm : SemLoc sig, role sm ≠ .other → sm = .reg barS ∨ ∃ k, osem k = sm := by decide +kernel

def barEmb : Dev nD ↪ GSem nD τ sig := ⟨fun c => barCell c, fun _ _ h => congrArg (fun g : GSem nD τ sig => g.1.1) h⟩
def ownEmb : Dev nD × (Fin 3 × Fin 4 × Fin 2) ↪ GSem nD τ sig :=
  ⟨fun x => ((x.1 : Thread nD τ), osem x.2), fun _ _ h =>
    Prod.ext (congrArg (fun g : GSem nD τ sig => g.1.1) h) (osem_inj (congrArg Prod.snd h))⟩

/-- The barrier cells, and the copies' cells. -/
abbrev barCells : Finset (GSem nD τ sig) := Finset.univ.map barEmb
abbrev ownCells : Finset (GSem nD τ sig) := Finset.univ.map ownEmb

theorem disjoint_cells : Disjoint barCells ownCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

theorem cells_sub : cells ⊆ barCells ∪ ownCells := fun g hg => by
  obtain ⟨⟨c, sm⟩, h, rfl⟩ := Finset.mem_image.mp hg
  rcases sem_cases sm (Finset.mem_filter.mp h).2 with e | ⟨k, e⟩
  · dsimp only at e ⊢
    rw [e]
    exact Finset.mem_union_left _ (Finset.mem_map_of_mem barEmb (Finset.mem_univ c))
  · dsimp only at e ⊢
    rw [← e]
    exact Finset.mem_union_right _ (Finset.mem_map_of_mem ownEmb (Finset.mem_univ (c, k)))

/-- The tokens: three per barrier, one per copy's cell. -/
def barTokEmb : Dev nD × Fin 3 ↪ GSem nD τ sig × ℕ × Fin 3 :=
  ⟨fun x => (barCell x.1, 0, x.2), fun _ _ h =>
    Prod.ext (congrArg (fun t : GSem nD τ sig × ℕ × Fin 3 => t.1.1.1) h) (congrArg (fun t : GSem nD τ sig × ℕ × Fin 3 => t.2.2) h)⟩
def ownTokEmb : Dev nD × (Fin 3 × Fin 4 × Fin 2) ↪ GSem nD τ sig × ℕ × Fin 3 :=
  ⟨fun x => (ownEmb x, 0, 0), fun _ _ h => ownEmb.injective (congrArg Prod.fst h)⟩
abbrev barToks : Finset (GSem nD τ sig × ℕ × Fin 3) := Finset.univ.map barTokEmb
abbrev ownToks : Finset (GSem nD τ sig × ℕ × Fin 3) := Finset.univ.map ownTokEmb
theorem disjoint_toks : Disjoint barToks ownToks := by
  rw [Finset.disjoint_left]
  rintro g h₁ h₂
  obtain ⟨c, -, rfl⟩ := Finset.mem_map.mp h₁
  obtain ⟨x, -, h⟩ := Finset.mem_map.mp h₂
  exact osem_ne_bar x.2 (congrArg (fun t : GSem nD τ sig × ℕ × Fin 3 => t.1.2) h)

/-- The launch element of the users' algebra. -/
def u₀ : UU :=
  (initOf (Pipeline.cells cfgs cellOf_inj) (Pipeline.launchToks cfgs cellOf_inj), launchOf barCells ownCells (barToks ∪ ownToks))

/-- A resource held by device 0 alone. -/
def onZero (X : sProp 𝕄) (c : Dev nD) : sProp 𝕄 := if c = 0 then X else iprop(emp)
theorem bigSep_onZero (X : sProp 𝕄) : bigSep Finset.univ (onZero X) = X := by
  rw [BI.bigSep_univ_at _ (0 : Dev nD), BI.bigSep_congr (s := Finset.univ.erase (0 : Dev nD)) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp
def G : Dev nD → sProp 𝕄 := onZero (BI.own (ER (launchOf barCells ownCells (barToks ∪ ownToks))))

/-! ## What the devices owe at launch -/

theorem devOf {c d : Dev nD} {sm : SemLoc sig} (h : ((c : Thread nD τ), sm) = ((d : Thread nD τ), sm)) : c = d :=
  congrArg (fun g : GSem nD τ sig => g.1.1) h

theorem pr_eq (b : Fin 3) (c d : Dev nD) : c = pr b d ↔ d = pr b c :=
  ⟨fun h => by rw [h, pr_pr], fun h => by rw [h, pr_pr]⟩

theorem Ow_bar (d c : Dev nD) : Ow d 0 (barCell c) () = 0 := by
  rcases Nat.eq_zero_or_pos (Ow d 0 (barCell c) ()) with h | h
  · exact h
  · obtain ⟨k, -, -, e⟩ := Ow_pos d 0 (barCell c) () h
    exact absurd (congrArg (fun g : GSem nD τ sig => role g.2) e) (by dsimp only; rw [role_bar, role_recv]; exact Role.noConfusion)

theorem add_at (A B : CellTallies nD τ sig Unit) (g : GSem nD τ sig) (u : Unit) : (A + B) g u = A g u + B g u := rfl

theorem bar_at (b : Fin 3) (d c : Dev nD) : (tallyAt (barCell (pr b d)) () 1 : CellTallies nD τ sig Unit) (barCell c) () = if d = pr b c then 1 else 0 := by
  rw [tallyAt_apply]
  by_cases h : d = pr b c
  · rw [if_pos h, if_pos ⟨by rw [h, pr_pr], rfl⟩]
  · rw [if_neg h, if_neg fun e => h ((pr_eq b c d).mp (devOf e.1))]

theorem owed_bar (c : Dev nD) : ∑ d, O₀ d (barCell c) () = 3 := by
  have e : ∀ d, O₀ d (barCell c) () = 0 + (if d = pr 2 c then 1 else 0) + (if d = pr 1 c then 1 else 0) + (if d = pr 0 c then 1 else 0) := fun d => by
    unfold O₀
    rw [add_at, add_at, add_at, Ow_bar, bar_at, bar_at, bar_at]
  rw [Finset.sum_congr rfl fun d _ => e d, Finset.sum_add_distrib, Finset.sum_add_distrib, Finset.sum_add_distrib, Finset.sum_const_zero,
    Finset.sum_ite_eq' Finset.univ (pr 2 c) fun _ => 1, Finset.sum_ite_eq' Finset.univ (pr 1 c) fun _ => 1, Finset.sum_ite_eq' Finset.univ (pr 0 c) fun _ => 1,
    if_pos (Finset.mem_univ _), if_pos (Finset.mem_univ _), if_pos (Finset.mem_univ _)]

theorem bar_at_recv (e d : Dev nD) (t : Fin 3) (s : Fin 4) : (tallyAt (barCell e) () 1 : CellTallies nD τ sig Unit) (recvCell d t s) () = 0 := by
  rw [tallyAt_apply]
  refine if_neg fun h => ?_
  exact absurd (congrArg (fun g : GSem nD τ sig => role g.2) h.1) (by dsimp only; rw [role_bar, role_recv]; exact Role.noConfusion)

theorem tN_of : ∀ (t : Fin 3) (s : Fin 4), tN (3 * s.val + t.val) = t ∧ sN (3 * s.val + t.val) = s := by decide
theorem of_tN : ∀ k, k < 12 → k = 3 * (sN k).val + (tN k).val := by decide

theorem sum_at {ι : Type} (S : Finset ι) (f : ι → CellTallies nD τ sig Unit) (g : GSem nD τ sig) (u : Unit) : (∑ k ∈ S, f k) g u = ∑ k ∈ S, f k g u := by
  classical
  induction S using Finset.induction_on with
  | empty => rfl
  | insert a S ha ih => rw [Finset.sum_insert ha, Finset.sum_insert ha, add_at, ih]

theorem Ow_recv (d c : Dev nD) (t : Fin 3) (s : Fin 4) : Ow d 0 (recvCell c t s) () = if d = pa t s c then N else 0 := by
  unfold Ow
  rw [sum_at, Finset.sum_eq_single (3 * s.val + t.val)]
  · rw [tallyAt_apply]
    unfold cellN
    rw [(tN_of t s).1, (tN_of t s).2]
    by_cases h : d = pa t s c
    · rw [if_pos h, if_pos ⟨by rw [h, pa_pa], rfl⟩]
    · refine (if_neg fun e => h ?_).trans (if_neg h).symm
      rw [devOf e.1, pa_pa]
  · intro k hk hne
    rw [tallyAt_apply]
    refine if_neg fun e => hne ?_
    have e' := congrArg (fun g : GSem nD τ sig => role g.2) e.1
    dsimp only at e'
    rw [role_recv, role_recv] at e'
    injection e' with e1 e2
    rw [e1, e2]
    exact of_tN k (Finset.mem_Ico.mp hk).2
  · intro h
    exact absurd (Finset.mem_Ico.mpr ⟨Nat.zero_le _, by have := t.isLt; have := s.isLt; omega⟩) h

theorem owed_recv (c : Dev nD) (t : Fin 3) (s : Fin 4) : ∑ d, O₀ d (recvCell c t s) () = N := by
  have e : ∀ d, O₀ d (recvCell c t s) () = if d = pa t s c then N else 0 := fun d => by
    unfold O₀
    rw [add_at, add_at, add_at, Ow_recv, bar_at_recv, bar_at_recv, bar_at_recv]
    rfl
  rw [Finset.sum_congr rfl fun d _ => e d, Finset.sum_ite_eq' Finset.univ (pa t s c) fun _ => N, if_pos (Finset.mem_univ _)]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, owed_bar]
theorem launch_recv (c : Dev nD) (t : Fin 3) (s : Fin 4) :
    tallyOn (recvCell c t s) (launchCredit (Pipeline.owing O₀) 0 (recvCell c t s)) = (tallyAt (recvCell c t s) () N : CellTallies nD τ sig Unit) := by
  unfold tallyAt; refine congrArg _ (Finsupp.ext fun u => ?_); cases u
  rw [Pipeline.launchCredit_owing, Finsupp.single_eq_same, owed_recv]

theorem recvLoc_inj : Function.Injective fun k : Fin 3 × Fin 4 => (SemLoc.dma (recvS k.1 k.2) : SemLoc sig) := fun a b h => by
  have e := congrArg role h
  dsimp only at e
  rw [role_recv, role_recv] at e
  injection e with e1 e2
  exact Prod.ext e1 e2
def recvLoc : Fin 3 × Fin 4 ↪ SemLoc sig := ⟨fun k => .dma (recvS k.1 k.2), recvLoc_inj⟩

/-- A device's launch credits: three units of its barrier and the elements of each copy it receives. -/
theorem creds (c : Dev nD) :
    (Pipeline.launchCred O₀ c : sProp 𝕄) ⊢ iprop(cred (tallyAt (barCell c) () 3) ∗ each fun t s => cred (tallyAt (recvCell c t s) () N)) := by
  unfold Pipeline.launchCred
  rw [BI.bigSep_univ_at _ (SemLoc.reg barS), launch_bar]
  refine sep_mono_right ?_
  have hsub : Finset.univ.map recvLoc ⊆ Finset.univ.erase (SemLoc.reg barS) := fun sm h => by
    obtain ⟨k, -, rfl⟩ := Finset.mem_map.mp h
    refine Finset.mem_erase.mpr ⟨fun e => ?_, Finset.mem_univ _⟩
    have e' := congrArg role e
    rw [role_bar, show role (recvLoc k) = .recv k.1 k.2 from role_recv _ _] at e'
    exact Role.noConfusion e'
  have e : (bigSep (Finset.univ.map recvLoc) fun sm : SemLoc sig => (cred (tallyOn ((c.tc : Thread nD τ), sm) (launchCredit (Pipeline.owing O₀) 0 ((c.tc : Thread nD τ), sm))) : sProp 𝕄))
      = each fun t s => cred (tallyAt (recvCell c t s) () N) := by
    rw [BI.bigSep_map, BI.bigSep_univ_prod]
    unfold each
    exact BI.bigSep_congr fun t _ => BI.bigSep_congr fun s _ => congrArg cred (launch_recv c t s)
  rw [← e]
  exact BI.bigSep_subset hsub

/-! ## Dealing -/

def prE (b : Fin 3) : Dev nD ≃ Dev nD := ⟨pr b, pr b, pr_pr b, pr_pr b⟩
def paE (t : Fin 3) (s : Fin 4) : Dev nD ≃ Dev nD := ⟨pa t s, pa t s, pa_pa t s, pa_pa t s⟩

theorem bigSep_swap {I J : Type} [Fintype I] [Fintype J] (Φ : I → J → sProp 𝕄) :
    (bigSep Finset.univ fun i => bigSep Finset.univ fun j => Φ i j) = bigSep Finset.univ fun j => bigSep Finset.univ fun i => Φ i j := by
  rw [← BI.bigSep_univ_prod fun x : I × J => Φ x.1 x.2, BI.bigSep_univ_equiv (Equiv.prodComm J I), BI.bigSep_univ_prod]
  rfl

/-- A resource per device and copy may be re-dealt along the copies' partners. -/
theorem each_around (Φ : Dev nD → Fin 3 → Fin 4 → sProp 𝕄) :
    (bigSep Finset.univ fun c => each (Φ c)) = bigSep Finset.univ fun c => each fun t s => Φ (pa t s c) t s := by
  unfold each
  rw [bigSep_swap, bigSep_swap fun c t => bigSep Finset.univ fun s => Φ (pa t s c) t s]
  refine BI.bigSep_congr fun t _ => ?_
  rw [bigSep_swap, bigSep_swap fun c s => Φ (pa t s c) t s]
  exact BI.bigSep_congr fun s _ => BI.bigSep_univ_equiv (paE t s) _

theorem own_each (Φ : GSem nD τ sig → sProp 𝕄) :
    bigSep ownCells Φ = bigSep Finset.univ fun c : Dev nD => each fun t s => iprop(Φ (sendCell c t s) ∗ Φ (recvCell c t s)) := by
  rw [BI.bigSep_map, BI.bigSep_univ_prod]
  exact BI.bigSep_congr fun c _ => osem_each fun sm => Φ ((c : Thread nD τ), sm)

theorem bar_toks : bigSep barToks (fun x => (dutyTok ER x.1 x.2.1 x.2.2 : sProp 𝕄))
    = bigSep Finset.univ fun c : Dev nD => iprop(dutyTok ER (barCell (pr 0 c)) 0 0 ∗ dutyTok ER (barCell (pr 1 c)) 0 1 ∗ dutyTok ER (barCell (pr 2 c)) 0 2) := by
  rw [BI.bigSep_map, BI.bigSep_univ_prod]
  refine (BI.bigSep_congr (Ψ := fun c : Dev nD => iprop(dutyTok ER (barCell c) 0 0 ∗ dutyTok ER (barCell c) 0 1 ∗ dutyTok ER (barCell c) 0 2)) fun c _ => fin_three _).trans ?_
  rw [bigSep_sep', bigSep_sep', bigSep_sep', bigSep_sep',
    BI.bigSep_univ_equiv (prE 0) (fun c : Dev nD => (dutyTok ER (barCell c) 0 0 : sProp 𝕄)),
    BI.bigSep_univ_equiv (prE 1) (fun c : Dev nD => (dutyTok ER (barCell c) 0 1 : sProp 𝕄)),
    BI.bigSep_univ_equiv (prE 2) (fun c : Dev nD => (dutyTok ER (barCell c) 0 2 : sProp 𝕄))]
  rfl

theorem own_toks : bigSep ownToks (fun x => (dutyTok ER x.1 x.2.1 x.2.2 : sProp 𝕄))
    = bigSep Finset.univ fun c : Dev nD => each fun t s => iprop(dutyTok ER (sendCell c t s) 0 0 ∗ dutyTok ER (recvCell (pa t s c) t s) 0 0) := by
  have e : bigSep ownToks (fun x => (dutyTok ER x.1 x.2.1 x.2.2 : sProp 𝕄)) = bigSep ownCells fun g => (dutyTok ER g 0 0 : sProp 𝕄) := by
    rw [BI.bigSep_map, BI.bigSep_map]; rfl
  rw [e, own_each]
  rw [BI.bigSep_congr (s := Finset.univ) (Ψ := fun c : Dev nD => iprop(each (fun t s => (dutyTok ER (sendCell c t s) 0 0 : sProp 𝕄)) ∗ each fun t s => (dutyTok ER (recvCell c t s) 0 0 : sProp 𝕄)))
      fun c _ => each_sep _ _,
    BI.bigSep_congr (s := Finset.univ) (Φ := fun c : Dev nD => each fun t s => iprop(dutyTok ER (sendCell c t s) 0 0 ∗ dutyTok ER (recvCell (pa t s c) t s) 0 0))
      (Ψ := fun c : Dev nD => iprop(each (fun t s => (dutyTok ER (sendCell c t s) 0 0 : sProp 𝕄)) ∗ each fun t s => (dutyTok ER (recvCell (pa t s c) t s) 0 0 : sProp 𝕄)))
      fun c _ => each_sep _ _,
    bigSep_sep', bigSep_sep', each_around fun c t s => (dutyTok ER (recvCell c t s) 0 0 : sProp 𝕄)]

/-! ## A device's share -/

/-- What every device may consult. -/
def records : sProp 𝕄 := iprop(invs (accs (ins m)) ∗ bigSep barCells fun g => reached ER g 0)
instance records_persistent : BI.Persistent (records m) := by unfold records; infer_instance

theorem reached_at (c : Dev nD) : (bigSep barCells fun g => (reached ER g 0 : sProp 𝕄)) ⊢ reached ER (barCell c) 0 :=
  BI.bigSep_elim (Finset.mem_map_of_mem barEmb (Finset.mem_univ c))

/-- What is a device's own. -/
def linear (c : Dev nD) : sProp 𝕄 :=
  iprop(atPos ER (barCell c) 0 ∅ 0 ∗ (each fun t s => iprop(openTok ER (sendCell c t s) ∗ openTok ER (recvCell c t s)))
    ∗ (dutyTok ER (barCell (pr 0 c)) 0 0 ∗ dutyTok ER (barCell (pr 1 c)) 0 1 ∗ dutyTok ER (barCell (pr 2 c)) 0 2)
    ∗ (each fun t s => iprop(dutyTok ER (sendCell c t s) 0 0 ∗ dutyTok ER (recvCell (pa t s c) t s) 0 0)))

/-- The rest of what it is launched with. -/
def bundle (c : Dev nD) : sProp 𝕄 :=
  iprop(StableHlo.held (c : Thread nD τ) (Pipeline.ucRefs τ sig) (V0 m c)
    ∗ (cred (tallyAt (barCell c) () 3) ∗ each fun t s => cred (tallyAt (recvCell c t s) () N))
    ∗ owes (c : Thread nD τ) (O₀ c) ∅ ∗ ∃ r, prngReg c r)

/-- What it starts the program with. -/
abbrev T₀ (c : Dev nD) : sProp 𝕄 := iprop(StableHlo.held (c : Thread nD τ) (Pipeline.ucRefs τ sig) (V0 m c) ∗ E0 m c)
/-- What it ends with. -/
abbrev Tₙ (c : Dev nD) : sProp 𝕄 := iprop(StableHlo.held (c : Thread nD τ) (Pipeline.ucRefs τ sig) (Vend m c) ∗ semVal (barCell c) 0)

theorem lane_intro (c : Dev nD) (t : Fin 3) (s : Fin 4) :
    iprop((openTok ER (sendCell c t s) ∗ openTok ER (recvCell c t s)) ∗ (dutyTok ER (sendCell c t s) 0 0 ∗ dutyTok ER (recvCell (pa t s c) t s) 0 0) ∗ cred (tallyAt (recvCell c t s) () N))
      ⊢ (laneG (F := F) c t s : sProp 𝕄) := by
  unfold laneG
  iintro ⟨Ho, ⟨Hd, Hd'⟩, Hc⟩
  isplitl [Ho]; · iexact Ho
  isplitl [Hd]; · iexact Hd
  isplitl [Hd']; · iexact Hd'
  iexact Hc

theorem T₀_intro (c : Dev nD) : iprop(records m ∗ (linear (F := F) c ∗ bundle m c)) ⊢ T₀ m c := by
  unfold records bundle linear T₀ E0 Tk bars owesE
  iintro ⟨⟨#Hi, #Hr⟩, ⟨Ha, Ho, ⟨H0, H1, H2⟩, Hd⟩, Hh, ⟨Hc, Hcs⟩, HO, Hp⟩
  isplitl [Hh]; · iexact Hh
  isplitr [HO Hp]
  · isplitr; · iexact Hi
    isplitl [H0 H1 H2]
    · isplitl [H0]
      · isplitl [H0]; · iexact H0
        iapply (reached_at (F := F) (pr 0 c)); iexact Hr
      isplitl [H1]
      · isplitl [H1]; · iexact H1
        iapply (reached_at (F := F) (pr 1 c)); iexact Hr
      · isplitl [H2]; · iexact H2
        iapply (reached_at (F := F) (pr 2 c)); iexact Hr
    isplitl [Ha]; · iexact Ha
    isplitl [Hc]; · iexact Hc
    iapply (each_mono fun t s => lane_intro (F := F) c t s)
    iapply (Entails.of_eq (each_sep _ _).symm)
    isplitl [Ho]; · iexact Ho
    iapply (Entails.of_eq (each_sep _ _).symm)
    isplitl [Hd]; · iexact Hd
    iexact Hcs
  isplitl [Hp]; · iexact Hp
  iexists ∅; iexact HO

theorem unscoped_eq : ∀ sm : SemLoc sig, sm.isScoped .tc = false → sm = .reg barS := by decide

theorem unscoped_bar (c : Dev nD) : (unscopedSems0 c : sProp 𝕄) ⊢ semVal (barCell c) 0 := by
  unfold unscopedSems0
  exact BI.bigSep_elim (Φ := fun sm => semVal ((c.tc : Thread nD τ), sm) 0) (Finset.mem_filter.mpr ⟨Finset.mem_univ (SemLoc.reg barS), by decide⟩)

theorem launch_core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G (F := F) c)
    ⊢ (iprop(bundle m c ∗ (semVal (barCell c) 0 ∗ G (F := F) c)) : sProp 𝕄) := by
  rw [show (unscopedBufs c (fun b => m ((c : Thread nD τ).loc b)) : sProp 𝕄) = StableHlo.held (c : Thread nD τ) (Pipeline.ucRefs τ sig) (V0 m c) from
    Pipeline.unscopedBufs_held (Ix := Unit) (Name := ℕ) (U := UU) (Lvl := ℕ) c (V0 m c)]
  unfold bundle
  iintro ⟨Hh, Hus, HO, Hcr, Hp, HG⟩
  ihave Hc := (creds (F := F) c) $$ Hcr
  isplitr [Hus HG]
  · isplitl [Hh]; · iexact Hh
    isplitl [Hc]; · iexact Hc
    isplitl [HO]; · iexact HO
    iexists (ρ c); iexact Hp
  isplitl [Hus]; · iapply (unscoped_bar (F := F) c); iexact Hus
  iexact HG

theorem launch_init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have htok : bigSep (barToks ∪ ownToks) (fun x => (dutyTok ER x.1 x.2.1 x.2.2 : sProp 𝕄))
      ⊢ iprop((bigSep Finset.univ fun c : Dev nD => iprop(dutyTok ER (barCell (pr 0 c)) 0 0 ∗ dutyTok ER (barCell (pr 1 c)) 0 1 ∗ dutyTok ER (barCell (pr 2 c)) 0 2))
        ∗ bigSep Finset.univ fun c : Dev nD => each fun t s => iprop(dutyTok ER (sendCell c t s) 0 0 ∗ dutyTok ER (recvCell (pa t s c) t s) 0 0)) := by
    rw [← bar_toks, ← own_toks]
    exact Entails.of_eq (BI.bigSep_union disjoint_toks)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop(bundle m c ∗ (semVal (barCell c) 0 ∗ G (F := F) c)) : sProp 𝕄) from BI.bigSep_mono fun c _ => launch_core m ρ c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells ownCells (barToks ∪ ownToks))) from
    Entails.of_eq (bigSep_onZero (F := F) (BI.own (ER (launchOf barCells ownCells (barToks ∪ ownToks)))))) $$ HG
  imod (Rounds.fund_launch ER (Rd (accs (ins m))) disjoint_cells (fun g _ h => h) (barToks ∪ ownToks)) $$ [Hv Hu] with ⟨%κ, -, #Hinv, #Hr, Hat, Hopen, Htok⟩
  · isplitl [Hv]
    · iapply hv $$ Hv
    · iexact Hu
  imodintro
  ihave Htok := htok $$ Htok
  icases Htok with ⟨Ht1, Ht2⟩
  iapply (bigSep_with_persistent (R := records m) (Φ := fun c => iprop(linear (F := F) c ∗ bundle m c)) fun c _ => T₀_intro m c)
  isplitr
  · unfold records invs
    isplitr
    · iexists κ
      iapply (show (bigSep (barCells ∪ ownCells) fun g => (cellInv ER (Rd (accs (ins m))) (κ g) g : sProp 𝕄)) ⊢ bigSep cells fun g => cellInv ER (Rd (accs (ins m))) (κ g) g from
        BI.bigSep_subset cells_sub)
      iexact Hinv
    iexact Hr
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hopen]; · iapply (Entails.of_eq (own_each fun g => (openTok ER g : sProp 𝕄))); iexact Hopen
    iapply (Entails.of_eq (bigSep_sep' _ _ _).symm); isplitl [Ht1]; · iexact Ht1
    iexact Ht2
  · iexact HB

/-! ## The run -/

/-- An argument is at the end what it was at launch. -/
theorem Vend_arg (c : Dev nD) (r : Ref sig .tc) (h : r ≠ main_v18) (h' : r ∉ hostOps0_W) : Vend m c r = m ((c : Thread nD τ).loc r) :=
  (Vend_of m c r h).trans ((V1_of m c r h').trans rfl)

theorem uc_mem (r : Ref sig .tc) (h : (Proc.devRef (τ := τ) .tc r) ∈ Pipeline.ucRefs τ sig := by exact Finset.mem_filter.mpr ⟨StableHlo.devRef_mem_tcRefs _, by decide⟩) :
    (Proc.devRef (τ := τ) .tc r) ∈ Pipeline.ucRefs τ sig := h

/-- What a device's memory is at the end: its arguments as given, and the result. -/
def Ends (c : Dev nD) (mem : (ℓ : Loc nD τ sig) → Buf (Elt F) ℓ) : Prop :=
  mem ((c : Thread nD τ).loc main_v18) = res m c
    ∧ mem ((c : Thread nD τ).loc main_arg0) = m ((c : Thread nD τ).loc main_arg0) ∧ mem ((c : Thread nD τ).loc main_arg1) = m ((c : Thread nD τ).loc main_arg1)
    ∧ mem ((c : Thread nD τ).loc main_arg2) = m ((c : Thread nD τ).loc main_arg2) ∧ mem ((c : Thread nD τ).loc main_arg3) = m ((c : Thread nD τ).loc main_arg3)
    ∧ mem ((c : Thread nD τ).loc main_arg4) = m ((c : Thread nD τ).loc main_arg4)

theorem ends_of (c : Dev nD) (mem : (ℓ : Loc nD τ sig) → Buf (Elt F) ℓ) (h : ∀ b ∈ Pipeline.ucRefs τ sig, mem ((c : Thread nD τ).1, b) = Vend m c b) : Ends m c mem :=
  ⟨(h _ (uc_mem main_v18)).trans (Vend_out m c), (h _ (uc_mem main_arg0)).trans (Vend_arg m c _ (by decide) (by decide)),
    (h _ (uc_mem main_arg1)).trans (Vend_arg m c _ (by decide) (by decide)), (h _ (uc_mem main_arg2)).trans (Vend_arg m c _ (by decide) (by decide)),
    (h _ (uc_mem main_arg3)).trans (Vend_arg m c _ (by decide) (by decide)), (h _ (uc_mem main_arg4)).trans (Vend_arg m c _ (by decide) (by decide))⟩

theorem finish (c : Dev nD) (s' : Phys nD τ sig (Elt F)) :
    iprop(Tₙ m c ∗ SI s') ⊢ (|={Set.univ}=> iprop(⌜Ends m c s'.mem.mem ∧ s'.mem.sem (barCell c) = 0⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (Vend m c) s') $$ [Hh HSI]
  · isplitl [Hh] <;> iassumption
  icases Hr with ⟨%h, HSI⟩
  imodintro
  isplitr
  · ipureintro
    exact ⟨ends_of m c _ h, by simpa using hb⟩
  · iexact HSI

set_option backward.isDefEq.respectTransparency.types false in
/-- The program's run from any memory with every counter at zero: it reaches the end, with the arguments as given, the
    result as stated at every device and every counter at zero. -/
theorem run_main : θ_run defs (onTc (τ := τ) (main (F := F))) ⟨m, fun _ => 0, ρ⟩
    (fun r => (∀ c : Dev nD, Ends m c r.2.mem) ∧ ∀ g, r.2.sem g = 0) := by
  refine Pipeline.θ_run_regions_kit_dev_sems (pcfgs (F := F)) adm (pdats m) () cellOf_inj EP defs₀ 𝒱₀ L lv m ρ main
    (segs m 𝒱₀ L lv (fun _ => E0 m) () (pdats m) (reg m))
    (fun c Q => by
      rewrite [main_chain c, Seg.run_eq_chain,
        show (segs m 𝒱₀ L lv (fun _ => E0 m) () (pdats m) (reg m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne (G (F := F)) u₀ ?_
    (T₀ := T₀ m) (Tₙ := Tₙ m)
    (hch := fun c => ⟨.rfl, reg_pre m c, reg_post m c⟩)
    (hinit := launch_init m ρ) (QY := fun c s => Ends m c s.mem ∧ s.sem (barCell c) = 0)
    (hfin := fun c s' => finish m c s')
    (hQ := fun s h hs => ⟨fun c => (h c).1, fun g => congrFun (sem_eq_zero hs fun c sm hsm => by
        obtain rfl := unscoped_eq sm hsm
        exact (h c).2) g⟩)
  unfold u₀ G
  iintro Hu
  ihave H := (ownU_pair _ _) $$ Hu
  icases H with ⟨HP, HX⟩
  imodintro
  isplitl [HP]; · iexact HP
  rw [bigSep_onZero]; iexact HX

end Cert.KernelIdeal.Run

end
-- ==== Proof.Frames.lean ====
/- The frames: the kernel's runs, at the machine's floats and at the extended reals, from the one run of the program. -/
module

public import proofs.«01_k».proof.Defs
public import proofs.«01_k».proof.Proof.Gen.Kernel
public import proofs.«01_k».proof.Proof.Launch

@[expose] public section

noncomputable section

namespace Cert.Proof

open Idealize.ShloMosaic Idealize.ShloMosaic.TcCoe Idealize.SL.Sem Cert.KernelIdeal Cert.KernelIdeal.Gen Cert.KernelIdeal.Run

set_option backward.isDefEq.respectTransparency.types false in
set_option backward.isDefEq.respectTransparency false in
/-- The two programs have one text: their bodies are the same, -/
theorem body_same {F : FTy → Type} [FloatOps F] : Cert.Kernel.cc0_body (F := F) = Cert.KernelIdeal.cc0_body (F := F) := rfl
set_option backward.isDefEq.respectTransparency.types false in
set_option backward.isDefEq.respectTransparency false in
/-- their body tables, -/
theorem bodies_same {F : FTy → Type} [FloatOps F] : (Cert.Kernel.defs₀ (F := F)) = Cert.KernelIdeal.defs₀ (F := F) := by
  unfold Cert.Kernel.defs₀ Cert.KernelIdeal.defs₀
  refine congrArg (Defs.onTc (nD := nD) (τ := τ) (sig := sig)) ?_
  funext i x
  obtain ⟨i, hi⟩ := i
  cases i with
  | zero => obtain ⟨t, s⟩ := x; dsimp only; rw [body_same]
  | succ n => exact absurd hi (Nat.not_lt.2 (Nat.le_add_left _ _))
set_option backward.isDefEq.respectTransparency.types false in
set_option backward.isDefEq.respectTransparency false in
theorem defs_same {F : FTy → Type} [FloatOps F] : (Cert.Kernel.defs (F := F)) = Cert.KernelIdeal.defs (F := F) := by
  unfold Cert.Kernel.defs Cert.KernelIdeal.defs
  exact congrArg (Pipeline.defs (pcfgs (F := F))) bodies_same
set_option backward.isDefEq.respectTransparency.types false in
set_option backward.isDefEq.respectTransparency false in
/-- and their host code. -/
theorem main_same {F : FTy → Type} [FloatOps F] : (Cert.Kernel.main (F := F)) = Cert.KernelIdeal.main (F := F) := rfl

set_option backward.isDefEq.respectTransparency.types false in
set_option backward.isDefEq.respectTransparency false in
/-- The kernel as compiled reaches its end, its arguments unchanged and every semaphore at zero. -/
theorem frame_kernel : Cert.quiescent_Kernel := fun m ρ _ => by
  rw [defs_same, main_same]
  exact (θ_run Cert.KernelIdeal.defs _ _).mono (fun _ h => ⟨fun c => (h.1 c).2, funext h.2⟩) (run_main (F := Bits) m ρ)

/-- The same of its idealization. -/
theorem frame_kernelIdeal : Cert.quiescent_KernelIdeal := fun m ρ _ =>
  (θ_run Cert.KernelIdeal.defs _ _).mono (fun _ h => ⟨fun c => (h.1 c).2, funext h.2⟩) (run_main (F := Ideal) m ρ)

end Cert.Proof

end
-- ==== Proof.Ref.lean ====
/- The reference's run: its frame. -/
module

public import proofs.«01_k».proof.Defs
public import proofs.«01_k».proof.Proof.Gen.ReferenceIdeal
public import proofs.«01_k».proof.Proof.Gen.ReferenceIdeal.Run
public import Idealize.ShloMosaic.Lib.Claim

@[expose] public section

noncomputable section

namespace Cert.Proof

open Idealize.ShloMosaic Idealize.ShloMosaic.TcCoe Idealize.SL.Sem

/-- The reference reaches its end, its arguments unchanged; it has no semaphore, so none is left raised. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Attn.lean ====
/- Attention over the extended reals: a row's masked softmax, written with and without the row's maximum. -/
module

public import Idealize.ShloMosaic.PureOps.Ideal
public import Idealize.ShloMosaic.Lib.Pointwise

@[expose] public section

noncomputable section

namespace Cert.Attn

open Idealize.ShloMosaic Finset

/-- A sum of reals, taken among the extended reals, is the real sum. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Multiplying a sum by a real that is not negative multiplies its terms. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.2 hr) (EReal.coe_ne_top r), ih]

/-- Division by a real that is not zero multiplies by its inverse. -/
theorem div_coe (x : EReal) {r : ℝ} (hr : r ≠ 0) : Ideal.div x (r : EReal) = x * ((r⁻¹ : ℝ) : EReal) := by
  unfold Ideal.div
  rw [if_neg (by exact_mod_cast hr), EReal.coe_inv]

theorem exp_coe (r : ℝ) : Ideal.exp (r : EReal) = ((Real.exp r : ℝ) : EReal) := rfl
theorem exp_bot : Ideal.exp ⊥ = 0 := rfl

variable {n : ℕ} (s : Fin n → ℝ) (M : Fin n → Prop) [DecidablePred M]

/-- The scores of a row with minus infinity where the mask hides a key. -/
def masked (j : Fin n) : EReal := if M j then (s j : EReal) else ⊥

/-- The row's maximum is a real where the mask leaves a key. -/
theorem max_real (j₀ : Fin n) (h₀ : M j₀) : ∃ r : ℝ, Finset.univ.fold max ⊥ (masked s M) = (r : EReal) := by
  have h1 : Finset.univ.fold max ⊥ (masked s M) ≠ ⊥ := by
    have : masked s M j₀ ≤ Finset.univ.fold max ⊥ (masked s M) :=
      (Finset.le_fold_max _).2 (.inr ⟨j₀, Finset.mem_univ _, le_rfl⟩)
    intro e
    rw [e, masked, if_pos h₀] at this
    exact absurd (le_bot_iff.1 this) (EReal.coe_ne_bot _)
  have h2 : Finset.univ.fold max ⊥ (masked s M) ≠ ⊤ := by
    refine ((Finset.fold_max_lt _).2 ⟨bot_lt_top, fun j _ => ?_⟩).ne
    unfold masked; split
    · exact EReal.coe_lt_top _
    · exact bot_lt_top
  exact ⟨_, (EReal.coe_toReal h2 h1).symm⟩

/-- The weight of a key before normalization, as a real. -/
def wt (j : Fin n) : ℝ := if M j then Real.exp (s j) else 0

theorem wt_nonneg (j : Fin n) : 0 ≤ wt s M j := by
  unfold wt; split
  · exact (Real.exp_pos _).le
  · exact le_rfl

theorem wt_sum_pos (j₀ : Fin n) (h₀ : M j₀) : 0 < ∑ j, wt s M j :=
  Finset.sum_pos' (fun j _ => wt_nonneg s M j) ⟨j₀, Finset.mem_univ _, by unfold wt; rw [if_pos h₀]; exact Real.exp_pos _⟩

/-- The exponential times the mask is that weight, -/
theorem exp_mask (j : Fin n) : Ideal.exp (s j) * (if M j then 1 else 0) = (wt s M j : EReal) := by
  unfold wt; split
  · rw [mul_one, exp_coe]
  · rw [mul_zero, EReal.coe_zero]

/-- and the exponential of the masked score less a real is that weight times a constant. -/
theorem exp_masked (r : ℝ) (j : Fin n) : Ideal.exp (masked s M j - (r : EReal)) = ((wt s M j * Real.exp (-r) : ℝ) : EReal) := by
  unfold wt masked; split
  · rw [← EReal.coe_sub, exp_coe, sub_eq_add_neg, Real.exp_add]
  · rw [EReal.bot_sub, exp_bot, zero_mul, EReal.coe_zero]

/-- A row of attention: the weighted sum of the values over the sum of the weights is the sum of the values weighted by the
    softmax of the masked scores. -/
theorem row_eq (j₀ : Fin n) (h₀ : M j₀) (v : Fin n → EReal) :
    Ideal.div (∑ j, Ideal.exp (s j) * (if M j then 1 else 0) * v j) (∑ j, Ideal.exp (s j) * (if M j then 1 else 0))
      = ∑ j, v j * Ideal.div (Ideal.exp (masked s M j - Finset.univ.fold max ⊥ (masked s M)))
          (∑ l, Ideal.exp (masked s M l - Finset.univ.fold max ⊥ (masked s M))) := by
  obtain ⟨r, hr⟩ := max_real s M j₀ h₀
  rw [hr]
  simp only [exp_mask, exp_masked, sum_coe]
  have hS := wt_sum_pos s M j₀ h₀
  have hE : (∑ j, wt s M j * Real.exp (-r)) ≠ 0 := by
    rw [← Finset.sum_mul]; exact (mul_pos hS (Real.exp_pos _)).ne'
  rw [div_coe _ hS.ne', sum_mul_coe _ _ _ (inv_nonneg.2 hS.le)]
  refine Finset.sum_congr rfl fun j _ => ?_
  rw [div_coe _ hE, mul_comm _ (v j), mul_assoc, ← EReal.coe_mul, ← EReal.coe_mul]
  congr 2
  rw [← Finset.sum_mul]
  have := (Real.exp_pos (-r)).ne'
  field_simp

/-- Whether a query sees a key, as the bit both programs compute: within 128 of each other, or one of the first 32. -/
def seesBit (i j : Fin 512) : BitVec 1 :=
  IntOp.ori (IntOp.cmpi .sle (IntOp.absi (IntOp.subi (BitVec.ofNat 32 i.val) (BitVec.ofNat 32 j.val))) 128#32)
    (IntOp.ori (IntOp.cmpi .slt (BitVec.ofNat 32 j.val) 32#32) (IntOp.cmpi .slt (BitVec.ofNat 32 i.val) 32#32))
/-- A query sees a key. -/
abbrev Sees (i j : Fin 512) : Prop := seesBit i j = 1#1

/-- Every query sees its own key. -/
theorem sees_self (i : Fin 512) : Sees i i := by
  have h : IntOp.cmpi .sle (IntOp.absi (IntOp.subi (BitVec.ofNat 32 i.val) (BitVec.ofNat 32 i.val))) 128#32 = 1#1 := by
    rw [show IntOp.subi (BitVec.ofNat 32 i.val) (BitVec.ofNat 32 i.val) = 0#32 from BitVec.sub_self _]
    decide
  have h2 : ∀ y : BitVec 1, IntOp.ori 1#1 y = 1#1 := by decide
  unfold Sees seesBit
  rw [h, h2]

end Cert.Attn

end
-- ==== Proof.Entries.lean ====
/- What a device computes, entry by entry, over the extended reals. -/
module

public import proofs.«01_k».proof.Proof.Region
public import proofs.«01_k».proof.Proof.Attn
public import Idealize.ShloMosaic.Lib.Pointwise

@[expose] public section

noncomputable section

namespace Cert.KernelIdeal.Run

open Idealize.ShloMosaic Idealize.ShloMosaic.TcCoe
open Cert.KernelIdeal Cert.KernelIdeal.Gen

open Finset Cert.Attn

variable (I : Ins Ideal)

/-- A query: a row of the activations times a column of the device's query weights. -/
theorem qOf_at (r : Fin 1024) (n : Fin 512) :
    qOf I (ix2 r n) = ∑ k : Fin 768, I.x (ix3 (⟨r.val / 512, by omega⟩ : Fin 2) (⟨r.val % 512, by omega⟩ : Fin 512) k) * I.wq (ix2 k n) := by
  simp only [qOf, k0_pay2, pointwise]
  simp

/-- A weight of one head: the exponential of the scaled score, times the mask. -/
theorem wOf_at (m : FVec Ideal S512x512 .f32) (q : FVec Ideal S512x64 .f32) (k : Vec Ideal S1x64x512 .f32) (i j : Fin 512) :
    wOf m q k (ix2 i j)
      = Ideal.exp ((∑ d : Fin 64, q (ix2 i d) * k (ix3 (0 : Fin 1) d j)) * Ideal.ofBits .f32 0x3E000000#32) * m (ix2 i j) := by
  simp only [wOf, pointwise]
  simp

/-- A head's result: the weighted sum of the values over the sum of the weights. -/
theorem headOf_at (w : FVec Ideal S512x512 .f32) (v : Vec Ideal S1x512x64 .f32) (i : Fin 512) (d : Fin 64) :
    headOf w v (ix2 i d) = Ideal.div (∑ j : Fin 512, w (ix2 i j) * v (ix3 (0 : Fin 1) j d)) (∑ j : Fin 512, w (ix2 i j)) := by
  simp only [headOf, pointwise]
  simp

/-- A partial result: a row of the attention times a column of the device's output weights. -/
theorem tileOf_at (t : Fin 3) (ctx : Vec Ideal S512x512 .f32) (wo : Vec Ideal S512x768 .f32) (i : Fin 512) (n : Fin 256) :
    tileOf t ctx wo (ix3 (0 : Fin 1) i n)
      = ∑ r : Fin 512, ctx (ix2 i r) * wo (ix2 r (⟨256 * t.val + n.val, by omega⟩ : Fin 768)) := by
  simp only [tileOf, k0_pay23, pointwise]
  simp

/-- Adding two blocks adds their entries. -/
theorem tiles_add_at (v w : Tile Ideal) (i : Fin 512) (n : Fin 256) :
    add v w (ix3 (0 : Fin 1) i n) = v (ix3 (0 : Fin 1) i n) + w (ix3 (0 : Fin 1) i n) := by
  simp only [add, k0_pay48, pointwise]

/-- A chunk of the result reads the block of its batch. -/
theorem k0_pay59_at (u : Fin 2 → Tile Ideal) (b : Fin 2) (i : Fin 512) (n : Fin 256) :
    k0_pay59 (planeOf u) (ix3 b i n) = u b (ix3 (0 : Fin 1) i n) := by
  simp only [k0_pay59, pointwise]
  show u _ _ = _
  have hb : (⟨(b.val * 512 + i.val) / 512, by omega⟩ : Fin 2) = b := Fin.ext (show (b.val * 512 + i.val) / 512 = b.val by omega)
  have hi : (⟨(b.val * 512 + i.val) % 512, by omega⟩ : Fin 512) = i := Fin.ext (show (b.val * 512 + i.val) % 512 = i.val by omega)
  exact congr (congrArg u hb) (congrArg (fun z => ix3 (0 : Fin 1) z n) hi)

/-- Whichever half a device keeps and whichever its partner returns, the exchange leaves the sum of all eight devices' blocks. -/
theorem fin_at (a : Dev nD → Fin 3 → Fin 2 → Tile Ideal) (t : Fin 3) (b : Fin 2) (c : Dev nD) (i : Fin 512) (n : Fin 256) :
    fin a t b c (ix3 (0 : Fin 1) i n) = ∑ e : Dev nD, a e t b (ix3 (0 : Fin 1) i n) := by
  have key : ∀ (f : Dev nD → EReal) (t : Fin 3) (c : Dev nD),
      ((f c + f (pa t 0 c)) + (f (pa t 1 c) + f (pa t 0 (pa t 1 c))))
        + ((f (pa t 2 c) + f (pa t 0 (pa t 2 c))) + (f (pa t 1 (pa t 2 c)) + f (pa t 0 (pa t 1 (pa t 2 c))))) = ∑ e : Dev nD, f e := by
    intro f t c
    have hp : ∀ (t : Fin 3) (c : Dev nD), List.Perm [c, pa t 0 c, pa t 1 c, pa t 0 (pa t 1 c), pa t 2 c, pa t 0 (pa t 2 c),
        pa t 1 (pa t 2 c), pa t 0 (pa t 1 (pa t 2 c))] [0, 1, 2, 3, 4, 5, 6, 7] := by decide
    rw [Fin.sum_univ_eight (f := f)]
    have := ((hp t c).map f).sum_eq
    simp only [List.map_cons, List.map_nil, List.sum_cons, List.sum_nil, add_zero] at this
    simp only [add_assoc]
    exact this
  have keep : ∀ (t : Fin 3) (c : Dev nD), kb t (pa t 1 c) = kb t c ∧ kb t (pa t 2 c) = kb t c ∧ kb t (pa t 3 c) = 1 - kb t c := by decide
  have h3 : ∀ c : Dev nD, H a t 3 c (ix3 (0 : Fin 1) i n) = ∑ e : Dev nD, a e t (kb t c) (ix3 (0 : Fin 1) i n) := by
    intro c
    rw [← key (fun e => a e t (kb t c) (ix3 (0 : Fin 1) i n)) t c]
    show H3 a t c _ = _
    simp only [H3, H2, H1, tiles_add_at, (keep t _).1, (keep t _).2.1]
  unfold fin
  split
  · rename_i h; rw [h3, h]
  · rename_i h
    rw [h3, (keep t c).2.2]
    have : b = 1 - kb t c := by revert h; generalize kb t c = z; revert b z; decide
    rw [this]

/-- An entry of a device's attention: its head is the column's, counted in 64s. -/
theorem ctxOf_at (b : Fin 2) (i r : Fin 512) :
    ctxOf I b (ix2 i r) = hd I b (⟨r.val / 64, by omega⟩ : Fin 8) (ix2 (n0 := 512) (n1 := 64) i (⟨r.val % 64, by omega⟩ : Fin 64)) := rfl

/-- An entry of one head: the values weighted by the masked exponentials of the scaled scores, over the sum of those weights. -/
theorem hd_at (b : Fin 2) (h : Fin 8) (i : Fin 512) (d : Fin 64) :
    hd I b h (ix2 (n0 := 512) (n1 := 64) i d)
      = Ideal.div
          (∑ j : Fin 512, Ideal.exp ((∑ d' : Fin 64, qOf I (ix2 (⟨512 * b.val + i.val, by omega⟩ : Fin 1024) (⟨64 * h.val + d'.val, by omega⟩ : Fin 512))
              * I.kk (ix3 b (⟨64 * h.val + d'.val, by omega⟩ : Fin 512) j)) * Ideal.ofBits .f32 0x3E000000#32) * maskOf (F := Ideal) (ix2 i j)
              * I.vv (ix3 b j (⟨64 * h.val + d.val, by omega⟩ : Fin 512)))
          (∑ j : Fin 512, Ideal.exp ((∑ d' : Fin 64, qOf I (ix2 (⟨512 * b.val + i.val, by omega⟩ : Fin 1024) (⟨64 * h.val + d'.val, by omega⟩ : Fin 512))
              * I.kk (ix3 b (⟨64 * h.val + d'.val, by omega⟩ : Fin 512) j)) * Ideal.ofBits .f32 0x3E000000#32) * maskOf (F := Ideal) (ix2 i j)) := by
  have hq : ∀ d' : Fin 64, extractStridedSlice S512x64 ![512 * b.val, 64 * h.val] (qOf I) (q_slices b h) (ix2 i d')
      = qOf I (ix2 (⟨512 * b.val + i.val, by omega⟩ : Fin 1024) (⟨64 * h.val + d'.val, by omega⟩ : Fin 512)) := by
    intro d'
    refine congrArg (qOf I) (funext fun a => Fin.ext ?_)
    fin_cases a <;> rfl
  have hk : ∀ (d' : Fin 64) (j : Fin 512), kS I b h (ix3 (0 : Fin 1) d' j) = I.kk (ix3 b (⟨64 * h.val + d'.val, by omega⟩ : Fin 512) j) := by
    intro d' j
    refine congrArg I.kk (funext fun a => Fin.ext ?_)
    refine (Rect.emb_apply _ _ a).trans ?_
    fin_cases a
    · show b.val + 1 * 0 = b.val; omega
    · show 64 * h.val + 1 * d'.val = 64 * h.val + d'.val; omega
    · show 0 + 1 * j.val = j.val; omega
  have hv : ∀ (j : Fin 512) (d : Fin 64), vS I b h (ix3 (0 : Fin 1) j d) = I.vv (ix3 b j (⟨64 * h.val + d.val, by omega⟩ : Fin 512)) := by
    intro j d
    refine congrArg I.vv (funext fun a => Fin.ext ?_)
    refine (Rect.emb_apply _ _ a).trans ?_
    fin_cases a
    · show b.val + 1 * 0 = b.val; omega
    · show 0 + 1 * j.val = j.val; omega
    · show 64 * h.val + 1 * d.val = 64 * h.val + d.val; omega
  refine (headOf_at _ _ i d).trans ?_
  simp only [wOf_at, hq, hk, hv]

/-- An entry of the result: the sum over the devices and over each device's columns of the attention. -/
theorem resOf_at (J : Dev nD → Ins Ideal) (c : Dev nD) (b : Fin 2) (i : Fin 512) (n : Fin 768) :
    resOf (accs J) c (ix3 b i n) = ∑ e : Dev nD, ∑ r : Fin 512, ctxOf (J e) b (ix2 i r) * (J e).wo (ix2 r n) := by
  show oOf (accs J) c (⟨n.val / 256, by omega⟩ : Fin 3) (ix3 b i (⟨n.val % 256, by omega⟩ : Fin 256)) = _
  unfold oOf
  rw [k0_pay59_at, fin_at]
  refine Finset.sum_congr rfl fun e _ => ?_
  refine (tileOf_at _ _ _ _ _).trans ?_
  refine Finset.sum_congr rfl fun r _ => ?_
  have : (⟨256 * (n.val / 256) + n.val % 256, by omega⟩ : Fin 768) = n := Fin.ext (show 256 * (n.val / 256) + n.val % 256 = n.val by omega)
  exact congrArg (fun z => ctxOf (J e) b (ix2 i r) * (J e).wo (ix2 r z)) this

/-- The mask as a number: one where a query sees a key, else zero. -/
theorem maskOf_at (i j : Fin 512) : maskOf (F := Ideal) (ix2 i j) = if Sees i j then 1 else 0 := by
  have ho : ∀ x y z : BitVec 1, IntOp.ori (IntOp.ori x y) z = IntOp.ori x (IntOp.ori y z) := by decide
  have h0 : ∀ i j : Fin 512, List.foldl (fun n a => n * ![512, 512] a + ((ix2 i j : S512x512.Idx) a).val) 0 [(0 : Fin 2)] = i.val := by
    intro i j; simp
  have h1 : ∀ i j : Fin 512, List.foldl (fun n a => n * ![512, 512] a + ((ix2 i j : S512x512.Idx) a).val) 0 [(1 : Fin 2)] = j.val := by
    intro i j; simp
  have hn : ∀ x : BitVec 1, (FloatOps.sitofp (F := Ideal) .f32 (BitVec.setWidth 32 x) : EReal) = if x = 1#1 then 1 else 0 := by
    intro x
    have : x = 0#1 ∨ x = 1#1 := by revert x; decide
    rcases this with rfl | rfl
    · rw [if_neg (by decide)]
      show (((0#32 : BitVec 32).toInt : ℝ) : EReal) = 0
      simp
    · rw [if_pos rfl]
      show (((1#32 : BitVec 32).toInt : ℝ) : EReal) = 1
      simp
  simp only [maskOf, k0_pay3, k0_pay4, k0_pay5, pointwise]
  rw [h0, h1, ho]
  exact hn _

end Cert.KernelIdeal.Run

end
-- ==== Proof.RefEntries.lean ====
/- What the reference computes, entry by entry, over the extended reals. -/
module

public import proofs.«01_k».proof.Proof.Attn
public import proofs.«01_k».proof.Proof.Gen.ReferenceIdeal
public import proofs.«01_k».proof.Proof.Gen.ReferenceIdeal.Run
public import Idealize.ShloMosaic.Lib.Pointwise

@[expose] public section

noncomputable section

namespace Cert.Proof.Ref

open Idealize.ShloMosaic Idealize.ShloMosaic.TcCoe
open Cert.ReferenceIdeal Cert.ReferenceIdeal.Gen Cert.Attn

/-- The reference's mask. -/
def mask : IVec S512x512 1 :=
  ori (cmpi .sle (absi (subi (broadcastInDim S512x512 ![0, 1] bcast_S512x1_S512x512_0_1 (broadcastInDim S512x1 ![0] bcast_S512_S512x1_0 (iotaInDim S512 32 0))) (broadcastInDim S512x512 ![0, 1] bcast_S1x512_S512x512_0_1 (broadcastInDim S1x512 ![1] bcast_S512_S1x512_1 (iotaInDim S512 32 0))))) (broadcastInDim S512x512 ![] bcast_S_S512x512 (constantI S_ 32 128#32)))
    (ori (broadcastInDim S512x512 ![0, 1] bcast_S1x512_S512x512_0_1 (cmpi .slt (broadcastInDim S1x512 ![1] bcast_S512_S1x512_1 (iotaInDim S512 32 0)) (broadcastInDim S1x512 ![] bcast_S_S1x512 (constantI S_ 32 32#32)))) (broadcastInDim S512x512 ![0, 1] bcast_S512x1_S512x512_0_1 (cmpi .slt (broadcastInDim S512x1 ![0] bcast_S512_S512x1_0 (iotaInDim S512 32 0)) (broadcastInDim S512x1 ![] bcast_S_S512x1 (constantI S_ 32 32#32)))))

theorem mask_at (i j : Fin 512) : mask (ix2 i j) = seesBit i j := by
  simp only [mask, pointwise]
  rfl

/-- Whether a query sees any key, -/
def seesAny : IVec S512 1 := Host.reduce IntOp.ori mask (constantI S_ 1 0#1) reducesTo_S512x512_S512_d1 h_S_

/-- which it always does: its own. -/
theorem seesAny_at (i : Fin 512) : seesAny (ix1 i) = 1#1 := by
  have h : ∀ (s : Finset (Fin 512)) (f : Fin 512 → BitVec 1), (∃ j ∈ s, f j = 1#1) → s.fold IntOp.ori 0#1 f = 1#1 := by
    intro s f
    induction s using Finset.induction_on with
    | empty => rintro ⟨j, hj, -⟩; exact absurd hj (Finset.notMem_empty j)
    | insert a s ha ih =>
      rintro ⟨j, hj, e⟩
      rw [Finset.fold_insert ha]
      rcases Finset.mem_insert.1 hj with rfl | hj
      · rw [e]; generalize s.fold IntOp.ori 0#1 f = z; revert z; decide
      · rw [ih ⟨j, hj, e⟩]; generalize f a = z; revert z; decide
  simp only [seesAny, pointwise]
  refine h _ _ ⟨i, Finset.mem_univ _, ?_⟩
  exact (mask_at i i).trans (sees_self i)

variable (x : Vec Ideal S2x512x768 .f32) (wq : Vec Ideal S768x4096 .f32) (k v : Vec Ideal S2x512x64x64 .f32) (wo : Vec Ideal S4096x768 .f32)

/-- The scaled scores, minus infinity where a query does not see a key. -/
def scores : FVec Ideal S2x64x512x512 .f32 :=
  select (broadcastInDim S2x64x512x512 ![0, 1, 2, 3] bcast_S1x1x512x512_S2x64x512x512_0_1_2_3 (broadcastInDim S1x1x512x512 ![2, 3] bcast_S512x512_S1x1x512x512_2_3 mask))
    (mulf (Host.dotGeneral (φ₁ := .f32) (φ₂ := .f32) dot_S2x512x64x64_S2x512x64x64_S2x64x512x512_3_3_1_1_02_02 none (shapeCast _ (Host.dotGeneral (F := Ideal) (φ₁ := .f32) (φ₂ := .f32) dot_S2x512x768_S768x4096_S2x512x4096_2_0_01_1_n_n none x wq) shapeCasts_S2x512x4096_S2x512x64x64) k) (broadcastInDim S2x64x512x512 ![] bcast_S_S2x64x512x512 (constant S_ .f32 0x3E000000#32)))
    (broadcastInDim S2x64x512x512 ![] bcast_S_S2x64x512x512 (id (constant S_ .f32 0xFF800000#32)))

/-- A scaled score before the mask. -/
def score (b : Fin 2) (h : Fin 64) (i j : Fin 512) : EReal :=
  (∑ d : Fin 64, (∑ e : Fin 768, x (ix3 b i e) * wq (ix2 e (⟨h.val * 64 + d.val, by omega⟩ : Fin 4096))) * k (ix4 b j h d)) * Ideal.ofBits .f32 0x3E000000#32

theorem neg_inf : Ideal.ofBits .f32 0xFF800000#32 = ⊥ := by
  simp [Ideal.ofBits, Ideal.ieee]

theorem scores_at (b : Fin 2) (h : Fin 64) (i j : Fin 512) :
    scores x wq k (ix4 b h i j) = if Sees i j then score x wq k b h i j else ⊥ := by
  simp only [scores, pointwise]
  simp only [OfNat.ofNat_ne_one, ↓reduceDIte, zero_add, mask_at]
  rw [show (id (constant (F := Ideal) S_ .f32 4286578688#32) ix0 : EReal) = ⊥ from neg_inf]
  rfl

/-- The exponentials of the scores less each row's maximum. -/
def expo (s : FVec Ideal S2x64x512x512 .f32) : FVec Ideal S2x64x512x512 .f32 :=
  Host.exp (subf s (broadcastInDim S2x64x512x512 ![0, 1, 2, 3] bcast_S2x64x512x1_S2x64x512x512_0_1_2_3 (broadcastInDim S2x64x512x1 ![0, 1, 2] bcast_S2x64x512_S2x64x512x1_0_1_2 (Host.reduce FloatOps.maximumf s (constant S_ .f32 0xFF800000#32) reducesTo_S2x64x512x512_S2x64x512_d3 h_S_))))

theorem expo_at (s : FVec Ideal S2x64x512x512 .f32) (b : Fin 2) (h : Fin 64) (i j : Fin 512) :
    expo s (ix4 b h i j) = Ideal.exp (s (ix4 b h i j) - Finset.univ.fold max ⊥ (fun l : Fin 512 => s (ix4 b h i l))) := by
  simp only [expo, pointwise]
  simp only [OfNat.ofNat_ne_one, ↓reduceDIte, neg_inf]

/-- The exponentials over each row's sum. -/
def soft (e : FVec Ideal S2x64x512x512 .f32) : FVec Ideal S2x64x512x512 .f32 :=
  select (broadcastInDim S2x64x512x512 ![0, 1, 2, 3] bcast_S1x1x512x1_S2x64x512x512_0_1_2_3 (broadcastInDim S1x1x512x1 ![2] bcast_S512_S1x1x512x1_2 seesAny))
    (Host.divf e (broadcastInDim S2x64x512x512 ![0, 1, 2, 3] bcast_S2x64x512x1_S2x64x512x512_0_1_2_3
      (select (broadcastInDim S2x64x512x1 ![0, 1, 2, 3] bcast_S1x1x512x1_S2x64x512x1_0_1_2_3 (broadcastInDim S1x1x512x1 ![2] bcast_S512_S1x1x512x1_2 seesAny))
        (broadcastInDim S2x64x512x1 ![0, 1, 2] bcast_S2x64x512_S2x64x512x1_0_1_2 (Host.reduceAdd e (constant S_ .f32 0x00000000#32) reducesTo_S2x64x512x512_S2x64x512_d3 h_S_))
        (broadcastInDim S2x64x512x1 ![] bcast_S_S2x64x512x1 (id (constant S_ .f32 0x3F800000#32))))))
    (broadcastInDim S2x64x512x512 ![] bcast_S_S2x64x512x512 (id (constant S_ .f32 0x00000000#32)))

theorem soft_at (e : FVec Ideal S2x64x512x512 .f32) (b : Fin 2) (h : Fin 64) (i j : Fin 512) :
    soft e (ix4 b h i j) = Ideal.div (e (ix4 b h i j)) (∑ l : Fin 512, e (ix4 b h i l)) := by
  simp only [soft, pointwise]
  simp only [OfNat.ofNat_ne_one, ↓reduceDIte, zero_add, seesAny_at]
  rfl

/-- The reference's result from the softmax. -/
def out (p : FVec Ideal S2x64x512x512 .f32) : FVec Ideal S2x512x768 .f32 :=
  Host.dotGeneral (φ₁ := .f32) (φ₂ := .f32) dot_S2x512x4096_S4096x768_S2x512x768_2_0_01_1_n_n none (shapeCast _ (transpose S2x512x64x64 [0, 3, 1, 2] (Host.dotGeneral (F := Ideal) (φ₁ := .f32) (φ₂ := .f32) dot_S2x512x64x64_S2x64x512x512_S2x64x64x512_1_3_3_2_02_01 none v p) transposes_S2x64x64x512_S2x512x64x64_0_3_1_2) shapeCasts_S2x512x64x64_S2x512x4096) wo

theorem out_at (p : FVec Ideal S2x64x512x512 .f32) (b : Fin 2) (i : Fin 512) (n : Fin 768) :
    out v wo p (ix3 b i n) = ∑ r : Fin 4096, (∑ j : Fin 512, v (ix4 b j (⟨r.val / 64, by omega⟩ : Fin 64) (⟨r.val % 64, by omega⟩ : Fin 64))
        * p (ix4 b (⟨r.val / 64, by omega⟩ : Fin 64) i j)) * wo (ix2 r n) := by
  simp only [out, pointwise]
  simp only [zero_add]

open Cert.ReferenceIdeal.Value in
set_option maxRecDepth 8192 in
/-- The reference's result, by its stages. -/
theorem res_eq (m : (ℓ : Loc nD τ sig) → Buf (Elt Ideal) ℓ) (c : Dev nD) :
    res_main_v42 m c = out (m ((c.tc : Thread nD τ).loc main_arg3)) (m ((c.tc : Thread nD τ).loc main_arg4))
      (soft (expo (scores (m ((c.tc : Thread nD τ).loc main_arg0)) (m ((c.tc : Thread nD τ).loc main_arg1)) (m ((c.tc : Thread nD τ).loc main_arg2))))) := by
  unfold res_main_v42 out soft expo scores seesAny mask
  rfl

end Cert.Proof.Ref

end
-- ==== Proof.Equal.lean ====
/- The eight devices' summed partial results are the reference's result, entry by entry. -/
module

public import proofs.«01_k».proof.Proof.Entries
public import proofs.«01_k».proof.Proof.RefEntries

@[expose] public section

noncomputable section

namespace Cert.Proof

open Idealize.ShloMosaic Idealize.ShloMosaic.TcCoe
open Cert.KernelIdeal Cert.KernelIdeal.Run Cert.Attn Cert.Proof.Ref

/-- Head `r / 64` of device `e`, among all the heads. -/
abbrev hof (e : Dev nD) (r : Fin 512) : Fin 64 := ⟨8 * e.val + r.val / 64, by have : e.val < 8 := e.isLt; omega⟩
/-- Column `r` of device `e`, among all the columns. -/
abbrev cof (e : Dev nD) (r : Fin 512) : Fin 4096 := ⟨512 * e.val + r.val, by have : e.val < 8 := e.isLt; omega⟩
/-- The place of column `r` within its head. -/
abbrev dof (r : Fin 512) : Fin 64 := ⟨r.val % 64, by omega⟩

/-- The devices' arguments are their parts of the whole arrays. -/
structure Parts (J : Dev nD → Ins Ideal) (x : Vec Ideal S2x512x768 .f32) (wq : Vec Ideal Cert.ReferenceIdeal.S768x4096 .f32)
    (k v : Vec Ideal S2x512x64x64 .f32) (wo : Vec Ideal Cert.ReferenceIdeal.S4096x768 .f32) : Prop where
  hx : ∀ e, (J e).x = x
  hwq : ∀ (e : Dev nD) (a : Fin 768) (r : Fin 512), (J e).wq (ix2 a r) = wq (ix2 a (cof e r))
  hk : ∀ (e : Dev nD) (b : Fin 2) (r j : Fin 512), (J e).kk (ix3 b r j) = k (ix4 b j (hof e r) (dof r))
  hv : ∀ (e : Dev nD) (b : Fin 2) (j r : Fin 512), (J e).vv (ix3 b j r) = v (ix4 b j (hof e r) (dof r))
  hwo : ∀ (e : Dev nD) (r : Fin 512) (n : Fin 768), (J e).wo (ix2 r n) = wo (ix2 (cof e r) n)

variable {J : Dev nD → Ins Ideal} {x : Vec Ideal S2x512x768 .f32} {wq : Vec Ideal Cert.ReferenceIdeal.S768x4096 .f32}
  {k v : Vec Ideal S2x512x64x64 .f32} {wo : Vec Ideal Cert.ReferenceIdeal.S4096x768 .f32}

/-- A device's query is the whole query at its column. -/
theorem query (P : Parts J x wq k v wo) (e : Dev nD) (b : Fin 2) (i r : Fin 512) :
    qOf (J e) (ix2 (⟨512 * b.val + i.val, by omega⟩ : Fin 1024) r) = ∑ a : Fin 768, x (ix3 b i a) * wq (ix2 a (cof e r)) := by
  rw [qOf_at, P.hx]
  refine Finset.sum_congr rfl fun a _ => ?_
  rw [P.hwq]
  have hb : (⟨(512 * b.val + i.val) / 512, by omega⟩ : Fin 2) = b := Fin.ext (by show (512 * b.val + i.val) / 512 = b.val; omega)
  have hi : (⟨(512 * b.val + i.val) % 512, by omega⟩ : Fin 512) = i := Fin.ext (by show (512 * b.val + i.val) % 512 = i.val; omega)
  exact congrArg (fun z => x (z a) * wq (ix2 a (cof e r))) (congr (congrArg ix3 hb) hi)

/-- A device's score is the whole score of its head. -/
theorem score_part (P : Parts J x wq k v wo) (e : Dev nD) (b : Fin 2) (i r j : Fin 512) :
    (∑ d : Fin 64, qOf (J e) (ix2 (⟨512 * b.val + i.val, by omega⟩ : Fin 1024) (⟨64 * (r.val / 64) + d.val, by omega⟩ : Fin 512))
        * (J e).kk (ix3 b (⟨64 * (r.val / 64) + d.val, by omega⟩ : Fin 512) j)) * Ideal.ofBits .f32 0x3E000000#32
      = score x wq k b (hof e r) i j := by
  unfold score
  refine congrArg (· * _) (Finset.sum_congr rfl fun d _ => ?_)
  rw [query P, P.hk]
  have he : e.val < 8 := e.isLt
  have h1 : cof e (⟨64 * (r.val / 64) + d.val, by omega⟩ : Fin 512) = ⟨(hof e r).val * 64 + d.val, by omega⟩ :=
    Fin.ext (by show 512 * e.val + (64 * (r.val / 64) + d.val) = (8 * e.val + r.val / 64) * 64 + d.val; omega)
  have h2 : hof e (⟨64 * (r.val / 64) + d.val, by omega⟩ : Fin 512) = hof e r :=
    Fin.ext (by show 8 * e.val + (64 * (r.val / 64) + d.val) / 64 = 8 * e.val + r.val / 64; omega)
  have h3 : dof (⟨64 * (r.val / 64) + d.val, by omega⟩ : Fin 512) = d :=
    Fin.ext (by show (64 * (r.val / 64) + d.val) % 64 = d.val; omega)
  rw [h1, h2, h3]

/-- A device's attention, at column `r`, is the reference's at that column's head and place. -/
theorem attn_part (P : Parts J x wq k v wo) (hf : ∀ b h i j, ∃ s : ℝ, score x wq k b h i j = (s : EReal)) (e : Dev nD) (b : Fin 2) (i r : Fin 512) :
    ctxOf (J e) b (ix2 i r) = ∑ j : Fin 512, v (ix4 b j (hof e r) (dof r)) * soft (expo (scores x wq k)) (ix4 b (hof e r) i j) := by
  choose s hs using hf
  have hv : ∀ j : Fin 512, (J e).vv (ix3 b j (⟨64 * (r.val / 64) + r.val % 64, by omega⟩ : Fin 512)) = v (ix4 b j (hof e r) (dof r)) := by
    intro j
    rw [← P.hv]
    exact congrArg (fun z => (J e).vv (ix3 b j z)) (Fin.ext (by show 64 * (r.val / 64) + r.val % 64 = r.val; omega))
  have hm : ∀ j : Fin 512, scores x wq k (ix4 b (hof e r) i j) = masked (s b (hof e r) i) (Sees i) j := by
    intro j; rw [scores_at, hs]; rfl
  rw [ctxOf_at, hd_at]
  simp only [score_part P, hv, maskOf_at, hs]
  rw [row_eq (s b (hof e r) i) (Sees i) i (sees_self i) (fun j => v (ix4 b j (hof e r) (dof r)))]
  refine Finset.sum_congr rfl fun j _ => ?_
  simp only [soft_at, expo_at, hm]

/-- The kernel's result is the reference's. -/
theorem result_eq (P : Parts J x wq k v wo) (hf : ∀ b h i j, ∃ s : ℝ, score x wq k b h i j = (s : EReal)) (c : Dev nD) (b : Fin 2) (i : Fin 512)
    (n : Fin 768) : resOf (accs J) c (ix3 b i n) = out v wo (soft (expo (scores x wq k))) (ix3 b i n) := by
  rw [resOf_at, out_at, ← Fintype.sum_prod_type']
  refine Fintype.sum_equiv (finProdFinEquiv (m := 8) (n := 512)) _ _ fun p => ?_
  obtain ⟨e, r⟩ := p
  have he : e.val < 8 := e.isLt
  have h0 : finProdFinEquiv (m := 8) (n := 512) (e, r) = cof e r := Fin.ext (by show r.val + 512 * e.val = 512 * e.val + r.val; omega)
  rw [h0, attn_part P hf, P.hwo]
  have h1 : (⟨(cof e r).val / 64, by omega⟩ : Fin 64) = hof e r := Fin.ext (by show (512 * e.val + r.val) / 64 = 8 * e.val + r.val / 64; omega)
  have h2 : (⟨(cof e r).val % 64, by omega⟩ : Fin 64) = dof r := Fin.ext (by show (512 * e.val + r.val) % 64 = r.val % 64; omega)
  rw [h1, h2]

end Cert.Proof

end
-- ==== Proof.Inputs.lean ====
/- A device's keys and values, read off the arguments: the host code's slices, entry by entry. -/
module

public import proofs.«01_k».proof.Proof.Region
public import Idealize.ShloMosaic.Lib.Pointwise
public import Idealize.ShloMosaic.Lib.StableHlo
public import Idealize.ShloMosaic.Lib.StableHlo.RunClose
public import Idealize.ShloMosaic.Lib.DynamicIndex

@[expose] public section

noncomputable section

namespace Cert.KernelIdeal.Run

open Idealize.ShloMosaic Idealize.ShloMosaic.TcCoe
open Cert.KernelIdeal Cert.KernelIdeal.Gen

variable {F : FTy → Type} [FloatOps F] (m : (ℓ : Loc nD τ sig) → Buf (Elt F) ℓ)

theorem cols_slices (c : Dev nD) : S2x512x4096.Slices ![0, 0, 512 * c.val] S2x512x512 :=
  ⟨rfl, by
    have : c.val < 8 := c.isLt
    intro i; fin_cases i
    · show 0 + 2 ≤ 2; omega
    · show 0 + 512 ≤ 512; omega
    · show 512 * c.val + 512 ≤ 4096; omega⟩

/-- A device's columns of an array of all heads. -/
def cols (c : Dev nD) (u : Vec F S2x512x64x64 .f32) : Vec F S2x512x512 .f32 :=
  extractStridedSlice S2x512x512 ![0, 0, 512 * c.val] (shapeCast S2x512x4096 u shapeCasts_S2x512x64x64_S2x512x4096 : Vec F S2x512x4096 .f32) (cols_slices c)

/-- Where a device's columns start, as the host code computes it: -/
def colStart (c : Dev nD) : Fin 3 → IVec S_ 32 :=
  ![constantI S_ 32 0#32, constantI S_ 32 0#32,
    select
      (cmpi .slt (muli (id (Host.remui (Host.divui (constantI S_ 32 c.word) (constantI S_ 32 1#32)) (constantI S_ 32 8#32))) (constantI S_ 32 512#32))
        (constantI S_ 32 0#32))
      (addi (muli (id (Host.remui (Host.divui (constantI S_ 32 c.word) (constantI S_ 32 1#32)) (constantI S_ 32 8#32))) (constantI S_ 32 512#32))
        (constantI S_ 32 4096#32))
      (muli (id (Host.remui (Host.divui (constantI S_ 32 c.word) (constantI S_ 32 1#32)) (constantI S_ 32 8#32))) (constantI S_ 32 512#32))]

/-- column 512 times its number. -/
theorem colStart_val (c : Dev nD) (k : Fin 3) : (colStart c k (Shape.Idx.first h_S_)).toInt = (((![0, 0, 512 * c.val] : Fin 3 → ℕ) k : ℕ) : ℤ) := by
  fin_cases k
  · rfl
  · rfl
  · revert c; decide +kernel

/-- A slice at a start that is in bounds is that slice. -/
theorem slice_at (w : Vec F S2x512x4096 .f32) (st : Fin 3 → ℤ) (off : Fin 3 → ℕ) (h : S2x512x4096.Slices off S2x512x512) (e : ∀ k, st k = (off k : ℤ)) :
    Host.dynamicSlice S2x512x512 w st sliceFits_S2x512x4096_S2x512x512 = extractStridedSlice S2x512x512 off w h :=
  Host.dynamicSlice_eq_extractStridedSlice S2x512x512 w st off _ h e

/-- The host's slice at that start is the device's columns. -/
theorem slice_cols (c : Dev nD) (u : Vec F S2x512x64x64 .f32) (st : Fin 3 → ℤ) (e : ∀ k, st k = (((![0, 0, 512 * c.val] : Fin 3 → ℕ) k : ℕ) : ℤ)) :
    Host.dynamicSlice S2x512x512 (shapeCast S2x512x4096 u shapeCasts_S2x512x64x64_S2x512x4096 : Vec F S2x512x4096 .f32) st
      sliceFits_S2x512x4096_S2x512x512 = cols c u :=
  slice_at _ st _ (cols_slices c) e

set_option maxRecDepth 8192 in
/-- The keys a device is given: its columns of the keys, transposed. -/
theorem V1_keys (c : Dev nD) : V1 m c main_v12
    = transpose S2x512x512 [0, 2, 1] (cols c (m ((c : Thread nD τ).loc main_arg2))) transposes_S2x512x512_S2x512x512_0_2_1 := by
  simp only [V1, hostOps0]
  after_results_simp_entrywise
  exact congrArg (fun z : Vec F S2x512x512 .f32 => transpose S2x512x512 [0, 2, 1] z transposes_S2x512x512_S2x512x512_0_2_1)
    (slice_cols c (m ((c : Thread nD τ).loc main_arg2)) _ (colStart_val c))

set_option maxRecDepth 8192 in
/-- The values a device is given: its columns of the values. -/
theorem V1_values (c : Dev nD) : V1 m c main_v17 = cols c (m ((c : Thread nD τ).loc main_arg3)) := by
  simp only [V1, hostOps0]
  after_results_simp_entrywise
  exact slice_cols c (m ((c : Thread nD τ).loc main_arg3)) _ (colStart_val c)

/-- An entry of a device's columns: head and place within the head. -/
theorem cols_at (c : Dev nD) (u : Vec F S2x512x64x64 .f32) (b : Fin 2) (j r : Fin 512) :
    cols c u (ix3 b j r) = u (ix4 b j (⟨8 * c.val + r.val / 64, by have : c.val < 8 := c.isLt; omega⟩ : Fin 64) (⟨r.val % 64, by omega⟩ : Fin 64)) := by
  have : c.val < 8 := c.isLt
  have he : cols c u (ix3 b j r) = shapeCast S2x512x4096 u shapeCasts_S2x512x64x64_S2x512x4096
      (ix3 b j (⟨512 * c.val + r.val, by omega⟩ : Fin 4096)) := by
    refine congrArg (shapeCast S2x512x4096 u shapeCasts_S2x512x64x64_S2x512x4096) (funext fun a => Fin.ext ?_)
    fin_cases a
    · show 0 + b.val = b.val; omega
    · show 0 + j.val = j.val; omega
    · rfl
  rw [he]
  simp only [pointwise]
  have h1 : (⟨(512 * c.val + r.val) / 64, by omega⟩ : Fin 64) = ⟨8 * c.val + r.val / 64, by omega⟩ := Fin.ext (by show (512 * c.val + r.val) / 64 = 8 * c.val + r.val / 64; omega)
  have h2 : (⟨(512 * c.val + r.val) % 64, by omega⟩ : Fin 64) = ⟨r.val % 64, by omega⟩ := Fin.ext (by show (512 * c.val + r.val) % 64 = r.val % 64; omega)
  exact congrArg u (congr (congrArg (ix4 b j) h1) h2)

/-- An entry of the transposed columns. -/
theorem transpose_at (w : Vec F S2x512x512 .f32) (b : Fin 2) (r j : Fin 512) :
    transpose S2x512x512 [0, 2, 1] w transposes_S2x512x512_S2x512x512_0_2_1 (ix3 b r j) = w (ix3 b j r) := by
  simp only [pointwise]

/-- An entry of the keys a device is given. -/
theorem V1_keys_at (c : Dev nD) (b : Fin 2) (r j : Fin 512) :
    (V1 m c main_v12 : Vec F S2x512x512 .f32) (ix3 b r j) = (m ((c : Thread nD τ).loc main_arg2) : Vec F S2x512x64x64 .f32)
      (ix4 b j (⟨8 * c.val + r.val / 64, by have : c.val < 8 := c.isLt; omega⟩ : Fin 64) (⟨r.val % 64, by omega⟩ : Fin 64)) := by
  refine (congrFun (V1_keys m c) _).trans (Eq.trans ?_ (cols_at c (m ((c : Thread nD τ).loc main_arg2)) b j r))
  generalize cols c (m ((c : Thread nD τ).loc main_arg2)) = w
  exact transpose_at w b r j

/-- An entry of the values a device is given. -/
theorem V1_values_at (c : Dev nD) (b : Fin 2) (j r : Fin 512) :
    (V1 m c main_v17 : Vec F S2x512x512 .f32) (ix3 b j r) = (m ((c : Thread nD τ).loc main_arg3) : Vec F S2x512x64x64 .f32)
      (ix4 b j (⟨8 * c.val + r.val / 64, by have : c.val < 8 := c.isLt; omega⟩ : Fin 64) (⟨r.val % 64, by omega⟩ : Fin 64)) := by
  exact (congrFun (V1_values m c) _).trans (cols_at c (m ((c : Thread nD τ).loc main_arg3)) b j r)

/-- The keys' field of what the call is given, -/
theorem ins_keys (c : Dev nD) : (ins m c).kk = (V1 m c main_v12 : Vec F S2x512x512 .f32) := by
  unfold ins
  dsimp only

end Cert.KernelIdeal.Run

end
-- ==== Proof.Algebraic.lean ====
/- The value claim: from finite queries and keys, every device's result is the reference's. -/
module

public import proofs.«01_k».proof.Defs
public import proofs.«01_k».proof.Proof.Equal
public import proofs.«01_k».proof.Proof.Inputs
public import proofs.«01_k».proof.Proof.Launch
public import proofs.«01_k».proof.Proof.Gen.ReferenceIdeal.Run
public import Idealize.ShloMosaic.Lib.LayoutAt

@[expose] public section

noncomputable section

namespace Cert.Proof

open Idealize.ShloMosaic Idealize.ShloMosaic.TcCoe Idealize.SL.Sem
open Cert.KernelIdeal Cert.KernelIdeal.Gen Cert.KernelIdeal.Run Cert.Attn Cert.Proof.Ref

/-- The side conditions of the precondition, read of a device's blocks, -/
theorem facts_finite_kernel : Cert.Pre_finite_KernelIdeal.Facts := ⟨by decide, by decide, by decide⟩
/-- and of the whole arrays. -/
theorem facts_finite_reference : Cert.Pre_finite_ReferenceIdeal.Facts := ⟨by decide, by decide, by decide⟩

attribute [local instance] facts_finite_kernel

/-- A number whose absolute value is below plus infinity is a real. -/
theorem real_of_abs_lt {z : EReal} (h : Ideal.cmp .olt (max z (-z)) (Ideal.ofBits .f32 0x7F800000#32) = 1#1) : ∃ r : ℝ, z = (r : EReal) := by
  rw [show Ideal.ofBits .f32 0x7F800000#32 = (⊤ : EReal) by simp [Ideal.ofBits, Ideal.ieee]] at h
  induction z using EReal.rec with
  | bot => simp [Ideal.cmp] at h
  | coe r => exact ⟨r, rfl⟩
  | top => simp [Ideal.cmp] at h

/-- An array that passes the comparison with plus infinity holds reals. -/
theorem reals_of_finite {S S' : Shape} {d : Fin S'.rank → Fin S.rank} (hb : S'.BroadcastsInDim S d) {v : FVec Ideal S .f32}
    (h : cmpf .olt (Host.absf v) (broadcastInDim S d hb (constant (F := Ideal) S' .f32 0x7F800000#32)) = fun _ => 1#1) (i : S.Idx) :
    ∃ r : ℝ, v i = (r : EReal) :=
  real_of_abs_lt (congrFun h i)

/-- The scale of the scores is a real. -/
theorem scale_real : ∃ r : ℝ, Ideal.ofBits .f32 0x3E000000#32 = (r : EReal) := by
  simp [Ideal.ofBits, Ideal.ieee]
  exact ⟨_, rfl⟩

/-- Of real inputs, queries' and keys', the scores are reals. -/
theorem score_real {x : Vec Ideal S2x512x768 .f32} {wq : Vec Ideal Cert.ReferenceIdeal.S768x4096 .f32} {k : Vec Ideal S2x512x64x64 .f32}
    (hx : ∀ b i e, ∃ r : ℝ, x (ix3 b i e) = (r : EReal)) (hw : ∀ e n, ∃ r : ℝ, wq (ix2 e n) = (r : EReal))
    (hk : ∀ b j h d, ∃ r : ℝ, k (ix4 b j h d) = (r : EReal)) (b : Fin 2) (h : Fin 64) (i j : Fin 512) :
    ∃ s : ℝ, score x wq k b h i j = (s : EReal) := by
  choose X hX using hx
  choose W hW using hw
  choose K hK using hk
  obtain ⟨q, hq⟩ := scale_real
  refine ⟨(∑ d : Fin 64, (∑ e : Fin 768, X b i e * W e ⟨h.val * 64 + d.val, by omega⟩) * K b j h d) * q, ?_⟩
  simp only [score, hX, hW, hK, hq]
  simp only [← EReal.coe_mul, sum_coe]

/-- A column of the whole query matrix lies in one device's block. -/
theorem wq_block (v : Vec Ideal Cert.ReferenceIdeal.S768x4096 .f32) (h : Layout.Tiles ⟨2, ![768, 512]⟩ ⟨2, ![768, 4096]⟩ 1 8) (e : Dev nD)
    (a : Fin 768) (r : Fin 512) : Layout.block ⟨2, ![768, 512]⟩ ⟨2, ![768, 4096]⟩ 1 8 e v h (ix2 a r) = v (ix2 a (cof e r)) := by
  refine congrArg v (Layout.idx_ext fun b => ?_)
  match b with
  | ⟨0, _⟩ => exact Layout.Tiles.idx_val_of_ne h e _ _ Nat.zero_ne_one
  | ⟨1, _⟩ =>
    refine (Layout.Tiles.idx_val_self h e _ _ rfl).trans ?_
    show e.val * 512 + r.val = 512 * e.val + r.val
    omega

/-- A row of the whole output matrix lies in one device's block. -/
theorem wo_block (v : Vec Ideal Cert.ReferenceIdeal.S4096x768 .f32) (h : Layout.Tiles ⟨2, ![512, 768]⟩ ⟨2, ![4096, 768]⟩ 0 8) (e : Dev nD)
    (r : Fin 512) (n : Fin 768) : Layout.block ⟨2, ![512, 768]⟩ ⟨2, ![4096, 768]⟩ 0 8 e v h (ix2 r n) = v (ix2 (cof e r) n) := by
  refine congrArg v (Layout.idx_ext fun b => ?_)
  match b with
  | ⟨0, _⟩ =>
    refine (Layout.Tiles.idx_val_self h e _ _ rfl).trans ?_
    show e.val * 512 + r.val = 512 * e.val + r.val
    omega
  | ⟨1, _⟩ => exact Layout.Tiles.idx_val_of_ne h e _ _ Nat.one_ne_zero

section

variable (m : (ℓ : Loc nD τ sig) → Buf (Elt Ideal) ℓ)
  {x : Vec Ideal S2x512x768 .f32} {wq : Vec Ideal Cert.ReferenceIdeal.S768x4096 .f32} {k v : Vec Ideal S2x512x64x64 .f32}
  {wo : Vec Ideal Cert.ReferenceIdeal.S4096x768 .f32}

/-- What the call is given are the devices' parts of the whole arrays. -/
theorem parts
    (h0 : ∀ c : Dev nD, m ((c : Thread nD τ).loc main_arg0) = x)
    (h1 : ∀ c : Dev nD, m ((c : Thread nD τ).loc main_arg1) = Layout.block ⟨2, ![768, 512]⟩ ⟨2, ![768, 4096]⟩ 1 8 c wq)
    (h2 : ∀ c : Dev nD, m ((c : Thread nD τ).loc main_arg2) = k)
    (h3 : ∀ c : Dev nD, m ((c : Thread nD τ).loc main_arg3) = v)
    (h4 : ∀ c : Dev nD, m ((c : Thread nD τ).loc main_arg4) = Layout.block ⟨2, ![512, 768]⟩ ⟨2, ![4096, 768]⟩ 0 8 c wo) :
    Parts (ins m) x wq k v wo := by
  refine ⟨?_, ?_, ?_, ?_, ?_⟩
  · intro e
    exact (V1_of m e main_arg0 (by decide)).trans (h0 e)
  · intro e a r
    exact (congrFun ((V1_of m e main_arg1 (by decide)).trans (h1 e)) (ix2 a r)).trans (wq_block wq _ e a r)
  · intro e b r j
    have hk : (ins m e).kk (ix3 b r j) = (m ((e : Thread nD τ).loc main_arg2) : Vec Ideal S2x512x64x64 .f32) (ix4 b j (hof e r) (dof r)) := by
      rw [ins_keys]
      exact V1_keys_at m e b r j
    rw [hk]
    exact congrArg (fun w : Vec Ideal S2x512x64x64 .f32 => w (ix4 b j (hof e r) (dof r))) (h2 e)
  · intro e b j r
    exact (V1_values_at m e b j r).trans (congrArg (fun w : Vec Ideal S2x512x64x64 .f32 => w (ix4 b j (hof e r) (dof r))) (h3 e))
  · intro e r n
    exact (congrFun ((V1_of m e main_arg4 (by decide)).trans (h4 e)) (ix2 r n)).trans (wo_block wo _ e r n)

/-- The precondition makes the whole queries' and keys' scores reals. -/
theorem scores_real (hp : Cert.Pre_KernelIdeal_finite_KernelIdeal m)
    (h0 : ∀ c : Dev nD, m ((c : Thread nD τ).loc main_arg0) = x)
    (h1 : ∀ c : Dev nD, m ((c : Thread nD τ).loc main_arg1) = Layout.block ⟨2, ![768, 512]⟩ ⟨2, ![768, 4096]⟩ 1 8 c wq)
    (h2 : ∀ c : Dev nD, m ((c : Thread nD τ).loc main_arg2) = k) (b : Fin 2) (h : Fin 64) (i j : Fin 512) :
    ∃ s : ℝ, score x wq k b h i j = (s : EReal) := by
  refine score_real (fun b i e => ?_) (fun e n => ?_) (fun b j h d => ?_) b h i j
  · rw [← h0 0]
    exact reals_of_finite facts_finite_kernel.bcast_S_S2x512x768 (hp 0).1 _
  · have hc : n.val / 512 < 8 := by omega
    have hn : n = cof (⟨n.val / 512, hc⟩ : Dev nD) (⟨n.val % 512, by omega⟩ : Fin 512) :=
      Fin.ext (by show n.val = 512 * (n.val / 512) + n.val % 512; omega)
    rw [hn, ← wq_block wq (by decide), ← h1]
    exact reals_of_finite facts_finite_kernel.bcast_S_S768x512 (hp _).2.1 _
  · rw [← h2 0]
    exact reals_of_finite facts_finite_kernel.bcast_S_S2x512x64x64 (hp 0).2.2 _

end

/-- From memories that agree on the arguments, with finite queries and keys, both programs run to their ends, every
    device's result is the reference's, and the arguments are unchanged. -/
theorem algebraic_kernel : Cert.algebraic_KernelIdeal_ReferenceIdeal_pre_finite_KernelIdeal := by
  intro m g m' g' hp ha
  have hres : ∀ c : Dev nD, res m c = Cert.ReferenceIdeal.Value.res_main_v42 m' 0 := by
    intro c
    rw [res_eq]
    funext i
    rw [eq_ix3 i]
    exact result_eq (parts m (fun c => (ha c).1) (fun c => (ha c).2.1) (fun c => (ha c).2.2.1) (fun c => (ha c).2.2.2.1) (fun c => (ha c).2.2.2.2))
      (scores_real m hp (fun c => (ha c).1) (fun c => (ha c).2.1) (fun c => (ha c).2.2.1)) c _ _ _
  exact ⟨Cert.ReferenceIdeal.Value.res_main_v42 m' 0,
    (θ_run Cert.KernelIdeal.defs _ _).mono (fun r h c => ⟨((h.1 c).1).trans (hres c), (h.1 c).2⟩) (run_main m g),
    (θ_run Cert.ReferenceIdeal.defs _ _).mono (fun r h => h 0) (Cert.ReferenceIdeal.Value.run (F := Ideal) m' g')⟩

end Cert.Proof

end
-- ==== Proof.lean ====
/- The claim, assembled: the frames of the kernel (`frame_kernel`, `frame_kernelIdeal`: Frames.lean), the frame of the
   reference (`frame_referenceIdeal`: Ref.lean), the idealization, which rewrote nothing, and the value claim
   (`algebraic_kernel`: Algebraic.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Ref
public import proofs.«01_k».proof.Proof.Algebraic
public import Idealize.ShloMosaic.Adequacy
public import Idealize.ShloMosaic.Init

@[expose] public section

noncomputable section

namespace Cert.Proof

open Idealize.ShloMosaic Idealize.SL.Sem

/-- The frames of the kernel and of the reference (under the precondition too, which they do not need), the
    idealization, and the equality of the results. -/
theorem claim : Cert.Claim := ⟨Cert.Kernel.Gen.facts, Cert.KernelIdeal.Gen.facts, Cert.ReferenceIdeal.Gen.facts,
  facts_finite_kernel, facts_finite_reference,
  frame_kernel, frame_kernelIdeal, fun m g _ => frame_kernelIdeal m g trivial,
  frame_referenceIdeal, fun m g _ => frame_referenceIdeal m g trivial, trivial, algebraic_kernel⟩

end Cert.Proof

end
